-- ==== Defs.lean ====
def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_finite_pool_inputs [hPre_finite_pool_inputs : Cert.Pre_finite_pool_inputs.Facts] (m : (ℓ : Loc Cert.ProjIdeal.nD Cert.ProjIdeal.τ Cert.ProjIdeal.sig) → Buf (Elt Ideal) ℓ) : Prop :=
  ∀ c : Dev Cert.ProjIdeal.nD,
    (Cert.Pre_finite_pool_inputs.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5))) = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_finite_pool_inputs [hPre_finite_pool_inputs : Cert.Pre_finite_pool_inputs.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_finite_pool_inputs.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5))) = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Attn (m : (ℓ : Loc Cert.Attn.nD Cert.Attn.τ Cert.Attn.sig) → Buf (Elt Bits) ℓ) : Prop :=
  True

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjIdeal_pre_finite_pool_inputs [hProjIdeal : Cert.ProjIdeal.Facts] [hPre_finite_pool_inputs : Cert.Pre_finite_pool_inputs.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_finite_pool_inputs m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def quiescent_ProjRefIdeal_pre_finite_pool_inputs [hProjRefIdeal : Cert.ProjRefIdeal.Facts] [hPre_finite_pool_inputs : Cert.Pre_finite_pool_inputs.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_finite_pool_inputs m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def preserves_Proj_ProjIdeal : Prop :=
  True

def algebraic_ProjIdeal_ProjRefIdeal_pre_finite_pool_inputs [hProjIdeal : Cert.ProjIdeal.Facts] [hProjRefIdeal : Cert.ProjRefIdeal.Facts] [hPre_finite_pool_inputs : Cert.Pre_finite_pool_inputs.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_finite_pool_inputs m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v41_0)) (v1 : (c : Dev Cert.ProjIdeal.nD) → Buf (Elt Ideal) ((c.tc : Thread Cert.ProjIdeal.nD Cert.ProjIdeal.τ).loc Cert.ProjIdeal.main_v41_1)) (v2 : (c : Dev Cert.ProjIdeal.nD) → Buf (Elt Ideal) ((c.tc : Thread Cert.ProjIdeal.nD Cert.ProjIdeal.τ).loc Cert.ProjIdeal.main_v41_2)) (v3 : (c : Dev Cert.ProjIdeal.nD) → Buf (Elt Ideal) ((c.tc : Thread Cert.ProjIdeal.nD Cert.ProjIdeal.τ).loc Cert.ProjIdeal.main_v41_3)) (v4 : (c : Dev Cert.ProjIdeal.nD) → Buf (Elt Ideal) ((c.tc : Thread Cert.ProjIdeal.nD Cert.ProjIdeal.τ).loc Cert.ProjIdeal.main_v41_4)) (v5 : (c : Dev Cert.ProjIdeal.nD) → Buf (Elt Ideal) ((c.tc : Thread Cert.ProjIdeal.nD Cert.ProjIdeal.τ).loc Cert.ProjIdeal.main_v41_5)) (v6 : (c : Dev Cert.ProjIdeal.nD) → Buf (Elt Ideal) ((c.tc : Thread Cert.ProjIdeal.nD Cert.ProjIdeal.τ).loc Cert.ProjIdeal.main_v41_6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v41_0) = v0 c
          ∧ r.2.mem ((c.tc : Thread Cert.ProjIdeal.nD Cert.ProjIdeal.τ).loc Cert.ProjIdeal.main_v41_1) = v1 c
          ∧ r.2.mem ((c.tc : Thread Cert.ProjIdeal.nD Cert.ProjIdeal.τ).loc Cert.ProjIdeal.main_v41_2) = v2 c
          ∧ r.2.mem ((c.tc : Thread Cert.ProjIdeal.nD Cert.ProjIdeal.τ).loc Cert.ProjIdeal.main_v41_3) = v3 c
          ∧ r.2.mem ((c.tc : Thread Cert.ProjIdeal.nD Cert.ProjIdeal.τ).loc Cert.ProjIdeal.main_v41_4) = v4 c
          ∧ r.2.mem ((c.tc : Thread Cert.ProjIdeal.nD Cert.ProjIdeal.τ).loc Cert.ProjIdeal.main_v41_5) = v5 c
          ∧ r.2.mem ((c.tc : Thread Cert.ProjIdeal.nD Cert.ProjIdeal.τ).loc Cert.ProjIdeal.main_v41_6) = v6 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v228) = v0 c
          ∧ r.2.mem ((c.tc : Thread Cert.ProjRefIdeal.nD Cert.ProjRefIdeal.τ).loc Cert.ProjRefIdeal.main_v233) = v1 c
          ∧ r.2.mem ((c.tc : Thread Cert.ProjRefIdeal.nD Cert.ProjRefIdeal.τ).loc Cert.ProjRefIdeal.main_v236) = v2 c
          ∧ r.2.mem ((c.tc : Thread Cert.ProjRefIdeal.nD Cert.ProjRefIdeal.τ).loc Cert.ProjRefIdeal.main_v239) = v3 c
          ∧ r.2.mem ((c.tc : Thread Cert.ProjRefIdeal.nD Cert.ProjRefIdeal.τ).loc Cert.ProjRefIdeal.main_v244) = v4 c
          ∧ r.2.mem ((c.tc : Thread Cert.ProjRefIdeal.nD Cert.ProjRefIdeal.τ).loc Cert.ProjRefIdeal.main_v246) = v5 c
          ∧ r.2.mem ((c.tc : Thread Cert.ProjRefIdeal.nD Cert.ProjRefIdeal.τ).loc Cert.ProjRefIdeal.main_v249) = v6 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)) →
    ∃ (v0 : (c : Dev Cert.PostIdeal.nD) → Buf (Elt Ideal) ((c.tc : Thread Cert.PostIdeal.nD Cert.PostIdeal.τ).loc Cert.PostIdeal.main_v9)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v9) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v51) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8))

def Claim : Prop :=
  ∃ (hProj : Cert.Proj.Facts) (hProjIdeal : Cert.ProjIdeal.Facts) (hProjRefIdeal : Cert.ProjRefIdeal.Facts) (hPost : Cert.Post.Facts) (hPostIdeal : Cert.PostIdeal.Facts) (hPostRefIdeal : Cert.PostRefIdeal.Facts) (hAttn : Cert.Attn.Facts) (hPre_finite_pool_inputs : Cert.Pre_finite_pool_inputs.Facts),
    quiescent_Proj (hProj := hProj)
    ∧ quiescent_ProjIdeal (hProjIdeal := hProjIdeal)
    ∧ quiescent_ProjIdeal_pre_finite_pool_inputs (hProjIdeal := hProjIdeal) (hPre_finite_pool_inputs := hPre_finite_pool_inputs)
    ∧ quiescent_ProjRefIdeal (hProjRefIdeal := hProjRefIdeal)
    ∧ quiescent_ProjRefIdeal_pre_finite_pool_inputs (hProjRefIdeal := hProjRefIdeal) (hPre_finite_pool_inputs := hPre_finite_pool_inputs)
    ∧ quiescent_Post (hPost := hPost)
    ∧ quiescent_PostIdeal (hPostIdeal := hPostIdeal)
    ∧ quiescent_PostRefIdeal (hPostRefIdeal := hPostRefIdeal)
    ∧ quiescent_Attn (hAttn := hAttn)
    ∧ preserves_Proj_ProjIdeal
    ∧ algebraic_ProjIdeal_ProjRefIdeal_pre_finite_pool_inputs (hProjIdeal := hProjIdeal) (hProjRefIdeal := hProjRefIdeal) (hPre_finite_pool_inputs := hPre_finite_pool_inputs)
    ∧ preserves_Post_PostIdeal
    ∧ algebraic_PostIdeal_PostRefIdeal (hPostIdeal := hPostIdeal) (hPostRefIdeal := hPostRefIdeal)
-- ==== Pre_finite_pool_inputs.lean ====
abbrev S8x4096x1024 : Shape := ⟨3, ![8, 4096, 1024]⟩
abbrev S8x4096 : Shape := ⟨2, ![8, 4096]⟩
abbrev S1024 : Shape := ⟨1, ![1024]⟩
abbrev S1024x2632 : Shape := ⟨2, ![1024, 2632]⟩
abbrev S4x128x128 : Shape := ⟨3, ![4, 128, 128]⟩
abbrev S512 : Shape := ⟨1, ![512]⟩
abbrev S_ : Shape := ⟨0, ![]⟩
abbrev S1024x512 : Shape := ⟨2, ![1024, 512]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  slices_S1024x2632_S1024x512_0_0 : S1024x2632.Slices ![0, 0] S1024x512
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S8x4096x1024 .f32) (main_arg1 : IVec S8x4096 32) (main_arg2 : FVec F S1024 .f32) (main_arg3 : FVec F S1024x2632 .f32) (main_arg4 : FVec F S4x128x128 .f32) (main_arg5 : FVec F S512 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x512 .f32 := (extractStridedSlice S1024x512 ![0, 0] · slices_S1024x2632_S1024x512_0_0) main_arg3
  let main_v9 : FVec F S1024x512 .f32 := Host.absf main_v8
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v7 main_v12
  let main_v14 : IVec S_ 1 := andi main_v3 main_v13
  main_v14
-- ==== Proj.lean ====
abbrev S8x4096x1024 : Shape := ⟨3, ![8, 4096, 1024]⟩
abbrev S8x4096 : Shape := ⟨2, ![8, 4096]⟩
abbrev S1024 : Shape := ⟨1, ![1024]⟩
abbrev S1024x2632 : Shape := ⟨2, ![1024, 2632]⟩
abbrev S4x128x128 : Shape := ⟨3, ![4, 128, 128]⟩
abbrev S512 : Shape := ⟨1, ![512]⟩
abbrev S8 : Shape := ⟨1, ![8]⟩
abbrev S_ : Shape := ⟨0, ![]⟩
abbrev S32768x1 : Shape := ⟨2, ![32768, 1]⟩
abbrev S1x8 : Shape := ⟨2, ![1, 8]⟩
abbrev S32768x8 : Shape := ⟨2, ![32768, 8]⟩
abbrev S32768x48 : Shape := ⟨2, ![32768, 48]⟩
abbrev S32768x64 : Shape := ⟨2, ![32768, 64]⟩
abbrev S1x32768x1x64 : Shape := ⟨4, ![1, 32768, 1, 64]⟩
abbrev S1x32768x2x64 : Shape := ⟨4, ![1, 32768, 2, 64]⟩
abbrev S32768x128 : Shape := ⟨2, ![32768, 128]⟩
abbrev S32768x1024 : Shape := ⟨2, ![32768, 1024]⟩
abbrev S1024x64 : Shape := ⟨2, ![1024, 64]⟩
abbrev S1024x1536 : Shape := ⟨2, ![1024, 1536]⟩
abbrev S1024x512 : Shape := ⟨2, ![1024, 512]⟩
abbrev S1024x2176 : Shape := ⟨2, ![1024, 2176]⟩
abbrev S512x1024 : Shape := ⟨2, ![512, 1024]⟩
abbrev S1024x8 : Shape := ⟨2, ![1024, 8]⟩
abbrev S8x1024 : Shape := ⟨2, ![8, 1024]⟩
abbrev S16x1024 : Shape := ⟨2, ![16, 1024]⟩
abbrev S1x1024 : Shape := ⟨2, ![1, 1024]⟩
abbrev S1x512 : Shape := ⟨2, ![1, 512]⟩
abbrev S32768x512 : Shape := ⟨2, ![32768, 512]⟩
abbrev S4x32768x128 : Shape := ⟨3, ![4, 32768, 128]⟩
abbrev S64x512x512 : Shape := ⟨3, ![64, 512, 512]⟩
abbrev S16x32768 : Shape := ⟨2, ![16, 32768]⟩
abbrev S512x128 : Shape := ⟨2, ![512, 128]⟩
abbrev S512x512 : Shape := ⟨2, ![512, 512]⟩
abbrev S4x512x128 : Shape := ⟨3, ![4, 512, 128]⟩
abbrev S1x512x512 : Shape := ⟨3, ![1, 512, 512]⟩
abbrev S16x512 : Shape := ⟨2, ![16, 512]⟩
abbrev S528x512 : Shape := ⟨2, ![528, 512]⟩
abbrev S512x1 : Shape := ⟨2, ![512, 1]⟩
abbrev S1x512x128 : Shape := ⟨3, ![1, 512, 128]⟩
abbrev S528x128 : Shape := ⟨2, ![528, 128]⟩
abbrev S1x128x128 : Shape := ⟨3, ![1, 128, 128]⟩
abbrev S128x128 : Shape := ⟨2, ![128, 128]⟩
abbrev S1x128 : Shape := ⟨2, ![1, 128]⟩
abbrev S1024x128 : Shape := ⟨2, ![1024, 128]⟩

abbrev nBuf : Space → Nat
  | .hbm => 60
  | .vmem => 27
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S1024, .f32⟩
  | .hbm, ⟨3, _⟩ => ⟨S1024x2632, .f32⟩
  | .hbm, ⟨4, _⟩ => ⟨S4x128x128, .f32⟩
  | .hbm, ⟨5, _⟩ => ⟨S512, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S8x4096, .f32⟩
  | .hbm, ⟨15, _⟩ => ⟨S32768x1, .f32⟩
  | .hbm, ⟨16, _⟩ => ⟨S1x8, .f32⟩
  | .hbm, ⟨17, _⟩ => ⟨S32768x8, .f32⟩
  | .hbm, ⟨18, _⟩ => ⟨S32768x8, .f32⟩
  | .hbm, ⟨19, _⟩ => ⟨S32768x8, .f32⟩
  | .hbm, ⟨20, _⟩ => ⟨S32768x8, .f32⟩
  | .hbm, ⟨21, _⟩ => ⟨S32768x8, .f32⟩
  | .hbm, ⟨22, _⟩ => ⟨S_, .f32⟩
  | .hbm, ⟨23, _⟩ => ⟨S32768x48, .f32⟩
  | .hbm, ⟨24, _⟩ => ⟨S32768x64, .f32⟩
  | .hbm, ⟨25, _⟩ => ⟨S32768x8, .f32⟩
  | .hbm, ⟨26, _⟩ => ⟨S_, .f32⟩
  | .hbm, ⟨27, _⟩ => ⟨S32768x48, .f32⟩
  | .hbm, ⟨28, _⟩ => ⟨S32768x64, .f32⟩
  | .hbm, ⟨29, _⟩ => ⟨S1x32768x1x64, .f32⟩
  | .hbm, ⟨30, _⟩ => ⟨S1x32768x2x64, .f32⟩
  | .hbm, ⟨31, _⟩ => ⟨S32768x128, .f32⟩
  | .hbm, ⟨32, _⟩ => ⟨S1x32768x1x64, .f32⟩
  | .hbm, ⟨33, _⟩ => ⟨S1x32768x2x64, .f32⟩
  | .hbm, ⟨34, _⟩ => ⟨S32768x128, .f32⟩
  | .hbm, ⟨35, _⟩ => ⟨S32768x1024, .f32⟩
  | .hbm, ⟨36, _⟩ => ⟨S1024x64, .f32⟩
  | .hbm, ⟨37, _⟩ => ⟨S1024x1536, .f32⟩
  | .hbm, ⟨38, _⟩ => ⟨S1024x512, .f32⟩
  | .hbm, ⟨39, _⟩ => ⟨S1024x2176, .f32⟩
  | .hbm, ⟨40, _⟩ => ⟨S1024x2176, .bf16⟩
  | .hbm, ⟨41, _⟩ => ⟨S1024x512, .f32⟩
  | .hbm, ⟨42, _⟩ => ⟨S512x1024, .f32⟩
  | .hbm, ⟨43, _⟩ => ⟨S512x1024, .bf16⟩
  | .hbm, ⟨44, _⟩ => ⟨S1024x8, .f32⟩
  | .hbm, ⟨45, _⟩ => ⟨S8x1024, .f32⟩
  | .hbm, ⟨46, _⟩ => ⟨S_, .i32⟩
  | .hbm, ⟨47, _⟩ => ⟨S_, .f32⟩
  | .hbm, ⟨48, _⟩ => ⟨S16x1024, .f32⟩
  | .hbm, ⟨49, _⟩ => ⟨S16x1024, .bf16⟩
  | .hbm, ⟨50, _⟩ => ⟨S1x1024, .f32⟩
  | .hbm, ⟨51, _⟩ => ⟨S4x128x128, .bf16⟩
  | .hbm, ⟨52, _⟩ => ⟨S1x512, .f32⟩
  | .hbm, ⟨53, _⟩ => ⟨S32768x512, .bf16⟩
  | .hbm, ⟨54, _⟩ => ⟨S4x32768x128, .bf16⟩
  | .hbm, ⟨55, _⟩ => ⟨S4x32768x128, .bf16⟩
  | .hbm, ⟨56, _⟩ => ⟨S64x512x512, .bf16⟩
  | .hbm, ⟨57, _⟩ => ⟨S4x32768x128, .bf16⟩
  | .hbm, ⟨58, _⟩ => ⟨S32768x128, .bf16⟩
  | .hbm, ⟨59, _⟩ => ⟨S16x32768, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2176, .bf16⟩
  | .local _ .vmem, ⟨4, _⟩ => ⟨S512x1024, .bf16⟩
  | .local _ .vmem, ⟨5, _⟩ => ⟨S16x1024, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S4x128x128, .bf16⟩
  | .local _ .vmem, ⟨11, _⟩ => ⟨S1x512, .f32⟩
  | .local _ .vmem, ⟨12, _⟩ => ⟨S512x512, .bf16⟩
  | .local _ .vmem, ⟨13, _⟩ => ⟨S512x512, .bf16⟩
  | .local _ .vmem, ⟨14, _⟩ => ⟨S4x512x128, .bf16⟩
  | .local _ .vmem, ⟨15, _⟩ => ⟨S4x512x128, .bf16⟩
  | .local _ .vmem, ⟨16, _⟩ => ⟨S4x512x128, .bf16⟩
  | .local _ .vmem, ⟨17, _⟩ => ⟨S4x512x128, .bf16⟩
  | .local _ .vmem, ⟨18, _⟩ => ⟨S1x512x512, .bf16⟩
  | .local _ .vmem, ⟨19, _⟩ => ⟨S1x512x512, .bf16⟩
  | .local _ .vmem, ⟨20, _⟩ => ⟨S4x512x128, .bf16⟩
  | .local _ .vmem, ⟨21, _⟩ => ⟨S4x512x128, .bf16⟩
  | .local _ .vmem, ⟨22, _⟩ => ⟨S512x128, .bf16⟩
  | .local _ .vmem, ⟨23, _⟩ => ⟨S512x128, .bf16⟩
  | .local _ .vmem, ⟨24, _⟩ => ⟨S16x512, .f32⟩
  | .local _ .vmem, ⟨25, _⟩ => ⟨S16x512, .f32⟩
  | .local _ .vmem, ⟨26, _⟩ => ⟨S528x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c : Ref sig .tc := ⟨.hbm, 46, rfl⟩
abbrev main_call0_v0 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41_0 : Ref sig .tc := ⟨.hbm, 53, rfl⟩
abbrev main_v41_1 : Ref sig .tc := ⟨.hbm, 54, rfl⟩
abbrev main_v41_2 : Ref sig .tc := ⟨.hbm, 55, rfl⟩
abbrev main_v41_3 : Ref sig .tc := ⟨.hbm, 56, rfl⟩
abbrev main_v41_4 : Ref sig .tc := ⟨.hbm, 57, rfl⟩
abbrev main_v41_5 : Ref sig .tc := ⟨.hbm, 58, rfl⟩
abbrev main_v41_6 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ProjRefIdeal.lean ====
abbrev S8x4096x1024 : Shape := ⟨3, ![8, 4096, 1024]⟩
abbrev S8x4096 : Shape := ⟨2, ![8, 4096]⟩
abbrev S1024 : Shape := ⟨1, ![1024]⟩
abbrev S1024x2632 : Shape := ⟨2, ![1024, 2632]⟩
abbrev S4x128x128 : Shape := ⟨3, ![4, 128, 128]⟩
abbrev S512 : Shape := ⟨1, ![512]⟩
abbrev S_ : Shape := ⟨0, ![]⟩
abbrev S8x4096x1 : Shape := ⟨3, ![8, 4096, 1]⟩
abbrev S1x1x1024 : Shape := ⟨3, ![1, 1, 1024]⟩
abbrev S8x4096x2632 : Shape := ⟨3, ![8, 4096, 2632]⟩
abbrev S8x4096x512 : Shape := ⟨3, ![8, 4096, 512]⟩
abbrev S8x4096x64 : Shape := ⟨3, ![8, 4096, 64]⟩
abbrev S8x4096x8 : Shape := ⟨3, ![8, 4096, 8]⟩
abbrev S8x4096x8x64 : Shape := ⟨4, ![8, 4096, 8, 64]⟩
abbrev S8 : Shape := ⟨1, ![8]⟩
abbrev S1x1x8 : Shape := ⟨3, ![1, 1, 8]⟩
abbrev S8x4096x1x8 : Shape := ⟨4, ![8, 4096, 1, 8]⟩
abbrev S8x4096x8x8 : Shape := ⟨4, ![8, 4096, 8, 8]⟩
abbrev S8x4096x8x16 : Shape := ⟨4, ![8, 4096, 8, 16]⟩
abbrev S8x4096x8x48 : Shape := ⟨4, ![8, 4096, 8, 48]⟩
abbrev S8x4096x1x64 : Shape := ⟨4, ![8, 4096, 1, 64]⟩
abbrev S8x4096x1x16 : Shape := ⟨4, ![8, 4096, 1, 16]⟩
abbrev S8x4096x1x48 : Shape := ⟨4, ![8, 4096, 1, 48]⟩
abbrev S8x4096x4x128 : Shape := ⟨4, ![8, 4096, 4, 128]⟩
abbrev S4096 : Shape := ⟨1, ![4096]⟩
abbrev S8x4096x1x128 : Shape := ⟨4, ![8, 4096, 1, 128]⟩
abbrev S8x4096x128 : Shape := ⟨3, ![8, 4096, 128]⟩
abbrev S8x4098x128 : Shape := ⟨3, ![8, 4098, 128]⟩
abbrev S1x4096x1 : Shape := ⟨3, ![1, 4096, 1]⟩
abbrev S8x4100x128 : Shape := ⟨3, ![8, 4100, 128]⟩
abbrev S8x4104x128 : Shape := ⟨3, ![8, 4104, 128]⟩
abbrev S8x4112x128 : Shape := ⟨3, ![8, 4112, 128]⟩
abbrev S4x128x8x4096 : Shape := ⟨4, ![4, 128, 8, 4096]⟩
abbrev S1x1x512 : Shape := ⟨3, ![1, 1, 512]⟩
abbrev S32768x64 : Shape := ⟨2, ![32768, 64]⟩
abbrev S32768x512 : Shape := ⟨2, ![32768, 512]⟩
abbrev S32768x4x128 : Shape := ⟨3, ![32768, 4, 128]⟩
abbrev S4x32768x128 : Shape := ⟨3, ![4, 32768, 128]⟩
abbrev S64x512x512 : Shape := ⟨3, ![64, 512, 512]⟩
abbrev S32768x128 : Shape := ⟨2, ![32768, 128]⟩
abbrev S32768x8 : Shape := ⟨2, ![32768, 8]⟩
abbrev S8x32768 : Shape := ⟨2, ![8, 32768]⟩
abbrev S16x32768 : Shape := ⟨2, ![16, 32768]⟩

abbrev nBuf : Space → Nat
  | .hbm => 290
  | .vmem => 0
  | .smem => 0
  | _ => 0

abbrev hbmTy0_0 (i : Nat) : BufTy := match i % 128 with
  | 0 => ⟨S8x4096x1024, .f32⟩
  | 1 => ⟨S8x4096, .i32⟩
  | 2 => ⟨S1024, .f32⟩
  | 3 => ⟨S1024x2632, .f32⟩
  | 4 => ⟨S4x128x128, .f32⟩
  | 5 => ⟨S512, .f32⟩
  | 6 => ⟨S8x4096x1024, .f32⟩
  | 7 => ⟨S_, .f32⟩
  | 8 => ⟨S8x4096, .f32⟩
  | 9 => ⟨S8x4096x1, .f32⟩
  | 10 => ⟨S_, .f32⟩
  | 11 => ⟨S8x4096x1, .f32⟩
  | 12 => ⟨S8x4096x1, .f32⟩
  | 13 => ⟨S_, .f32⟩
  | 14 => ⟨S8x4096x1, .f32⟩
  | 15 => ⟨S8x4096x1, .f32⟩
  | 16 => ⟨S8x4096x1, .f32⟩
  | 17 => ⟨S8x4096x1024, .f32⟩
  | 18 => ⟨S8x4096x1024, .f32⟩
  | 19 => ⟨S1x1x1024, .f32⟩
  | 20 => ⟨S8x4096x1024, .f32⟩
  | 21 => ⟨S8x4096x1024, .f32⟩
  | 22 => ⟨S8x4096x2632, .f32⟩
  | 23 => ⟨S8x4096x512, .f32⟩
  | 24 => ⟨S8x4096x512, .f32⟩
  | 25 => ⟨S8x4096x512, .f32⟩
  | 26 => ⟨S8x4096x512, .f32⟩
  | 27 => ⟨S8x4096x512, .f32⟩
  | 28 => ⟨S8x4096x64, .f32⟩
  | 29 => ⟨S8x4096x8, .f32⟩
  | 30 => ⟨S8x4096x8x64, .f32⟩
  | 31 => ⟨S8, .f32⟩
  | 32 => ⟨S8, .f32⟩
  | 33 => ⟨S_, .f32⟩
  | 34 => ⟨S8, .f32⟩
  | 35 => ⟨S8, .f32⟩
  | 36 => ⟨S_, .f32⟩
  | 37 => ⟨S8, .f32⟩
  | 38 => ⟨S8, .f32⟩
  | 39 => ⟨S8x4096, .f32⟩
  | 40 => ⟨S8x4096x1, .f32⟩
  | 41 => ⟨S1x1x8, .f32⟩
  | 42 => ⟨S8x4096x8, .f32⟩
  | 43 => ⟨S8x4096x8, .f32⟩
  | 44 => ⟨S8x4096x8, .f32⟩
  | 45 => ⟨S8x4096x8, .f32⟩
  | 46 => ⟨S8x4096x1x8, .f32⟩
  | 47 => ⟨S8x4096x8, .f32⟩
  | 48 => ⟨S8x4096x1x8, .f32⟩
  | 49 => ⟨S8x4096x8x8, .f32⟩
  | 50 => ⟨S8x4096x8x8, .f32⟩
  | 51 => ⟨S8x4096x8x8, .f32⟩
  | 52 => ⟨S8x4096x8x8, .f32⟩
  | 53 => ⟨S8x4096x8x8, .f32⟩
  | 54 => ⟨S8x4096x8x8, .f32⟩
  | 55 => ⟨S8x4096x8x8, .f32⟩
  | 56 => ⟨S8x4096x8x8, .f32⟩
  | 57 => ⟨S8x4096x8x8, .f32⟩
  | 58 => ⟨S8x4096x8x8, .f32⟩
  | 59 => ⟨S8x4096x8x8, .f32⟩
  | 60 => ⟨S8x4096x8x8, .f32⟩
  | 61 => ⟨S8x4096x8x16, .f32⟩
  | 62 => ⟨S8x4096x8x48, .f32⟩
  | 63 => ⟨S8x4096x8x64, .f32⟩
  | 64 => ⟨S8x4096x8x64, .f32⟩
  | 65 => ⟨S8, .f32⟩
  | 66 => ⟨S8, .f32⟩
  | 67 => ⟨S_, .f32⟩
  | 68 => ⟨S8, .f32⟩
  | 69 => ⟨S8, .f32⟩
  | 70 => ⟨S_, .f32⟩
  | 71 => ⟨S8, .f32⟩
  | 72 => ⟨S8, .f32⟩
  | 73 => ⟨S8x4096, .f32⟩
  | 74 => ⟨S8x4096x1, .f32⟩
  | 75 => ⟨S1x1x8, .f32⟩
  | 76 => ⟨S8x4096x8, .f32⟩
  | 77 => ⟨S8x4096x8, .f32⟩
  | 78 => ⟨S8x4096x8, .f32⟩
  | 79 => ⟨S8x4096x8, .f32⟩
  | 80 => ⟨S8x4096x1x8, .f32⟩
  | 81 => ⟨S8x4096x8, .f32⟩
  | 82 => ⟨S8x4096x1x8, .f32⟩
  | 83 => ⟨S8x4096x8x8, .f32⟩
  | 84 => ⟨S8x4096x8x8, .f32⟩
  | 85 => ⟨S8x4096x8x8, .f32⟩
  | 86 => ⟨S8x4096x8x8, .f32⟩
  | 87 => ⟨S8x4096x8x8, .f32⟩
  | 88 => ⟨S8x4096x8x8, .f32⟩
  | 89 => ⟨S8x4096x8x8, .f32⟩
  | 90 => ⟨S8x4096x8x8, .f32⟩
  | 91 => ⟨S8x4096x8x8, .f32⟩
  | 92 => ⟨S8x4096x8x8, .f32⟩
  | 93 => ⟨S8x4096x8x8, .f32⟩
  | 94 => ⟨S8x4096x8x8, .f32⟩
  | 95 => ⟨S8x4096x8x16, .f32⟩
  | 96 => ⟨S8x4096x8x48, .f32⟩
  | 97 => ⟨S8x4096x8x64, .f32⟩
  | 98 => ⟨S8x4096x8x64, .f32⟩
  | 99 => ⟨S8, .f32⟩
  | 100 => ⟨S8, .f32⟩
  | 101 => ⟨S_, .f32⟩
  | 102 => ⟨S8, .f32⟩
  | 103 => ⟨S8, .f32⟩
  | 104 => ⟨S_, .f32⟩
  | 105 => ⟨S8, .f32⟩
  | 106 => ⟨S8, .f32⟩
  | 107 => ⟨S8x4096, .f32⟩
  | 108 => ⟨S8x4096x1, .f32⟩
  | 109 => ⟨S1x1x8, .f32⟩
  | 110 => ⟨S8x4096x8, .f32⟩
  | 111 => ⟨S8x4096x8, .f32⟩
  | 112 => ⟨S8x4096x8, .f32⟩
  | 113 => ⟨S8x4096x8, .f32⟩
  | 114 => ⟨S8x4096x1x8, .f32⟩
  | 115 => ⟨S8x4096x8, .f32⟩
  | 116 => ⟨S8x4096x1x8, .f32⟩
  | 117 => ⟨S8x4096x8x8, .f32⟩
  | 118 => ⟨S8x4096x8x8, .f32⟩
  | 119 => ⟨S8x4096x8x8, .f32⟩
  | 120 => ⟨S8x4096x8x8, .f32⟩
  | 121 => ⟨S8x4096x8x8, .f32⟩
  | 122 => ⟨S8x4096x8x8, .f32⟩
  | 123 => ⟨S8x4096x8x8, .f32⟩
  | 124 => ⟨S8x4096x8x8, .f32⟩
  | 125 => ⟨S8x4096x8x8, .f32⟩
  | 126 => ⟨S8x4096x8x8, .f32⟩
  | 127 => ⟨S8x4096x8x8, .f32⟩
  | _ => ⟨S8x4096x1024, .f32⟩

abbrev hbmTy0_1 (i : Nat) : BufTy := match i % 128 with
  | 0 => ⟨S8x4096x8x8, .f32⟩
  | 1 => ⟨S8x4096x8x16, .f32⟩
  | 2 => ⟨S8x4096x8x48, .f32⟩
  | 3 => ⟨S8x4096x8x64, .f32⟩
  | 4 => ⟨S8x4096x1x64, .f32⟩
  | 5 => ⟨S8, .f32⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S8x4096, .f32⟩
  | 14 => ⟨S8x4096x1, .f32⟩
  | 15 => ⟨S1x1x8, .f32⟩
  | 16 => ⟨S8x4096x8, .f32⟩
  | 17 => ⟨S8x4096x8, .f32⟩
  | 18 => ⟨S8x4096x8, .f32⟩
  | 19 => ⟨S8x4096x8, .f32⟩
  | 20 => ⟨S8x4096x1x8, .f32⟩
  | 21 => ⟨S8x4096x8, .f32⟩
  | 22 => ⟨S8x4096x1x8, .f32⟩
  | 23 => ⟨S8x4096x1x8, .f32⟩
  | 24 => ⟨S8x4096x1x8, .f32⟩
  | 25 => ⟨S8x4096x1x8, .f32⟩
  | 26 => ⟨S8x4096x1x8, .f32⟩
  | 27 => ⟨S8x4096x1x8, .f32⟩
  | 28 => ⟨S8x4096x1x8, .f32⟩
  | 29 => ⟨S8x4096x1x8, .f32⟩
  | 30 => ⟨S8x4096x1x8, .f32⟩
  | 31 => ⟨S8x4096x1x16, .f32⟩
  | 32 => ⟨S8x4096x1x48, .f32⟩
  | 33 => ⟨S8x4096x1x64, .f32⟩
  | 34 => ⟨S8x4096x64, .f32⟩
  | 35 => ⟨S_, .f32⟩
  | 36 => ⟨S8x4096x8, .f32⟩
  | 37 => ⟨S8x4096x8, .f32⟩
  | 38 => ⟨S8x4096x4x128, .f32⟩
  | 39 => ⟨S_, .f32⟩
  | 40 => ⟨S_, .f32⟩
  | 41 => ⟨S8x4096x4x128, .f32⟩
  | 42 => ⟨S4096, .i32⟩
  | 43 => ⟨S8x4096x1x128, .f32⟩
  | 44 => ⟨S8x4096x128, .f32⟩
  | 45 => ⟨S_, .i32⟩
  | 46 => ⟨S_, .f32⟩
  | 47 => ⟨S8x4098x128, .f32⟩
  | 48 => ⟨S8x4096x128, .f32⟩
  | 49 => ⟨S_, .i32⟩
  | 50 => ⟨S4096, .i32⟩
  | 51 => ⟨S4096, .i32⟩
  | 52 => ⟨S_, .i32⟩
  | 53 => ⟨S4096, .i32⟩
  | 54 => ⟨S4096, .i32⟩
  | 55 => ⟨S4096, .f32⟩
  | 56 => ⟨S1x4096x1, .f32⟩
  | 57 => ⟨S8x4096x128, .f32⟩
  | 58 => ⟨S8x4096x128, .f32⟩
  | 59 => ⟨S8x4096x128, .f32⟩
  | 60 => ⟨S8x4096x1x128, .f32⟩
  | 61 => ⟨S8x4096x128, .f32⟩
  | 62 => ⟨S8x4096x128, .f32⟩
  | 63 => ⟨S8x4096x1x128, .f32⟩
  | 64 => ⟨S8x4096x128, .f32⟩
  | 65 => ⟨S_, .i32⟩
  | 66 => ⟨S_, .f32⟩
  | 67 => ⟨S8x4100x128, .f32⟩
  | 68 => ⟨S8x4096x128, .f32⟩
  | 69 => ⟨S_, .i32⟩
  | 70 => ⟨S4096, .i32⟩
  | 71 => ⟨S4096, .i32⟩
  | 72 => ⟨S_, .i32⟩
  | 73 => ⟨S4096, .i32⟩
  | 74 => ⟨S4096, .i32⟩
  | 75 => ⟨S4096, .f32⟩
  | 76 => ⟨S1x4096x1, .f32⟩
  | 77 => ⟨S8x4096x128, .f32⟩
  | 78 => ⟨S8x4096x128, .f32⟩
  | 79 => ⟨S8x4096x128, .f32⟩
  | 80 => ⟨S8x4096x1x128, .f32⟩
  | 81 => ⟨S8x4096x128, .f32⟩
  | 82 => ⟨S8x4096x128, .f32⟩
  | 83 => ⟨S8x4096x1x128, .f32⟩
  | 84 => ⟨S8x4096x128, .f32⟩
  | 85 => ⟨S_, .i32⟩
  | 86 => ⟨S_, .f32⟩
  | 87 => ⟨S8x4104x128, .f32⟩
  | 88 => ⟨S8x4096x128, .f32⟩
  | 89 => ⟨S_, .i32⟩
  | 90 => ⟨S4096, .i32⟩
  | 91 => ⟨S4096, .i32⟩
  | 92 => ⟨S_, .i32⟩
  | 93 => ⟨S4096, .i32⟩
  | 94 => ⟨S4096, .i32⟩
  | 95 => ⟨S4096, .f32⟩
  | 96 => ⟨S1x4096x1, .f32⟩
  | 97 => ⟨S8x4096x128, .f32⟩
  | 98 => ⟨S8x4096x128, .f32⟩
  | 99 => ⟨S8x4096x128, .f32⟩
  | 100 => ⟨S8x4096x1x128, .f32⟩
  | 101 => ⟨S8x4096x128, .f32⟩
  | 102 => ⟨S8x4096x128, .f32⟩
  | 103 => ⟨S8x4096x1x128, .f32⟩
  | 104 => ⟨S8x4096x128, .f32⟩
  | 105 => ⟨S_, .i32⟩
  | 106 => ⟨S_, .f32⟩
  | 107 => ⟨S8x4112x128, .f32⟩
  | 108 => ⟨S8x4096x128, .f32⟩
  | 109 => ⟨S_, .i32⟩
  | 110 => ⟨S4096, .i32⟩
  | 111 => ⟨S4096, .i32⟩
  | 112 => ⟨S_, .i32⟩
  | 113 => ⟨S4096, .i32⟩
  | 114 => ⟨S4096, .i32⟩
  | 115 => ⟨S4096, .f32⟩
  | 116 => ⟨S1x4096x1, .f32⟩
  | 117 => ⟨S8x4096x128, .f32⟩
  | 118 => ⟨S8x4096x128, .f32⟩
  | 119 => ⟨S8x4096x128, .f32⟩
  | 120 => ⟨S8x4096x1x128, .f32⟩
  | 121 => ⟨S8x4096x128, .f32⟩
  | 122 => ⟨S8x4096x128, .f32⟩
  | 123 => ⟨S8x4096x1x128, .f32⟩
  | 124 => ⟨S8x4096x1x128, .f32⟩
  | 125 => ⟨S8x4096x1x128, .f32⟩
  | 126 => ⟨S8x4096x1x128, .f32⟩
  | 127 => ⟨S8x4096x4x128, .f32⟩
  | _ => ⟨S8x4096x1024, .f32⟩

abbrev hbmTy0_2 (i : Nat) : BufTy := match i % 128 with
  | 0 => ⟨S4x128x8x4096, .f32⟩
  | 1 => ⟨S8x4096x4x128, .f32⟩
  | 2 => ⟨S8x4096x512, .f32⟩
  | 3 => ⟨S1x1x512, .f32⟩
  | 4 => ⟨S8x4096x512, .f32⟩
  | 5 => ⟨S8x4096x512, .f32⟩
  | 6 => ⟨S32768x64, .f32⟩
  | 7 => ⟨S32768x512, .f32⟩
  | 8 => ⟨S32768x512, .bf16⟩
  | 9 => ⟨S_, .f32⟩
  | 10 => ⟨S8x4096x8x64, .f32⟩
  | 11 => ⟨S8x4096x8x64, .f32⟩
  | 12 => ⟨S32768x4x128, .f32⟩
  | 13 => ⟨S4x32768x128, .f32⟩
  | 14 => ⟨S4x32768x128, .bf16⟩
  | 15 => ⟨S32768x4x128, .f32⟩
  | 16 => ⟨S4x32768x128, .f32⟩
  | 17 => ⟨S4x32768x128, .bf16⟩
  | 18 => ⟨S64x512x512, .f32⟩
  | 19 => ⟨S64x512x512, .f32⟩
  | 20 => ⟨S64x512x512, .bf16⟩
  | 21 => ⟨S_, .f32⟩
  | 22 => ⟨S8x4096x8x64, .f32⟩
  | 23 => ⟨S8x4096x8x64, .f32⟩
  | 24 => ⟨S32768x4x128, .f32⟩
  | 25 => ⟨S4x32768x128, .f32⟩
  | 26 => ⟨S4x32768x128, .bf16⟩
  | 27 => ⟨S32768x128, .f32⟩
  | 28 => ⟨S32768x128, .bf16⟩
  | 29 => ⟨S32768x8, .f32⟩
  | 30 => ⟨S8x32768, .f32⟩
  | 31 => ⟨S_, .i32⟩
  | 32 => ⟨S_, .f32⟩
  | 33 => ⟨S16x32768, .f32⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_4 : Ref sig .tc := ⟨.hbm, 67, rfl⟩
abbrev main_v56 : Ref sig .tc := ⟨.hbm, 68, rfl⟩
abbrev main_v57 : Ref sig .tc := ⟨.hbm, 69, rfl⟩
abbrev main_cst_5 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_cst_6 : Ref sig .tc := ⟨.hbm, 101, rfl⟩
abbrev main_v88 : Ref sig .tc := ⟨.hbm, 102, rfl⟩
abbrev main_v89 : Ref sig .tc := ⟨.hbm, 103, rfl⟩
abbrev main_cst_7 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_cst_8 : Ref sig .tc := ⟨.hbm, 135, rfl⟩
abbrev main_v120 : Ref sig .tc := ⟨.hbm, 136, rfl⟩
abbrev main_v121 : Ref sig .tc := ⟨.hbm, 137, rfl⟩
abbrev main_cst_9 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_cst_10 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_call0_call0_cst : Ref sig .tc := ⟨.hbm, 167, rfl⟩
abbrev main_call0_call0_v0 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_c : Ref sig .tc := ⟨.hbm, 173, rfl⟩
abbrev main_call1_v0 : Ref sig .tc := ⟨.hbm, 174, rfl⟩
abbrev main_v153 : Ref sig .tc := ⟨.hbm, 175, rfl⟩
abbrev main_v154 : Ref sig .tc := ⟨.hbm, 176, rfl⟩
abbrev main_c_11 : Ref sig .tc := ⟨.hbm, 177, rfl⟩
abbrev main_v155 : Ref sig .tc := ⟨.hbm, 178, rfl⟩
abbrev main_v156 : Ref sig .tc := ⟨.hbm, 179, rfl⟩
abbrev main_c_12 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_c_13 : Ref sig .tc := ⟨.hbm, 193, rfl⟩
abbrev main_call2_v0 : Ref sig .tc := ⟨.hbm, 194, rfl⟩
abbrev main_v169 : Ref sig .tc := ⟨.hbm, 195, rfl⟩
abbrev main_v170 : Ref sig .tc := ⟨.hbm, 196, rfl⟩
abbrev main_c_14 : Ref sig .tc := ⟨.hbm, 197, rfl⟩
abbrev main_v171 : Ref sig .tc := ⟨.hbm, 198, rfl⟩
abbrev main_v172 : Ref sig .tc := ⟨.hbm, 199, rfl⟩
abbrev main_c_15 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_c_16 : Ref sig .tc := ⟨.hbm, 213, rfl⟩
abbrev main_call3_v0 : Ref sig .tc := ⟨.hbm, 214, rfl⟩
abbrev main_v185 : Ref sig .tc := ⟨.hbm, 215, rfl⟩
abbrev main_v186 : Ref sig .tc := ⟨.hbm, 216, rfl⟩
abbrev main_c_17 : Ref sig .tc := ⟨.hbm, 217, rfl⟩
abbrev main_v187 : Ref sig .tc := ⟨.hbm, 218, rfl⟩
abbrev main_v188 : Ref sig .tc := ⟨.hbm, 219, rfl⟩
abbrev main_c_18 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_c_19 : Ref sig .tc := ⟨.hbm, 233, rfl⟩
abbrev main_call4_v0 : Ref sig .tc := ⟨.hbm, 234, rfl⟩
abbrev main_v201 : Ref sig .tc := ⟨.hbm, 235, rfl⟩
abbrev main_v202 : Ref sig .tc := ⟨.hbm, 236, rfl⟩
abbrev main_c_20 : Ref sig .tc := ⟨.hbm, 237, rfl⟩
abbrev main_v203 : Ref sig .tc := ⟨.hbm, 238, rfl⟩
abbrev main_v204 : Ref sig .tc := ⟨.hbm, 239, rfl⟩
abbrev main_c_21 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_v218 : Ref sig .tc := ⟨.hbm, 254, rfl⟩
abbrev main_v219 : Ref sig .tc := ⟨.hbm, 255, rfl⟩
abbrev main_v220 : Ref sig .tc := ⟨.hbm, 256, rfl⟩
abbrev main_v221 : Ref sig .tc := ⟨.hbm, 257, rfl⟩
abbrev main_v222 : Ref sig .tc := ⟨.hbm, 258, rfl⟩
abbrev main_v223 : Ref sig .tc := ⟨.hbm, 259, rfl⟩
abbrev main_v224 : Ref sig .tc := ⟨.hbm, 260, rfl⟩
abbrev main_v225 : Ref sig .tc := ⟨.hbm, 261, rfl⟩
abbrev main_v226 : Ref sig .tc := ⟨.hbm, 262, rfl⟩
abbrev main_v227 : Ref sig .tc := ⟨.hbm, 263, rfl⟩
abbrev main_v228 : Ref sig .tc := ⟨.hbm, 264, rfl⟩
abbrev main_cst_22 : Ref sig .tc := ⟨.hbm, 265, rfl⟩
abbrev main_v229 : Ref sig .tc := ⟨.hbm, 266, rfl⟩
abbrev main_v230 : Ref sig .tc := ⟨.hbm, 267, rfl⟩
abbrev main_v231 : Ref sig .tc := ⟨.hbm, 268, rfl⟩
abbrev main_v232 : Ref sig .tc := ⟨.hbm, 269, rfl⟩
abbrev main_v233 : Ref sig .tc := ⟨.hbm, 270, rfl⟩
abbrev main_v234 : Ref sig .tc := ⟨.hbm, 271, rfl⟩
abbrev main_v235 : Ref sig .tc := ⟨.hbm, 272, rfl⟩
abbrev main_v236 : Ref sig .tc := ⟨.hbm, 273, rfl⟩
abbrev main_v237 : Ref sig .tc := ⟨.hbm, 274, rfl⟩
abbrev main_v238 : Ref sig .tc := ⟨.hbm, 275, rfl⟩
abbrev main_v239 : Ref sig .tc := ⟨.hbm, 276, rfl⟩
abbrev main_cst_23 : Ref sig .tc := ⟨.hbm, 277, rfl⟩
abbrev main_v240 : Ref sig .tc := ⟨.hbm, 278, rfl⟩
abbrev main_v241 : Ref sig .tc := ⟨.hbm, 279, rfl⟩
abbrev main_v242 : Ref sig .tc := ⟨.hbm, 280, rfl⟩
abbrev main_v243 : Ref sig .tc := ⟨.hbm, 281, rfl⟩
abbrev main_v244 : Ref sig .tc := ⟨.hbm, 282, rfl⟩
abbrev main_v245 : Ref sig .tc := ⟨.hbm, 283, rfl⟩
abbrev main_v246 : Ref sig .tc := ⟨.hbm, 284, rfl⟩
abbrev main_v247 : Ref sig .tc := ⟨.hbm, 285, rfl⟩
abbrev main_v248 : Ref sig .tc := ⟨.hbm, 286, rfl⟩
abbrev main_c_24 : Ref sig .tc := ⟨.hbm, 287, rfl⟩
abbrev main_call5_v0 : Ref sig .tc := ⟨.hbm, 288, rfl⟩
abbrev main_v249 : Ref sig .tc := ⟨.hbm, 289, rfl⟩

abbrev nD : Nat := 1
abbrev τ : Topo := Topo.v7x

variable {F : FTy → Type} [FloatOps F]
-- ==== Post.lean ====
abbrev S8x4096x1024 : Shape := ⟨3, ![8, 4096, 1024]⟩
abbrev S32768x512 : Shape := ⟨2, ![32768, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S32768x1024 : Shape := ⟨2, ![32768, 1024]⟩
abbrev S512x1024 : Shape := ⟨2, ![512, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 19
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S32768x1024, .f32⟩
  | .hbm, ⟨10, _⟩ => ⟨S1024x1024, .bf16⟩
  | .hbm, ⟨11, _⟩ => ⟨S512x1024, .bf16⟩
  | .hbm, ⟨12, _⟩ => ⟨S512x1024, .bf16⟩
  | .hbm, ⟨13, _⟩ => ⟨S1x1024, .f32⟩
  | .hbm, ⟨14, _⟩ => ⟨S1x1024, .f32⟩
  | .hbm, ⟨15, _⟩ => ⟨S1024x4096, .bf16⟩
  | .hbm, ⟨16, _⟩ => ⟨S4096x1024, .bf16⟩
  | .hbm, ⟨17, _⟩ => ⟨S1x1024, .f32⟩
  | .hbm, ⟨18, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== PostRefIdeal.lean ====
abbrev S8x4096x1024 : Shape := ⟨3, ![8, 4096, 1024]⟩
abbrev S32768x512 : Shape := ⟨2, ![32768, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S8x4096x512 : Shape := ⟨3, ![8, 4096, 512]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩
abbrev S32768x1024 : Shape := ⟨2, ![32768, 1024]⟩

abbrev nBuf : Space → Nat
  | .hbm => 72
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S32768x512, .f32⟩
  | .hbm, ⟨10, _⟩ => ⟨S8x4096x512, .f32⟩
  | .hbm, ⟨11, _⟩ => ⟨S32768x512, .f32⟩
  | .hbm, ⟨12, _⟩ => ⟨S8x4096x512, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S8x4096x1, .f32⟩
  | .hbm, ⟨26, _⟩ => ⟨S8x4096x1024, .f32⟩
  | .hbm, ⟨27, _⟩ => ⟨S8x4096x1024, .f32⟩
  | .hbm, ⟨28, _⟩ => ⟨S1x1x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S_, .f32⟩
  | .hbm, ⟨37, _⟩ => ⟨S8x4096x1, .f32⟩
  | .hbm, ⟨38, _⟩ => ⟨S8x4096x1, .f32⟩
  | .hbm, ⟨39, _⟩ => ⟨S_, .f32⟩
  | .hbm, ⟨40, _⟩ => ⟨S8x4096x1, .f32⟩
  | .hbm, ⟨41, _⟩ => ⟨S8x4096x1, .f32⟩
  | .hbm, ⟨42, _⟩ => ⟨S8x4096x1, .f32⟩
  | .hbm, ⟨43, _⟩ => ⟨S8x4096x1024, .f32⟩
  | .hbm, ⟨44, _⟩ => ⟨S8x4096x1024, .f32⟩
  | .hbm, ⟨45, _⟩ => ⟨S1x1x1024, .f32⟩
  | .hbm, ⟨46, _⟩ => ⟨S8x4096x1024, .f32⟩
  | .hbm, ⟨47, _⟩ => ⟨S8x4096x1024, .f32⟩
  | .hbm, ⟨48, _⟩ => ⟨S8x4096x4096, .f32⟩
  | .hbm, ⟨49, _⟩ => ⟨S_, .f32⟩
  | .hbm, ⟨50, _⟩ => ⟨S8x4096x4096, .f32⟩
  | .hbm, ⟨51, _⟩ => ⟨S8x4096x4096, .f32⟩
  | .hbm, ⟨52, _⟩ => ⟨S8x4096x4096, .f32⟩
  | .hbm, ⟨53, _⟩ => ⟨S8x4096x1024, .f32⟩
  | .hbm, ⟨54, _⟩ => ⟨S8x4096x1024, .f32⟩
  | .hbm, ⟨55, _⟩ => ⟨S_, .f32⟩
  | .hbm, ⟨56, _⟩ => ⟨S8x4096, .f32⟩
  | .hbm, ⟨57, _⟩ => ⟨S8x4096x1, .f32⟩
  | .hbm, ⟨58, _⟩ => ⟨S_, .f32⟩
  | .hbm, ⟨59, _⟩ => ⟨S8x4096x1, .f32⟩
  | .hbm, ⟨60, _⟩ => ⟨S8x4096x1, .f32⟩
  | .hbm, ⟨61, _⟩ => ⟨S_, .f32⟩
  | .hbm, ⟨62, _⟩ => ⟨S8x4096x1, .f32⟩
  | .hbm, ⟨63, _⟩ => ⟨S8x4096x1, .f32⟩
  | .hbm, ⟨64, _⟩ => ⟨S8x4096x1, .f32⟩
  | .hbm, ⟨65, _⟩ => ⟨S8x4096x1024, .f32⟩
  | .hbm, ⟨66, _⟩ => ⟨S8x4096x1024, .f32⟩
  | .hbm, ⟨67, _⟩ => ⟨S1x1x1024, .f32⟩
  | .hbm, ⟨68, _⟩ => ⟨S8x4096x1024, .f32⟩
  | .hbm, ⟨69, _⟩ => ⟨S8x4096x1024, .f32⟩
  | .hbm, ⟨70, _⟩ => ⟨S8x4096x1024, .f32⟩
  | .hbm, ⟨71, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_call0_cst : Ref sig .tc := ⟨.hbm, 49, rfl⟩
abbrev main_call0_v0 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Attn.lean ====
abbrev S4x32768x128 : Shape := ⟨3, ![4, 32768, 128]⟩
abbrev S64x512x512 : Shape := ⟨3, ![64, 512, 512]⟩
abbrev S32768x128 : Shape := ⟨2, ![32768, 128]⟩
abbrev S16x32768 : Shape := ⟨2, ![16, 32768]⟩
abbrev S32768x512 : Shape := ⟨2, ![32768, 512]⟩
abbrev S4x256x128 : Shape := ⟨3, ![4, 256, 128]⟩
abbrev S4x4096x128 : Shape := ⟨3, ![4, 4096, 128]⟩
abbrev S8x512x512 : Shape := ⟨3, ![8, 512, 512]⟩
abbrev S4096x128 : Shape := ⟨2, ![4096, 128]⟩
abbrev S16x256 : Shape := ⟨2, ![16, 256]⟩
abbrev S256x512 : Shape := ⟨2, ![256, 512]⟩
abbrev S8x256x128 : Shape := ⟨3, ![8, 256, 128]⟩
abbrev S2048x128 : Shape := ⟨2, ![2048, 128]⟩
abbrev S4096x256 : Shape := ⟨2, ![4096, 256]⟩
abbrev S512x2048 : Shape := ⟨2, ![512, 2048]⟩
abbrev S8x1x256 : Shape := ⟨3, ![8, 1, 256]⟩
abbrev S512x256 : Shape := ⟨2, ![512, 256]⟩
abbrev S8x512x256 : Shape := ⟨3, ![8, 512, 256]⟩
abbrev S1x256 : Shape := ⟨2, ![1, 256]⟩
abbrev S256x128 : Shape := ⟨2, ![256, 128]⟩
abbrev S1x256x128 : Shape := ⟨3, ![1, 256, 128]⟩
abbrev S512x128 : Shape := ⟨2, ![512, 128]⟩
abbrev S64x256 : Shape := ⟨2, ![64, 256]⟩
abbrev S1x512x128 : Shape := ⟨3, ![1, 512, 128]⟩
abbrev S1x512x256 : Shape := ⟨3, ![1, 512, 256]⟩
abbrev S256 : Shape := ⟨1, ![256]⟩
abbrev S1x1x256 : Shape := ⟨3, ![1, 1, 256]⟩
abbrev S1 : Shape := ⟨1, ![1]⟩
abbrev S1x1x1 : Shape := ⟨3, ![1, 1, 1]⟩
abbrev S8x256 : Shape := ⟨2, ![8, 256]⟩
abbrev S512x512 : Shape := ⟨2, ![512, 512]⟩
abbrev S16x512 : Shape := ⟨2, ![16, 512]⟩
abbrev S1x64x256 : Shape := ⟨3, ![1, 64, 256]⟩
abbrev S1x64x512 : Shape := ⟨3, ![1, 64, 512]⟩
abbrev S64x512 : Shape := ⟨2, ![64, 512]⟩
abbrev S80x512 : Shape := ⟨2, ![80, 512]⟩
abbrev S80x256 : Shape := ⟨2, ![80, 256]⟩

abbrev nBuf : Space → Nat
  | .hbm => 7
  | .vmem => 26
  | .smem => 0
  | _ => 0

abbrev bufTy : (tb : Table) → Fin (tcTables nBuf tb) → BufTy
  | .hbm, ⟨0, _⟩ => ⟨S4x32768x128, .bf16⟩
  | .hbm, ⟨1, _⟩ => ⟨S4x32768x128, .bf16⟩
  | .hbm, ⟨2, _⟩ => ⟨S64x512x512, .bf16⟩
  | .hbm, ⟨3, _⟩ => ⟨S4x32768x128, .bf16⟩
  | .hbm, ⟨4, _⟩ => ⟨S32768x128, .bf16⟩
  | .hbm, ⟨5, _⟩ => ⟨S16x32768, .f32⟩
  | .hbm, ⟨6, _⟩ => ⟨S32768x512, .bf16⟩
  | .local _ .vmem, ⟨0, _⟩ => ⟨S4x256x128, .bf16⟩
  | .local _ .vmem, ⟨1, _⟩ => ⟨S4x256x128, .bf16⟩
  | .local _ .vmem, ⟨2, _⟩ => ⟨S4x4096x128, .bf16⟩
  | .local _ .vmem, ⟨3, _⟩ => ⟨S4x4096x128, .bf16⟩
  | .local _ .vmem, ⟨4, _⟩ => ⟨S8x512x512, .bf16⟩
  | .local _ .vmem, ⟨5, _⟩ => ⟨S8x512x512, .bf16⟩
  | .local _ .vmem, ⟨6, _⟩ => ⟨S4x256x128, .bf16⟩
  | .local _ .vmem, ⟨7, _⟩ => ⟨S4x256x128, .bf16⟩
  | .local _ .vmem, ⟨8, _⟩ => ⟨S4096x128, .bf16⟩
  | .local _ .vmem, ⟨9, _⟩ => ⟨S4096x128, .bf16⟩
  | .local _ .vmem, ⟨10, _⟩ => ⟨S16x256, .f32⟩
  | .local _ .vmem, ⟨11, _⟩ => ⟨S16x256, .f32⟩
  | .local _ .vmem, ⟨12, _⟩ => ⟨S256x512, .bf16⟩
  | .local _ .vmem, ⟨13, _⟩ => ⟨S256x512, .bf16⟩
  | .local _ .vmem, ⟨14, _⟩ => ⟨S8x256x128, .bf16⟩
  | .local _ .vmem, ⟨15, _⟩ => ⟨S2048x128, .bf16⟩
  | .local _ .vmem, ⟨16, _⟩ => ⟨S4096x256, .f32⟩
  | .local _ .vmem, ⟨17, _⟩ => ⟨S4096x256, .i16⟩
  | .local _ .vmem, ⟨18, _⟩ => ⟨S4096x256, .i16⟩
  | .local _ .vmem, ⟨19, _⟩ => ⟨S512x2048, .f32⟩
  | .local _ .vmem, ⟨20, _⟩ => ⟨S8x1x256, .f32⟩
  | .local _ .vmem, ⟨21, _⟩ => ⟨S8x1x256, .f32⟩
  | .local _ .vmem, ⟨22, _⟩ => ⟨S512x256, .f32⟩
  | .local _ .vmem, ⟨23, _⟩ => ⟨S8x512x256, .f32⟩
  | .local _ .vmem, ⟨24, _⟩ => ⟨S8x512x256, .f32⟩
  | .local _ .vmem, ⟨25, _⟩ => ⟨S8x512x256, .bf16⟩
  | _, _ => ⟨S4x32768x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_scratch10 : Ref sig .tc := ⟨.vmem, 24, rfl⟩
abbrev cc0_scratch11 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨2, ![8, 16], ![false, false]⟩

@[reducible] def k0_t1_loop (i : grid0.Coords) : Scf.Loop 32 :=
  let c0_i32_73 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_71 : BitVec 32 := 1#32
  let v149 : BitVec 32 := Scalar.subi v20 c1_i32_71
  let v150 : BitVec 32 := Scalar.subi v149 c0_i32_73
  let c1_i32_74 : BitVec 32 := 1#32
  let v152 : BitVec 32 := Scalar.divsi v150 c1_i32_74
  let v153 : BitVec 32 := Scalar.muli v152 c1_i32_74
  let v154 : BitVec 32 := Scalar.addi c0_i32_73 v153
  let c1_i32_75 : BitVec 32 := 1#32
  ⟨c0_i32_73, v154, c1_i32_75⟩
def k0_mult1 (i : grid0.Coords) (k0_t1 : Fin (k0_t1_loop i).trips) : BitVec 32 :=
  let c0_i32_73 : BitVec 32 := 0#32
  let c1_i32_75 : BitVec 32 := 1#32
  let arg21 : BitVec 32 := Scf.iv c0_i32_73 c1_i32_75 k0_t1
  let c512_i32_665 : BitVec 32 := 512#32
  let v1094 : BitVec 32 := Scalar.muli arg21 c512_i32_665
  v1094
def k0_off1 (i : grid0.Coords) (k0_t1 : Fin (k0_t1_loop i).trips) : Fin 2 → Nat :=
  let c0_i32_73 : BitVec 32 := 0#32
  let c1_i32_75 : BitVec 32 := 1#32
  let arg21 : BitVec 32 := Scf.iv c0_i32_73 c1_i32_75 k0_t1
  let c512_i32_665 : BitVec 32 := 512#32
  let v1094 : BitVec 32 := Scalar.muli arg21 c512_i32_665
  let v1095 : BitVec 32 := v1094
  let v1096 : Index := Scalar.indexCast v1095
  let c0_666 : Index := 0#32
  ![v1096.toNat, 0]
def k0_off2 (i : grid0.Coords) (k0_t1 : Fin (k0_t1_loop i).trips) (c0_i32_712 : BitVec 32) : Fin 2 → Nat :=
  let c0_i32_73 : BitVec 32 := 0#32
  let c1_i32_75 : BitVec 32 := 1#32
  let arg21 : BitVec 32 := Scf.iv c0_i32_73 c1_i32_75 k0_t1
  let c512_i32_665 : BitVec 32 := 512#32
  let v1094 : BitVec 32 := Scalar.muli arg21 c512_i32_665
  let v1095 : BitVec 32 := v1094
  let v1158 : BitVec 32 := Scalar.addi v1095 c0_i32_712
  let v1159 : Index := Scalar.indexCast v1158
  let c0_713 : Index := 0#32
  ![v1159.toNat, 0]
@[reducible] def k0_t2_loop (i : grid0.Coords) : Scf.Loop 32 :=
  let c0_i32_73 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_71 : BitVec 32 := 1#32
  let v149 : BitVec 32 := Scalar.subi v20 c1_i32_71
  let v150 : BitVec 32 := Scalar.subi v149 c0_i32_73
  let c1_i32_74 : BitVec 32 := 1#32
  let v152 : BitVec 32 := Scalar.divsi v150 c1_i32_74
  let v153 : BitVec 32 := Scalar.muli v152 c1_i32_74
  let v154 : BitVec 32 := Scalar.addi c0_i32_73 v153
  let v151 : BitVec 32 := Scalar.addi c0_i32_73 v150
  let c1_i32_76 : BitVec 32 := 1#32
  ⟨v154, v151, c1_i32_76⟩
def k0_mult2 (i : grid0.Coords) (k0_t2 : Fin (k0_t2_loop i).trips) : BitVec 32 :=
  let c0_i32_73 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_71 : BitVec 32 := 1#32
  let v149 : BitVec 32 := Scalar.subi v20 c1_i32_71
  let v150 : BitVec 32 := Scalar.subi v149 c0_i32_73
  let c1_i32_74 : BitVec 32 := 1#32
  let v152 : BitVec 32 := Scalar.divsi v150 c1_i32_74
  let v153 : BitVec 32 := Scalar.muli v152 c1_i32_74
  let v154 : BitVec 32 := Scalar.addi c0_i32_73 v153
  let c1_i32_76 : BitVec 32 := 1#32
  let arg21 : BitVec 32 := Scf.iv v154 c1_i32_76 k0_t2
  let c512_i32_665 : BitVec 32 := 512#32
  let v1094 : BitVec 32 := Scalar.muli arg21 c512_i32_665
  v1094
def k0_off3 (i : grid0.Coords) (k0_t2 : Fin (k0_t2_loop i).trips) : Fin 2 → Nat :=
  let c0_i32_73 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_71 : BitVec 32 := 1#32
  let v149 : BitVec 32 := Scalar.subi v20 c1_i32_71
  let v150 : BitVec 32 := Scalar.subi v149 c0_i32_73
  let c1_i32_74 : BitVec 32 := 1#32
  let v152 : BitVec 32 := Scalar.divsi v150 c1_i32_74
  let v153 : BitVec 32 := Scalar.muli v152 c1_i32_74
  let v154 : BitVec 32 := Scalar.addi c0_i32_73 v153
  let c1_i32_76 : BitVec 32 := 1#32
  let arg21 : BitVec 32 := Scf.iv v154 c1_i32_76 k0_t2
  let c512_i32_665 : BitVec 32 := 512#32
  let v1094 : BitVec 32 := Scalar.muli arg21 c512_i32_665
  let v1095 : BitVec 32 := v1094
  let v1096 : Index := Scalar.indexCast v1095
  let c0_666 : Index := 0#32
  ![v1096.toNat, 0]
def k0_off4 (i : grid0.Coords) (k0_t2 : Fin (k0_t2_loop i).trips) (c0_i32_712 : BitVec 32) : Fin 2 → Nat :=
  let c0_i32_73 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_71 : BitVec 32 := 1#32
  let v149 : BitVec 32 := Scalar.subi v20 c1_i32_71
  let v150 : BitVec 32 := Scalar.subi v149 c0_i32_73
  let c1_i32_74 : BitVec 32 := 1#32
  let v152 : BitVec 32 := Scalar.divsi v150 c1_i32_74
  let v153 : BitVec 32 := Scalar.muli v152 c1_i32_74
  let v154 : BitVec 32 := Scalar.addi c0_i32_73 v153
  let c1_i32_76 : BitVec 32 := 1#32
  let arg21 : BitVec 32 := Scf.iv v154 c1_i32_76 k0_t2
  let c512_i32_665 : BitVec 32 := 512#32
  let v1094 : BitVec 32 := Scalar.muli arg21 c512_i32_665
  let v1095 : BitVec 32 := v1094
  let v1158 : BitVec 32 := Scalar.addi v1095 c0_i32_712
  let v1159 : Index := Scalar.indexCast v1158
  let c0_713 : Index := 0#32
  ![v1159.toNat, 0]
def k0_mult3 (i : grid0.Coords) : BitVec 32 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_77 : BitVec 32 := 1#32
  let v155 : BitVec 32 := Scalar.subi v20 c1_i32_77
  let c512_i32_78 : BitVec 32 := 512#32
  let v156 : BitVec 32 := Scalar.muli v155 c512_i32_78
  v156
def k0_off5 (i : grid0.Coords) : Fin 2 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_77 : BitVec 32 := 1#32
  let v155 : BitVec 32 := Scalar.subi v20 c1_i32_77
  let c512_i32_78 : BitVec 32 := 512#32
  let v156 : BitVec 32 := Scalar.muli v155 c512_i32_78
  let v157 : BitVec 32 := v156
  let v158 : Index := Scalar.indexCast v157
  let c0_79 : Index := 0#32
  ![v158.toNat, 0]
def k0_mult4 : BitVec 32 :=
  let c0_i32_85 : BitVec 32 := 0#32
  c0_i32_85
def k0_mult5 : BitVec 32 :=
  let c0_i32_95 : BitVec 32 := 0#32
  c0_i32_95
def k0_mult6 : BitVec 32 :=
  let c0_i32_105 : BitVec 32 := 0#32
  c0_i32_105
def k0_mult7 : BitVec 32 :=
  let c0_i32_115 : BitVec 32 := 0#32
  c0_i32_115
def k0_mult8 : BitVec 32 :=
  let c0_i32_125 : BitVec 32 := 0#32
  c0_i32_125
def k0_mult9 : BitVec 32 :=
  let c0_i32_135 : BitVec 32 := 0#32
  c0_i32_135
def k0_mult10 : BitVec 32 :=
  let c0_i32_145 : BitVec 32 := 0#32
  c0_i32_145
def k0_mult11 : BitVec 32 :=
  let c0_i32_155 : BitVec 32 := 0#32
  c0_i32_155
def k0_off6 (i : grid0.Coords) (c0_i32_208 : BitVec 32) : Fin 2 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_77 : BitVec 32 := 1#32
  let v155 : BitVec 32 := Scalar.subi v20 c1_i32_77
  let c512_i32_78 : BitVec 32 := 512#32
  let v156 : BitVec 32 := Scalar.muli v155 c512_i32_78
  let v157 : BitVec 32 := v156
  let v308 : BitVec 32 := Scalar.addi v157 c0_i32_208
  let v309 : Index := Scalar.indexCast v308
  let c0_209 : Index := 0#32
  ![v309.toNat, 0]
@[reducible] def k0_t3_loop : Scf.Loop 32 :=
  let c0_i32_563 : BitVec 32 := 0#32
  let c16_i32_564 : BitVec 32 := 16#32
  let v967 : BitVec 32 := Scalar.addi c0_i32_563 c16_i32_564
  let c1_i32_565 : BitVec 32 := 1#32
  ⟨c0_i32_563, v967, c1_i32_565⟩
@[reducible] def k0_t4_loop (i : grid0.Coords) : Scf.Loop 32 :=
  let c0_i32_666 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1100 : BitVec 32 := Scalar.subi v20 c0_i32_666
  let c1_i32_667 : BitVec 32 := 1#32
  let v1102 : BitVec 32 := Scalar.divsi v1100 c1_i32_667
  let v1103 : BitVec 32 := Scalar.muli v1102 c1_i32_667
  let v1104 : BitVec 32 := Scalar.addi c0_i32_666 v1103
  let c1_i32_668 : BitVec 32 := 1#32
  ⟨c0_i32_666, v1104, c1_i32_668⟩
def k0_mult12 (i : grid0.Coords) (k0_t4 : Fin (k0_t4_loop i).trips) : BitVec 32 :=
  let c0_i32_666 : BitVec 32 := 0#32
  let c1_i32_668 : BitVec 32 := 1#32
  let arg24 : BitVec 32 := Scf.iv c0_i32_666 c1_i32_668 k0_t4
  let c512_i32_672 : BitVec 32 := 512#32
  let v1117 : BitVec 32 := Scalar.muli arg24 c512_i32_672
  v1117
def k0_off7 (i : grid0.Coords) (k0_t4 : Fin (k0_t4_loop i).trips) : Fin 2 → Nat :=
  let c0_i32_666 : BitVec 32 := 0#32
  let c1_i32_668 : BitVec 32 := 1#32
  let arg24 : BitVec 32 := Scf.iv c0_i32_666 c1_i32_668 k0_t4
  let c512_i32_672 : BitVec 32 := 512#32
  let v1117 : BitVec 32 := Scalar.muli arg24 c512_i32_672
  let v1118 : BitVec 32 := v1117
  let v1119 : Index := Scalar.indexCast v1118
  let c0_673 : Index := 0#32
  ![v1119.toNat, 0]
@[reducible] def k0_t5_loop (i : grid0.Coords) : Scf.Loop 32 :=
  let c0_i32_666 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1100 : BitVec 32 := Scalar.subi v20 c0_i32_666
  let c1_i32_667 : BitVec 32 := 1#32
  let v1102 : BitVec 32 := Scalar.divsi v1100 c1_i32_667
  let v1103 : BitVec 32 := Scalar.muli v1102 c1_i32_667
  let v1104 : BitVec 32 := Scalar.addi c0_i32_666 v1103
  let v1101 : BitVec 32 := Scalar.addi c0_i32_666 v1100
  let c1_i32_669 : BitVec 32 := 1#32
  ⟨v1104, v1101, c1_i32_669⟩
def k0_mult13 (i : grid0.Coords) (k0_t5 : Fin (k0_t5_loop i).trips) : BitVec 32 :=
  let c0_i32_666 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1100 : BitVec 32 := Scalar.subi v20 c0_i32_666
  let c1_i32_667 : BitVec 32 := 1#32
  let v1102 : BitVec 32 := Scalar.divsi v1100 c1_i32_667
  let v1103 : BitVec 32 := Scalar.muli v1102 c1_i32_667
  let v1104 : BitVec 32 := Scalar.addi c0_i32_666 v1103
  let c1_i32_669 : BitVec 32 := 1#32
  let arg24 : BitVec 32 := Scf.iv v1104 c1_i32_669 k0_t5
  let c512_i32_672 : BitVec 32 := 512#32
  let v1117 : BitVec 32 := Scalar.muli arg24 c512_i32_672
  v1117
def k0_off8 (i : grid0.Coords) (k0_t5 : Fin (k0_t5_loop i).trips) : Fin 2 → Nat :=
  let c0_i32_666 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1100 : BitVec 32 := Scalar.subi v20 c0_i32_666
  let c1_i32_667 : BitVec 32 := 1#32
  let v1102 : BitVec 32 := Scalar.divsi v1100 c1_i32_667
  let v1103 : BitVec 32 := Scalar.muli v1102 c1_i32_667
  let v1104 : BitVec 32 := Scalar.addi c0_i32_666 v1103
  let c1_i32_669 : BitVec 32 := 1#32
  let arg24 : BitVec 32 := Scf.iv v1104 c1_i32_669 k0_t5
  let c512_i32_672 : BitVec 32 := 512#32
  let v1117 : BitVec 32 := Scalar.muli arg24 c512_i32_672
  let v1118 : BitVec 32 := v1117
  let v1119 : Index := Scalar.indexCast v1118
  let c0_673 : Index := 0#32
  ![v1119.toNat, 0]
@[reducible] def k0_t6_loop (i : grid0.Coords) : Scf.Loop 32 :=
  let c0_i32_568 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v970 : BitVec 32 := Scalar.subi v20 c0_i32_568
  let c1_i32_569 : BitVec 32 := 1#32
  let v972 : BitVec 32 := Scalar.divsi v970 c1_i32_569
  let v973 : BitVec 32 := Scalar.muli v972 c1_i32_569
  let v974 : BitVec 32 := Scalar.addi c0_i32_568 v973
  let c1_i32_570 : BitVec 32 := 1#32
  ⟨c0_i32_568, v974, c1_i32_570⟩
def k0_mult14 (i : grid0.Coords) (k0_t6 : Fin (k0_t6_loop i).trips) : BitVec 32 :=
  let c0_i32_568 : BitVec 32 := 0#32
  let c1_i32_570 : BitVec 32 := 1#32
  let arg21 : BitVec 32 := Scf.iv c0_i32_568 c1_i32_570 k0_t6
  let c512_i32_665 : BitVec 32 := 512#32
  let v1094 : BitVec 32 := Scalar.muli arg21 c512_i32_665
  v1094
def k0_off9 (i : grid0.Coords) (k0_t6 : Fin (k0_t6_loop i).trips) : Fin 2 → Nat :=
  let c0_i32_568 : BitVec 32 := 0#32
  let c1_i32_570 : BitVec 32 := 1#32
  let arg21 : BitVec 32 := Scf.iv c0_i32_568 c1_i32_570 k0_t6
  let c512_i32_665 : BitVec 32 := 512#32
  let v1094 : BitVec 32 := Scalar.muli arg21 c512_i32_665
  let v1095 : BitVec 32 := v1094
  let v1096 : Index := Scalar.indexCast v1095
  let c0_666 : Index := 0#32
  ![v1096.toNat, 0]
@[reducible] def k0_t7_loop (i : grid0.Coords) : Scf.Loop 32 :=
  let c0_i32_568 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v970 : BitVec 32 := Scalar.subi v20 c0_i32_568
  let c1_i32_569 : BitVec 32 := 1#32
  let v972 : BitVec 32 := Scalar.divsi v970 c1_i32_569
  let v973 : BitVec 32 := Scalar.muli v972 c1_i32_569
  let v974 : BitVec 32 := Scalar.addi c0_i32_568 v973
  let v971 : BitVec 32 := Scalar.addi c0_i32_568 v970
  let c1_i32_571 : BitVec 32 := 1#32
  ⟨v974, v971, c1_i32_571⟩
def k0_mult15 (i : grid0.Coords) (k0_t7 : Fin (k0_t7_loop i).trips) : BitVec 32 :=
  let c0_i32_568 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v970 : BitVec 32 := Scalar.subi v20 c0_i32_568
  let c1_i32_569 : BitVec 32 := 1#32
  let v972 : BitVec 32 := Scalar.divsi v970 c1_i32_569
  let v973 : BitVec 32 := Scalar.muli v972 c1_i32_569
  let v974 : BitVec 32 := Scalar.addi c0_i32_568 v973
  let c1_i32_571 : BitVec 32 := 1#32
  let arg21 : BitVec 32 := Scf.iv v974 c1_i32_571 k0_t7
  let c512_i32_665 : BitVec 32 := 512#32
  let v1094 : BitVec 32 := Scalar.muli arg21 c512_i32_665
  v1094
def k0_off10 (i : grid0.Coords) (k0_t7 : Fin (k0_t7_loop i).trips) : Fin 2 → Nat :=
  let c0_i32_568 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v970 : BitVec 32 := Scalar.subi v20 c0_i32_568
  let c1_i32_569 : BitVec 32 := 1#32
  let v972 : BitVec 32 := Scalar.divsi v970 c1_i32_569
  let v973 : BitVec 32 := Scalar.muli v972 c1_i32_569
  let v974 : BitVec 32 := Scalar.addi c0_i32_568 v973
  let c1_i32_571 : BitVec 32 := 1#32
  let arg21 : BitVec 32 := Scf.iv v974 c1_i32_571 k0_t7
  let c512_i32_665 : BitVec 32 := 512#32
  let v1094 : BitVec 32 := Scalar.muli arg21 c512_i32_665
  let v1095 : BitVec 32 := v1094
  let v1096 : Index := Scalar.indexCast v1095
  let c0_666 : Index := 0#32
  ![v1096.toNat, 0]
@[reducible] def k0_t8_loop : Scf.Loop 32 :=
  let c0_i32_572 : BitVec 32 := 0#32
  let c16_i32_573 : BitVec 32 := 16#32
  let v975 : BitVec 32 := Scalar.addi c0_i32_572 c16_i32_573
  let c1_i32_574 : BitVec 32 := 1#32
  ⟨c0_i32_572, v975, c1_i32_574⟩
@[reducible] def k0_t9_loop (i : grid0.Coords) : Scf.Loop 32 :=
  let c0_i32_667 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1102 : BitVec 32 := Scalar.subi v20 c0_i32_667
  let c1_i32_668 : BitVec 32 := 1#32
  let v1104 : BitVec 32 := Scalar.divsi v1102 c1_i32_668
  let v1105 : BitVec 32 := Scalar.muli v1104 c1_i32_668
  let v1106 : BitVec 32 := Scalar.addi c0_i32_667 v1105
  let c1_i32_669 : BitVec 32 := 1#32
  ⟨c0_i32_667, v1106, c1_i32_669⟩
def k0_mult16 (i : grid0.Coords) (k0_t9 : Fin (k0_t9_loop i).trips) : BitVec 32 :=
  let c0_i32_667 : BitVec 32 := 0#32
  let c1_i32_669 : BitVec 32 := 1#32
  let arg24 : BitVec 32 := Scf.iv c0_i32_667 c1_i32_669 k0_t9
  let c512_i32_672 : BitVec 32 := 512#32
  let v1118 : BitVec 32 := Scalar.muli arg24 c512_i32_672
  v1118
def k0_off11 (i : grid0.Coords) (k0_t9 : Fin (k0_t9_loop i).trips) : Fin 2 → Nat :=
  let c0_i32_667 : BitVec 32 := 0#32
  let c1_i32_669 : BitVec 32 := 1#32
  let arg24 : BitVec 32 := Scf.iv c0_i32_667 c1_i32_669 k0_t9
  let c512_i32_672 : BitVec 32 := 512#32
  let v1118 : BitVec 32 := Scalar.muli arg24 c512_i32_672
  let v1119 : BitVec 32 := v1118
  let v1120 : Index := Scalar.indexCast v1119
  let c0_673 : Index := 0#32
  ![v1120.toNat, 0]
@[reducible] def k0_t10_loop (i : grid0.Coords) : Scf.Loop 32 :=
  let c0_i32_667 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1102 : BitVec 32 := Scalar.subi v20 c0_i32_667
  let c1_i32_668 : BitVec 32 := 1#32
  let v1104 : BitVec 32 := Scalar.divsi v1102 c1_i32_668
  let v1105 : BitVec 32 := Scalar.muli v1104 c1_i32_668
  let v1106 : BitVec 32 := Scalar.addi c0_i32_667 v1105
  let v1103 : BitVec 32 := Scalar.addi c0_i32_667 v1102
  let c1_i32_670 : BitVec 32 := 1#32
  ⟨v1106, v1103, c1_i32_670⟩
def k0_mult17 (i : grid0.Coords) (k0_t10 : Fin (k0_t10_loop i).trips) : BitVec 32 :=
  let c0_i32_667 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1102 : BitVec 32 := Scalar.subi v20 c0_i32_667
  let c1_i32_668 : BitVec 32 := 1#32
  let v1104 : BitVec 32 := Scalar.divsi v1102 c1_i32_668
  let v1105 : BitVec 32 := Scalar.muli v1104 c1_i32_668
  let v1106 : BitVec 32 := Scalar.addi c0_i32_667 v1105
  let c1_i32_670 : BitVec 32 := 1#32
  let arg24 : BitVec 32 := Scf.iv v1106 c1_i32_670 k0_t10
  let c512_i32_672 : BitVec 32 := 512#32
  let v1118 : BitVec 32 := Scalar.muli arg24 c512_i32_672
  v1118
def k0_off12 (i : grid0.Coords) (k0_t10 : Fin (k0_t10_loop i).trips) : Fin 2 → Nat :=
  let c0_i32_667 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1102 : BitVec 32 := Scalar.subi v20 c0_i32_667
  let c1_i32_668 : BitVec 32 := 1#32
  let v1104 : BitVec 32 := Scalar.divsi v1102 c1_i32_668
  let v1105 : BitVec 32 := Scalar.muli v1104 c1_i32_668
  let v1106 : BitVec 32 := Scalar.addi c0_i32_667 v1105
  let c1_i32_670 : BitVec 32 := 1#32
  let arg24 : BitVec 32 := Scf.iv v1106 c1_i32_670 k0_t10
  let c512_i32_672 : BitVec 32 := 512#32
  let v1118 : BitVec 32 := Scalar.muli arg24 c512_i32_672
  let v1119 : BitVec 32 := v1118
  let v1120 : Index := Scalar.indexCast v1119
  let c0_673 : Index := 0#32
  ![v1120.toNat, 0]
@[reducible] def k0_t11_loop (i : grid0.Coords) : Scf.Loop 32 :=
  let c0_i32_666 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1095 : BitVec 32 := Scalar.subi v20 c0_i32_666
  let c1_i32_667 : BitVec 32 := 1#32
  let v1097 : BitVec 32 := Scalar.divsi v1095 c1_i32_667
  let v1098 : BitVec 32 := Scalar.muli v1097 c1_i32_667
  let v1099 : BitVec 32 := Scalar.addi c0_i32_666 v1098
  let c1_i32_668 : BitVec 32 := 1#32
  ⟨c0_i32_666, v1099, c1_i32_668⟩
def k0_mult18 (i : grid0.Coords) (k0_t11 : Fin (k0_t11_loop i).trips) : BitVec 32 :=
  let c0_i32_666 : BitVec 32 := 0#32
  let c1_i32_668 : BitVec 32 := 1#32
  let arg21 : BitVec 32 := Scf.iv c0_i32_666 c1_i32_668 k0_t11
  let c512_i32_679 : BitVec 32 := 512#32
  let v1121 : BitVec 32 := Scalar.muli arg21 c512_i32_679
  v1121
def k0_off13 (i : grid0.Coords) (k0_t11 : Fin (k0_t11_loop i).trips) : Fin 2 → Nat :=
  let c0_i32_666 : BitVec 32 := 0#32
  let c1_i32_668 : BitVec 32 := 1#32
  let arg21 : BitVec 32 := Scf.iv c0_i32_666 c1_i32_668 k0_t11
  let c512_i32_679 : BitVec 32 := 512#32
  let v1121 : BitVec 32 := Scalar.muli arg21 c512_i32_679
  let v1122 : BitVec 32 := v1121
  let v1123 : Index := Scalar.indexCast v1122
  let c0_680 : Index := 0#32
  ![v1123.toNat, 0]
@[reducible] def k0_t12_loop (i : grid0.Coords) : Scf.Loop 32 :=
  let c0_i32_666 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1095 : BitVec 32 := Scalar.subi v20 c0_i32_666
  let c1_i32_667 : BitVec 32 := 1#32
  let v1097 : BitVec 32 := Scalar.divsi v1095 c1_i32_667
  let v1098 : BitVec 32 := Scalar.muli v1097 c1_i32_667
  let v1099 : BitVec 32 := Scalar.addi c0_i32_666 v1098
  let v1096 : BitVec 32 := Scalar.addi c0_i32_666 v1095
  let c1_i32_669 : BitVec 32 := 1#32
  ⟨v1099, v1096, c1_i32_669⟩
def k0_mult19 (i : grid0.Coords) (k0_t12 : Fin (k0_t12_loop i).trips) : BitVec 32 :=
  let c0_i32_666 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1095 : BitVec 32 := Scalar.subi v20 c0_i32_666
  let c1_i32_667 : BitVec 32 := 1#32
  let v1097 : BitVec 32 := Scalar.divsi v1095 c1_i32_667
  let v1098 : BitVec 32 := Scalar.muli v1097 c1_i32_667
  let v1099 : BitVec 32 := Scalar.addi c0_i32_666 v1098
  let c1_i32_669 : BitVec 32 := 1#32
  let arg21 : BitVec 32 := Scf.iv v1099 c1_i32_669 k0_t12
  let c512_i32_679 : BitVec 32 := 512#32
  let v1121 : BitVec 32 := Scalar.muli arg21 c512_i32_679
  v1121
def k0_off14 (i : grid0.Coords) (k0_t12 : Fin (k0_t12_loop i).trips) : Fin 2 → Nat :=
  let c0_i32_666 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1095 : BitVec 32 := Scalar.subi v20 c0_i32_666
  let c1_i32_667 : BitVec 32 := 1#32
  let v1097 : BitVec 32 := Scalar.divsi v1095 c1_i32_667
  let v1098 : BitVec 32 := Scalar.muli v1097 c1_i32_667
  let v1099 : BitVec 32 := Scalar.addi c0_i32_666 v1098
  let c1_i32_669 : BitVec 32 := 1#32
  let arg21 : BitVec 32 := Scf.iv v1099 c1_i32_669 k0_t12
  let c512_i32_679 : BitVec 32 := 512#32
  let v1121 : BitVec 32 := Scalar.muli arg21 c512_i32_679
  let v1122 : BitVec 32 := v1121
  let v1123 : Index := Scalar.indexCast v1122
  let c0_680 : Index := 0#32
  ![v1123.toNat, 0]
@[reducible] def k0_t13_loop (i : grid0.Coords) : Scf.Loop 32 :=
  let c0_i32_675 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1114 : BitVec 32 := Scalar.subi v20 c0_i32_675
  let c1_i32_676 : BitVec 32 := 1#32
  let v1116 : BitVec 32 := Scalar.divsi v1114 c1_i32_676
  let v1117 : BitVec 32 := Scalar.muli v1116 c1_i32_676
  let v1118 : BitVec 32 := Scalar.addi c0_i32_675 v1117
  let c1_i32_677 : BitVec 32 := 1#32
  ⟨c0_i32_675, v1118, c1_i32_677⟩
def k0_mult20 (i : grid0.Coords) (k0_t13 : Fin (k0_t13_loop i).trips) : BitVec 32 :=
  let c0_i32_675 : BitVec 32 := 0#32
  let c1_i32_677 : BitVec 32 := 1#32
  let arg21 : BitVec 32 := Scf.iv c0_i32_675 c1_i32_677 k0_t13
  let c512_i32_679 : BitVec 32 := 512#32
  let v1121 : BitVec 32 := Scalar.muli arg21 c512_i32_679
  v1121
def k0_off15 (i : grid0.Coords) (k0_t13 : Fin (k0_t13_loop i).trips) : Fin 2 → Nat :=
  let c0_i32_675 : BitVec 32 := 0#32
  let c1_i32_677 : BitVec 32 := 1#32
  let arg21 : BitVec 32 := Scf.iv c0_i32_675 c1_i32_677 k0_t13
  let c512_i32_679 : BitVec 32 := 512#32
  let v1121 : BitVec 32 := Scalar.muli arg21 c512_i32_679
  let v1122 : BitVec 32 := v1121
  let v1123 : Index := Scalar.indexCast v1122
  let c0_680 : Index := 0#32
  ![v1123.toNat, 0]
@[reducible] def k0_t14_loop (i : grid0.Coords) : Scf.Loop 32 :=
  let c0_i32_675 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1114 : BitVec 32 := Scalar.subi v20 c0_i32_675
  let c1_i32_676 : BitVec 32 := 1#32
  let v1116 : BitVec 32 := Scalar.divsi v1114 c1_i32_676
  let v1117 : BitVec 32 := Scalar.muli v1116 c1_i32_676
  let v1118 : BitVec 32 := Scalar.addi c0_i32_675 v1117
  let v1115 : BitVec 32 := Scalar.addi c0_i32_675 v1114
  let c1_i32_678 : BitVec 32 := 1#32
  ⟨v1118, v1115, c1_i32_678⟩
def k0_mult21 (i : grid0.Coords) (k0_t14 : Fin (k0_t14_loop i).trips) : BitVec 32 :=
  let c0_i32_675 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1114 : BitVec 32 := Scalar.subi v20 c0_i32_675
  let c1_i32_676 : BitVec 32 := 1#32
  let v1116 : BitVec 32 := Scalar.divsi v1114 c1_i32_676
  let v1117 : BitVec 32 := Scalar.muli v1116 c1_i32_676
  let v1118 : BitVec 32 := Scalar.addi c0_i32_675 v1117
  let c1_i32_678 : BitVec 32 := 1#32
  let arg21 : BitVec 32 := Scf.iv v1118 c1_i32_678 k0_t14
  let c512_i32_679 : BitVec 32 := 512#32
  let v1121 : BitVec 32 := Scalar.muli arg21 c512_i32_679
  v1121
def k0_off16 (i : grid0.Coords) (k0_t14 : Fin (k0_t14_loop i).trips) : Fin 2 → Nat :=
  let c0_i32_675 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1114 : BitVec 32 := Scalar.subi v20 c0_i32_675
  let c1_i32_676 : BitVec 32 := 1#32
  let v1116 : BitVec 32 := Scalar.divsi v1114 c1_i32_676
  let v1117 : BitVec 32 := Scalar.muli v1116 c1_i32_676
  let v1118 : BitVec 32 := Scalar.addi c0_i32_675 v1117
  let c1_i32_678 : BitVec 32 := 1#32
  let arg21 : BitVec 32 := Scf.iv v1118 c1_i32_678 k0_t14
  let c512_i32_679 : BitVec 32 := 512#32
  let v1121 : BitVec 32 := Scalar.muli arg21 c512_i32_679
  let v1122 : BitVec 32 := v1121
  let v1123 : Index := Scalar.indexCast v1122
  let c0_680 : Index := 0#32
  ![v1123.toNat, 0]
@[reducible] def k0_t15_loop (i : grid0.Coords) : Scf.Loop 32 :=
  let c0_i32_601 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1021 : BitVec 32 := Scalar.subi v20 c0_i32_601
  let c1_i32_602 : BitVec 32 := 1#32
  let v1023 : BitVec 32 := Scalar.divsi v1021 c1_i32_602
  let v1024 : BitVec 32 := Scalar.muli v1023 c1_i32_602
  let v1025 : BitVec 32 := Scalar.addi c0_i32_601 v1024
  let c1_i32_603 : BitVec 32 := 1#32
  ⟨c0_i32_601, v1025, c1_i32_603⟩
def k0_mult22 (i : grid0.Coords) (k0_t15 : Fin (k0_t15_loop i).trips) : BitVec 32 :=
  let c0_i32_601 : BitVec 32 := 0#32
  let c1_i32_603 : BitVec 32 := 1#32
  let arg21 : BitVec 32 := Scf.iv c0_i32_601 c1_i32_603 k0_t15
  let c512_i32_665 : BitVec 32 := 512#32
  let v1094 : BitVec 32 := Scalar.muli arg21 c512_i32_665
  v1094
def k0_off17 (i : grid0.Coords) (k0_t15 : Fin (k0_t15_loop i).trips) (c0_i32_668 : BitVec 32) : Fin 2 → Nat :=
  let c0_i32_601 : BitVec 32 := 0#32
  let c1_i32_603 : BitVec 32 := 1#32
  let arg21 : BitVec 32 := Scf.iv c0_i32_601 c1_i32_603 k0_t15
  let c512_i32_665 : BitVec 32 := 512#32
  let v1094 : BitVec 32 := Scalar.muli arg21 c512_i32_665
  let v1095 : BitVec 32 := v1094
  let v1099 : BitVec 32 := Scalar.addi v1095 c0_i32_668
  let v1100 : Index := Scalar.indexCast v1099
  let c0_669 : Index := 0#32
  ![v1100.toNat, 0]
def k0_mult23 (i : grid0.Coords) (k0_t15 : Fin (k0_t15_loop i).trips) : BitVec 32 :=
  let c0_i32_601 : BitVec 32 := 0#32
  let c1_i32_603 : BitVec 32 := 1#32
  let arg21 : BitVec 32 := Scf.iv c0_i32_601 c1_i32_603 k0_t15
  let c1_i32_666 : BitVec 32 := 1#32
  let v1096 : BitVec 32 := Scalar.addi arg21 c1_i32_666
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_667 : BitVec 32 := 1#32
  let v1097 : BitVec 32 := Scalar.subi v20 c1_i32_667
  let v1098 : BitVec 32 := Scalar.minsi v1096 v1097
  let c512_i32_1084 : BitVec 32 := 512#32
  let v2563 : BitVec 32 := Scalar.muli v1098 c512_i32_1084
  v2563
def k0_off18 (i : grid0.Coords) (k0_t15 : Fin (k0_t15_loop i).trips) : Fin 3 → Nat :=
  let c0_1085 : Index := 0#32
  let c0_i32_601 : BitVec 32 := 0#32
  let c1_i32_603 : BitVec 32 := 1#32
  let arg21 : BitVec 32 := Scf.iv c0_i32_601 c1_i32_603 k0_t15
  let c1_i32_666 : BitVec 32 := 1#32
  let v1096 : BitVec 32 := Scalar.addi arg21 c1_i32_666
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_667 : BitVec 32 := 1#32
  let v1097 : BitVec 32 := Scalar.subi v20 c1_i32_667
  let v1098 : BitVec 32 := Scalar.minsi v1096 v1097
  let c512_i32_1084 : BitVec 32 := 512#32
  let v2563 : BitVec 32 := Scalar.muli v1098 c512_i32_1084
  let v2564 : BitVec 32 := v2563
  let v2565 : Index := Scalar.indexCast v2564
  let c0_1086 : Index := 0#32
  ![0, v2565.toNat, 0]
def k0_mult24 (i : grid0.Coords) (k0_t15 : Fin (k0_t15_loop i).trips) : BitVec 32 :=
  let c0_i32_601 : BitVec 32 := 0#32
  let c1_i32_603 : BitVec 32 := 1#32
  let arg21 : BitVec 32 := Scf.iv c0_i32_601 c1_i32_603 k0_t15
  let c1_i32_666 : BitVec 32 := 1#32
  let v1096 : BitVec 32 := Scalar.addi arg21 c1_i32_666
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_667 : BitVec 32 := 1#32
  let v1097 : BitVec 32 := Scalar.subi v20 c1_i32_667
  let v1098 : BitVec 32 := Scalar.minsi v1096 v1097
  let c512_i32_1094 : BitVec 32 := 512#32
  let v2574 : BitVec 32 := Scalar.muli v1098 c512_i32_1094
  v2574
def k0_off19 (i : grid0.Coords) (k0_t15 : Fin (k0_t15_loop i).trips) : Fin 3 → Nat :=
  let c0_i32_601 : BitVec 32 := 0#32
  let c1_i32_603 : BitVec 32 := 1#32
  let arg21 : BitVec 32 := Scf.iv c0_i32_601 c1_i32_603 k0_t15
  let v2667 : Index := Scalar.indexCast arg21
  let c0_1159 : Index := 0#32
  let c0_1160 : Index := 0#32
  ![v2667.toNat, 0, 0]
def k0_mult25 (i : grid0.Coords) (k0_t15 : Fin (k0_t15_loop i).trips) : BitVec 32 :=
  let c0_i32_601 : BitVec 32 := 0#32
  let c1_i32_603 : BitVec 32 := 1#32
  let arg21 : BitVec 32 := Scf.iv c0_i32_601 c1_i32_603 k0_t15
  let c1_i32_666 : BitVec 32 := 1#32
  let v1096 : BitVec 32 := Scalar.addi arg21 c1_i32_666
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_667 : BitVec 32 := 1#32
  let v1097 : BitVec 32 := Scalar.subi v20 c1_i32_667
  let v1098 : BitVec 32 := Scalar.minsi v1096 v1097
  let c512_i32_1175 : BitVec 32 := 512#32
  let v2690 : BitVec 32 := Scalar.muli v1098 c512_i32_1175
  v2690
def k0_off20 (i : grid0.Coords) (k0_t15 : Fin (k0_t15_loop i).trips) : Fin 3 → Nat :=
  let c1_1176 : Index := 1#32
  let c0_i32_601 : BitVec 32 := 0#32
  let c1_i32_603 : BitVec 32 := 1#32
  let arg21 : BitVec 32 := Scf.iv c0_i32_601 c1_i32_603 k0_t15
  let c1_i32_666 : BitVec 32 := 1#32
  let v1096 : BitVec 32 := Scalar.addi arg21 c1_i32_666
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_667 : BitVec 32 := 1#32
  let v1097 : BitVec 32 := Scalar.subi v20 c1_i32_667
  let v1098 : BitVec 32 := Scalar.minsi v1096 v1097
  let c512_i32_1175 : BitVec 32 := 512#32
  let v2690 : BitVec 32 := Scalar.muli v1098 c512_i32_1175
  let v2691 : BitVec 32 := v2690
  let v2692 : Index := Scalar.indexCast v2691
  let c0_1177 : Index := 0#32
  ![1, v2692.toNat, 0]
def k0_off21 (i : grid0.Coords) (k0_t15 : Fin (k0_t15_loop i).trips) : Fin 3 → Nat :=
  let c0_i32_601 : BitVec 32 := 0#32
  let c1_i32_603 : BitVec 32 := 1#32
  let arg21 : BitVec 32 := Scf.iv c0_i32_601 c1_i32_603 k0_t15
  let v2783 : Index := Scalar.indexCast arg21
  let c64_1240 : Index := 64#32
  let c0_1241 : Index := 0#32
  ![v2783.toNat, 64, 0]
def k0_mult26 (i : grid0.Coords) (k0_t15 : Fin (k0_t15_loop i).trips) : BitVec 32 :=
  let c0_i32_601 : BitVec 32 := 0#32
  let c1_i32_603 : BitVec 32 := 1#32
  let arg21 : BitVec 32 := Scf.iv c0_i32_601 c1_i32_603 k0_t15
  let c1_i32_666 : BitVec 32 := 1#32
  let v1096 : BitVec 32 := Scalar.addi arg21 c1_i32_666
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_667 : BitVec 32 := 1#32
  let v1097 : BitVec 32 := Scalar.subi v20 c1_i32_667
  let v1098 : BitVec 32 := Scalar.minsi v1096 v1097
  let c512_i32_1256 : BitVec 32 := 512#32
  let v2806 : BitVec 32 := Scalar.muli v1098 c512_i32_1256
  v2806
def k0_off22 (i : grid0.Coords) (k0_t15 : Fin (k0_t15_loop i).trips) : Fin 3 → Nat :=
  let c0_i32_601 : BitVec 32 := 0#32
  let c1_i32_603 : BitVec 32 := 1#32
  let arg21 : BitVec 32 := Scf.iv c0_i32_601 c1_i32_603 k0_t15
  let v2899 : Index := Scalar.indexCast arg21
  let c128_1321 : Index := 128#32
  let c0_1322 : Index := 0#32
  ![v2899.toNat, 128, 0]
def k0_mult27 (i : grid0.Coords) (k0_t15 : Fin (k0_t15_loop i).trips) : BitVec 32 :=
  let c0_i32_601 : BitVec 32 := 0#32
  let c1_i32_603 : BitVec 32 := 1#32
  let arg21 : BitVec 32 := Scf.iv c0_i32_601 c1_i32_603 k0_t15
  let c1_i32_666 : BitVec 32 := 1#32
  let v1096 : BitVec 32 := Scalar.addi arg21 c1_i32_666
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_667 : BitVec 32 := 1#32
  let v1097 : BitVec 32 := Scalar.subi v20 c1_i32_667
  let v1098 : BitVec 32 := Scalar.minsi v1096 v1097
  let c512_i32_1337 : BitVec 32 := 512#32
  let v2922 : BitVec 32 := Scalar.muli v1098 c512_i32_1337
  v2922
def k0_off23 (i : grid0.Coords) (k0_t15 : Fin (k0_t15_loop i).trips) : Fin 3 → Nat :=
  let c2_1338 : Index := 2#32
  let c0_i32_601 : BitVec 32 := 0#32
  let c1_i32_603 : BitVec 32 := 1#32
  let arg21 : BitVec 32 := Scf.iv c0_i32_601 c1_i32_603 k0_t15
  let c1_i32_666 : BitVec 32 := 1#32
  let v1096 : BitVec 32 := Scalar.addi arg21 c1_i32_666
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_667 : BitVec 32 := 1#32
  let v1097 : BitVec 32 := Scalar.subi v20 c1_i32_667
  let v1098 : BitVec 32 := Scalar.minsi v1096 v1097
  let c512_i32_1337 : BitVec 32 := 512#32
  let v2922 : BitVec 32 := Scalar.muli v1098 c512_i32_1337
  let v2923 : BitVec 32 := v2922
  let v2924 : Index := Scalar.indexCast v2923
  let c0_1339 : Index := 0#32
  ![2, v2924.toNat, 0]
def k0_off24 (i : grid0.Coords) (k0_t15 : Fin (k0_t15_loop i).trips) : Fin 3 → Nat :=
  let c0_i32_601 : BitVec 32 := 0#32
  let c1_i32_603 : BitVec 32 := 1#32
  let arg21 : BitVec 32 := Scf.iv c0_i32_601 c1_i32_603 k0_t15
  let v3015 : Index := Scalar.indexCast arg21
  let c192_1402 : Index := 192#32
  let c0_1403 : Index := 0#32
  ![v3015.toNat, 192, 0]
def k0_mult28 (i : grid0.Coords) (k0_t15 : Fin (k0_t15_loop i).trips) : BitVec 32 :=
  let c0_i32_601 : BitVec 32 := 0#32
  let c1_i32_603 : BitVec 32 := 1#32
  let arg21 : BitVec 32 := Scf.iv c0_i32_601 c1_i32_603 k0_t15
  let c1_i32_666 : BitVec 32 := 1#32
  let v1096 : BitVec 32 := Scalar.addi arg21 c1_i32_666
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_667 : BitVec 32 := 1#32
  let v1097 : BitVec 32 := Scalar.subi v20 c1_i32_667
  let v1098 : BitVec 32 := Scalar.minsi v1096 v1097
  let c512_i32_1418 : BitVec 32 := 512#32
  let v3038 : BitVec 32 := Scalar.muli v1098 c512_i32_1418
  v3038
def k0_off25 (i : grid0.Coords) (k0_t15 : Fin (k0_t15_loop i).trips) : Fin 3 → Nat :=
  let c0_i32_601 : BitVec 32 := 0#32
  let c1_i32_603 : BitVec 32 := 1#32
  let arg21 : BitVec 32 := Scf.iv c0_i32_601 c1_i32_603 k0_t15
  let v3131 : Index := Scalar.indexCast arg21
  let c256_1483 : Index := 256#32
  let c0_1484 : Index := 0#32
  ![v3131.toNat, 256, 0]
def k0_mult29 (i : grid0.Coords) (k0_t15 : Fin (k0_t15_loop i).trips) : BitVec 32 :=
  let c0_i32_601 : BitVec 32 := 0#32
  let c1_i32_603 : BitVec 32 := 1#32
  let arg21 : BitVec 32 := Scf.iv c0_i32_601 c1_i32_603 k0_t15
  let c1_i32_666 : BitVec 32 := 1#32
  let v1096 : BitVec 32 := Scalar.addi arg21 c1_i32_666
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_667 : BitVec 32 := 1#32
  let v1097 : BitVec 32 := Scalar.subi v20 c1_i32_667
  let v1098 : BitVec 32 := Scalar.minsi v1096 v1097
  let c512_i32_1499 : BitVec 32 := 512#32
  let v3154 : BitVec 32 := Scalar.muli v1098 c512_i32_1499
  v3154
def k0_off26 (i : grid0.Coords) (k0_t15 : Fin (k0_t15_loop i).trips) : Fin 3 → Nat :=
  let c3_1500 : Index := 3#32
  let c0_i32_601 : BitVec 32 := 0#32
  let c1_i32_603 : BitVec 32 := 1#32
  let arg21 : BitVec 32 := Scf.iv c0_i32_601 c1_i32_603 k0_t15
  let c1_i32_666 : BitVec 32 := 1#32
  let v1096 : BitVec 32 := Scalar.addi arg21 c1_i32_666
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_667 : BitVec 32 := 1#32
  let v1097 : BitVec 32 := Scalar.subi v20 c1_i32_667
  let v1098 : BitVec 32 := Scalar.minsi v1096 v1097
  let c512_i32_1499 : BitVec 32 := 512#32
  let v3154 : BitVec 32 := Scalar.muli v1098 c512_i32_1499
  let v3155 : BitVec 32 := v3154
  let v3156 : Index := Scalar.indexCast v3155
  let c0_1501 : Index := 0#32
  ![3, v3156.toNat, 0]
def k0_off27 (i : grid0.Coords) (k0_t15 : Fin (k0_t15_loop i).trips) : Fin 3 → Nat :=
  let c0_i32_601 : BitVec 32 := 0#32
  let c1_i32_603 : BitVec 32 := 1#32
  let arg21 : BitVec 32 := Scf.iv c0_i32_601 c1_i32_603 k0_t15
  let v3247 : Index := Scalar.indexCast arg21
  let c320_1564 : Index := 320#32
  let c0_1565 : Index := 0#32
  ![v3247.toNat, 320, 0]
def k0_mult30 (i : grid0.Coords) (k0_t15 : Fin (k0_t15_loop i).trips) : BitVec 32 :=
  let c0_i32_601 : BitVec 32 := 0#32
  let c1_i32_603 : BitVec 32 := 1#32
  let arg21 : BitVec 32 := Scf.iv c0_i32_601 c1_i32_603 k0_t15
  let c1_i32_666 : BitVec 32 := 1#32
  let v1096 : BitVec 32 := Scalar.addi arg21 c1_i32_666
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_667 : BitVec 32 := 1#32
  let v1097 : BitVec 32 := Scalar.subi v20 c1_i32_667
  let v1098 : BitVec 32 := Scalar.minsi v1096 v1097
  let c512_i32_1580 : BitVec 32 := 512#32
  let v3270 : BitVec 32 := Scalar.muli v1098 c512_i32_1580
  v3270
def k0_off28 (i : grid0.Coords) (k0_t15 : Fin (k0_t15_loop i).trips) : Fin 3 → Nat :=
  let c0_i32_601 : BitVec 32 := 0#32
  let c1_i32_603 : BitVec 32 := 1#32
  let arg21 : BitVec 32 := Scf.iv c0_i32_601 c1_i32_603 k0_t15
  let v3363 : Index := Scalar.indexCast arg21
  let c384_1645 : Index := 384#32
  let c0_1646 : Index := 0#32
  ![v3363.toNat, 384, 0]
def k0_off29 (i : grid0.Coords) (k0_t15 : Fin (k0_t15_loop i).trips) : Fin 3 → Nat :=
  let c0_i32_601 : BitVec 32 := 0#32
  let c1_i32_603 : BitVec 32 := 1#32
  let arg21 : BitVec 32 := Scf.iv c0_i32_601 c1_i32_603 k0_t15
  let v3468 : Index := Scalar.indexCast arg21
  let c448_1716 : Index := 448#32
  let c0_1717 : Index := 0#32
  ![v3468.toNat, 448, 0]
@[reducible] def k0_t16_loop (i : grid0.Coords) : Scf.Loop 32 :=
  let c0_i32_601 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1021 : BitVec 32 := Scalar.subi v20 c0_i32_601
  let c1_i32_602 : BitVec 32 := 1#32
  let v1023 : BitVec 32 := Scalar.divsi v1021 c1_i32_602
  let v1024 : BitVec 32 := Scalar.muli v1023 c1_i32_602
  let v1025 : BitVec 32 := Scalar.addi c0_i32_601 v1024
  let v1022 : BitVec 32 := Scalar.addi c0_i32_601 v1021
  let c1_i32_604 : BitVec 32 := 1#32
  ⟨v1025, v1022, c1_i32_604⟩
def k0_mult31 (i : grid0.Coords) (k0_t16 : Fin (k0_t16_loop i).trips) : BitVec 32 :=
  let c0_i32_601 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1021 : BitVec 32 := Scalar.subi v20 c0_i32_601
  let c1_i32_602 : BitVec 32 := 1#32
  let v1023 : BitVec 32 := Scalar.divsi v1021 c1_i32_602
  let v1024 : BitVec 32 := Scalar.muli v1023 c1_i32_602
  let v1025 : BitVec 32 := Scalar.addi c0_i32_601 v1024
  let c1_i32_604 : BitVec 32 := 1#32
  let arg21 : BitVec 32 := Scf.iv v1025 c1_i32_604 k0_t16
  let c512_i32_665 : BitVec 32 := 512#32
  let v1094 : BitVec 32 := Scalar.muli arg21 c512_i32_665
  v1094
def k0_off30 (i : grid0.Coords) (k0_t16 : Fin (k0_t16_loop i).trips) (c0_i32_668 : BitVec 32) : Fin 2 → Nat :=
  let c0_i32_601 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1021 : BitVec 32 := Scalar.subi v20 c0_i32_601
  let c1_i32_602 : BitVec 32 := 1#32
  let v1023 : BitVec 32 := Scalar.divsi v1021 c1_i32_602
  let v1024 : BitVec 32 := Scalar.muli v1023 c1_i32_602
  let v1025 : BitVec 32 := Scalar.addi c0_i32_601 v1024
  let c1_i32_604 : BitVec 32 := 1#32
  let arg21 : BitVec 32 := Scf.iv v1025 c1_i32_604 k0_t16
  let c512_i32_665 : BitVec 32 := 512#32
  let v1094 : BitVec 32 := Scalar.muli arg21 c512_i32_665
  let v1095 : BitVec 32 := v1094
  let v1099 : BitVec 32 := Scalar.addi v1095 c0_i32_668
  let v1100 : Index := Scalar.indexCast v1099
  let c0_669 : Index := 0#32
  ![v1100.toNat, 0]
def k0_mult32 (i : grid0.Coords) (k0_t16 : Fin (k0_t16_loop i).trips) : BitVec 32 :=
  let c0_i32_601 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1021 : BitVec 32 := Scalar.subi v20 c0_i32_601
  let c1_i32_602 : BitVec 32 := 1#32
  let v1023 : BitVec 32 := Scalar.divsi v1021 c1_i32_602
  let v1024 : BitVec 32 := Scalar.muli v1023 c1_i32_602
  let v1025 : BitVec 32 := Scalar.addi c0_i32_601 v1024
  let c1_i32_604 : BitVec 32 := 1#32
  let arg21 : BitVec 32 := Scf.iv v1025 c1_i32_604 k0_t16
  let c1_i32_666 : BitVec 32 := 1#32
  let v1096 : BitVec 32 := Scalar.addi arg21 c1_i32_666
  let c1_i32_667 : BitVec 32 := 1#32
  let v1097 : BitVec 32 := Scalar.subi v20 c1_i32_667
  let v1098 : BitVec 32 := Scalar.minsi v1096 v1097
  let c512_i32_1084 : BitVec 32 := 512#32
  let v2563 : BitVec 32 := Scalar.muli v1098 c512_i32_1084
  v2563
def k0_off31 (i : grid0.Coords) (k0_t16 : Fin (k0_t16_loop i).trips) : Fin 3 → Nat :=
  let c0_1085 : Index := 0#32
  let c0_i32_601 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1021 : BitVec 32 := Scalar.subi v20 c0_i32_601
  let c1_i32_602 : BitVec 32 := 1#32
  let v1023 : BitVec 32 := Scalar.divsi v1021 c1_i32_602
  let v1024 : BitVec 32 := Scalar.muli v1023 c1_i32_602
  let v1025 : BitVec 32 := Scalar.addi c0_i32_601 v1024
  let c1_i32_604 : BitVec 32 := 1#32
  let arg21 : BitVec 32 := Scf.iv v1025 c1_i32_604 k0_t16
  let c1_i32_666 : BitVec 32 := 1#32
  let v1096 : BitVec 32 := Scalar.addi arg21 c1_i32_666
  let c1_i32_667 : BitVec 32 := 1#32
  let v1097 : BitVec 32 := Scalar.subi v20 c1_i32_667
  let v1098 : BitVec 32 := Scalar.minsi v1096 v1097
  let c512_i32_1084 : BitVec 32 := 512#32
  let v2563 : BitVec 32 := Scalar.muli v1098 c512_i32_1084
  let v2564 : BitVec 32 := v2563
  let v2565 : Index := Scalar.indexCast v2564
  let c0_1086 : Index := 0#32
  ![0, v2565.toNat, 0]
def k0_mult33 (i : grid0.Coords) (k0_t16 : Fin (k0_t16_loop i).trips) : BitVec 32 :=
  let c0_i32_601 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1021 : BitVec 32 := Scalar.subi v20 c0_i32_601
  let c1_i32_602 : BitVec 32 := 1#32
  let v1023 : BitVec 32 := Scalar.divsi v1021 c1_i32_602
  let v1024 : BitVec 32 := Scalar.muli v1023 c1_i32_602
  let v1025 : BitVec 32 := Scalar.addi c0_i32_601 v1024
  let c1_i32_604 : BitVec 32 := 1#32
  let arg21 : BitVec 32 := Scf.iv v1025 c1_i32_604 k0_t16
  let c1_i32_666 : BitVec 32 := 1#32
  let v1096 : BitVec 32 := Scalar.addi arg21 c1_i32_666
  let c1_i32_667 : BitVec 32 := 1#32
  let v1097 : BitVec 32 := Scalar.subi v20 c1_i32_667
  let v1098 : BitVec 32 := Scalar.minsi v1096 v1097
  let c512_i32_1094 : BitVec 32 := 512#32
  let v2574 : BitVec 32 := Scalar.muli v1098 c512_i32_1094
  v2574
def k0_off32 (i : grid0.Coords) (k0_t16 : Fin (k0_t16_loop i).trips) : Fin 3 → Nat :=
  let c0_i32_601 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1021 : BitVec 32 := Scalar.subi v20 c0_i32_601
  let c1_i32_602 : BitVec 32 := 1#32
  let v1023 : BitVec 32 := Scalar.divsi v1021 c1_i32_602
  let v1024 : BitVec 32 := Scalar.muli v1023 c1_i32_602
  let v1025 : BitVec 32 := Scalar.addi c0_i32_601 v1024
  let c1_i32_604 : BitVec 32 := 1#32
  let arg21 : BitVec 32 := Scf.iv v1025 c1_i32_604 k0_t16
  let v2667 : Index := Scalar.indexCast arg21
  let c0_1159 : Index := 0#32
  let c0_1160 : Index := 0#32
  ![v2667.toNat, 0, 0]
def k0_mult34 (i : grid0.Coords) (k0_t16 : Fin (k0_t16_loop i).trips) : BitVec 32 :=
  let c0_i32_601 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1021 : BitVec 32 := Scalar.subi v20 c0_i32_601
  let c1_i32_602 : BitVec 32 := 1#32
  let v1023 : BitVec 32 := Scalar.divsi v1021 c1_i32_602
  let v1024 : BitVec 32 := Scalar.muli v1023 c1_i32_602
  let v1025 : BitVec 32 := Scalar.addi c0_i32_601 v1024
  let c1_i32_604 : BitVec 32 := 1#32
  let arg21 : BitVec 32 := Scf.iv v1025 c1_i32_604 k0_t16
  let c1_i32_666 : BitVec 32 := 1#32
  let v1096 : BitVec 32 := Scalar.addi arg21 c1_i32_666
  let c1_i32_667 : BitVec 32 := 1#32
  let v1097 : BitVec 32 := Scalar.subi v20 c1_i32_667
  let v1098 : BitVec 32 := Scalar.minsi v1096 v1097
  let c512_i32_1175 : BitVec 32 := 512#32
  let v2690 : BitVec 32 := Scalar.muli v1098 c512_i32_1175
  v2690
def k0_off33 (i : grid0.Coords) (k0_t16 : Fin (k0_t16_loop i).trips) : Fin 3 → Nat :=
  let c1_1176 : Index := 1#32
  let c0_i32_601 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1021 : BitVec 32 := Scalar.subi v20 c0_i32_601
  let c1_i32_602 : BitVec 32 := 1#32
  let v1023 : BitVec 32 := Scalar.divsi v1021 c1_i32_602
  let v1024 : BitVec 32 := Scalar.muli v1023 c1_i32_602
  let v1025 : BitVec 32 := Scalar.addi c0_i32_601 v1024
  let c1_i32_604 : BitVec 32 := 1#32
  let arg21 : BitVec 32 := Scf.iv v1025 c1_i32_604 k0_t16
  let c1_i32_666 : BitVec 32 := 1#32
  let v1096 : BitVec 32 := Scalar.addi arg21 c1_i32_666
  let c1_i32_667 : BitVec 32 := 1#32
  let v1097 : BitVec 32 := Scalar.subi v20 c1_i32_667
  let v1098 : BitVec 32 := Scalar.minsi v1096 v1097
  let c512_i32_1175 : BitVec 32 := 512#32
  let v2690 : BitVec 32 := Scalar.muli v1098 c512_i32_1175
  let v2691 : BitVec 32 := v2690
  let v2692 : Index := Scalar.indexCast v2691
  let c0_1177 : Index := 0#32
  ![1, v2692.toNat, 0]
def k0_off34 (i : grid0.Coords) (k0_t16 : Fin (k0_t16_loop i).trips) : Fin 3 → Nat :=
  let c0_i32_601 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1021 : BitVec 32 := Scalar.subi v20 c0_i32_601
  let c1_i32_602 : BitVec 32 := 1#32
  let v1023 : BitVec 32 := Scalar.divsi v1021 c1_i32_602
  let v1024 : BitVec 32 := Scalar.muli v1023 c1_i32_602
  let v1025 : BitVec 32 := Scalar.addi c0_i32_601 v1024
  let c1_i32_604 : BitVec 32 := 1#32
  let arg21 : BitVec 32 := Scf.iv v1025 c1_i32_604 k0_t16
  let v2783 : Index := Scalar.indexCast arg21
  let c64_1240 : Index := 64#32
  let c0_1241 : Index := 0#32
  ![v2783.toNat, 64, 0]
def k0_mult35 (i : grid0.Coords) (k0_t16 : Fin (k0_t16_loop i).trips) : BitVec 32 :=
  let c0_i32_601 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1021 : BitVec 32 := Scalar.subi v20 c0_i32_601
  let c1_i32_602 : BitVec 32 := 1#32
  let v1023 : BitVec 32 := Scalar.divsi v1021 c1_i32_602
  let v1024 : BitVec 32 := Scalar.muli v1023 c1_i32_602
  let v1025 : BitVec 32 := Scalar.addi c0_i32_601 v1024
  let c1_i32_604 : BitVec 32 := 1#32
  let arg21 : BitVec 32 := Scf.iv v1025 c1_i32_604 k0_t16
  let c1_i32_666 : BitVec 32 := 1#32
  let v1096 : BitVec 32 := Scalar.addi arg21 c1_i32_666
  let c1_i32_667 : BitVec 32 := 1#32
  let v1097 : BitVec 32 := Scalar.subi v20 c1_i32_667
  let v1098 : BitVec 32 := Scalar.minsi v1096 v1097
  let c512_i32_1256 : BitVec 32 := 512#32
  let v2806 : BitVec 32 := Scalar.muli v1098 c512_i32_1256
  v2806
def k0_off35 (i : grid0.Coords) (k0_t16 : Fin (k0_t16_loop i).trips) : Fin 3 → Nat :=
  let c0_i32_601 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1021 : BitVec 32 := Scalar.subi v20 c0_i32_601
  let c1_i32_602 : BitVec 32 := 1#32
  let v1023 : BitVec 32 := Scalar.divsi v1021 c1_i32_602
  let v1024 : BitVec 32 := Scalar.muli v1023 c1_i32_602
  let v1025 : BitVec 32 := Scalar.addi c0_i32_601 v1024
  let c1_i32_604 : BitVec 32 := 1#32
  let arg21 : BitVec 32 := Scf.iv v1025 c1_i32_604 k0_t16
  let v2899 : Index := Scalar.indexCast arg21
  let c128_1321 : Index := 128#32
  let c0_1322 : Index := 0#32
  ![v2899.toNat, 128, 0]
def k0_mult36 (i : grid0.Coords) (k0_t16 : Fin (k0_t16_loop i).trips) : BitVec 32 :=
  let c0_i32_601 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1021 : BitVec 32 := Scalar.subi v20 c0_i32_601
  let c1_i32_602 : BitVec 32 := 1#32
  let v1023 : BitVec 32 := Scalar.divsi v1021 c1_i32_602
  let v1024 : BitVec 32 := Scalar.muli v1023 c1_i32_602
  let v1025 : BitVec 32 := Scalar.addi c0_i32_601 v1024
  let c1_i32_604 : BitVec 32 := 1#32
  let arg21 : BitVec 32 := Scf.iv v1025 c1_i32_604 k0_t16
  let c1_i32_666 : BitVec 32 := 1#32
  let v1096 : BitVec 32 := Scalar.addi arg21 c1_i32_666
  let c1_i32_667 : BitVec 32 := 1#32
  let v1097 : BitVec 32 := Scalar.subi v20 c1_i32_667
  let v1098 : BitVec 32 := Scalar.minsi v1096 v1097
  let c512_i32_1337 : BitVec 32 := 512#32
  let v2922 : BitVec 32 := Scalar.muli v1098 c512_i32_1337
  v2922
def k0_off36 (i : grid0.Coords) (k0_t16 : Fin (k0_t16_loop i).trips) : Fin 3 → Nat :=
  let c2_1338 : Index := 2#32
  let c0_i32_601 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1021 : BitVec 32 := Scalar.subi v20 c0_i32_601
  let c1_i32_602 : BitVec 32 := 1#32
  let v1023 : BitVec 32 := Scalar.divsi v1021 c1_i32_602
  let v1024 : BitVec 32 := Scalar.muli v1023 c1_i32_602
  let v1025 : BitVec 32 := Scalar.addi c0_i32_601 v1024
  let c1_i32_604 : BitVec 32 := 1#32
  let arg21 : BitVec 32 := Scf.iv v1025 c1_i32_604 k0_t16
  let c1_i32_666 : BitVec 32 := 1#32
  let v1096 : BitVec 32 := Scalar.addi arg21 c1_i32_666
  let c1_i32_667 : BitVec 32 := 1#32
  let v1097 : BitVec 32 := Scalar.subi v20 c1_i32_667
  let v1098 : BitVec 32 := Scalar.minsi v1096 v1097
  let c512_i32_1337 : BitVec 32 := 512#32
  let v2922 : BitVec 32 := Scalar.muli v1098 c512_i32_1337
  let v2923 : BitVec 32 := v2922
  let v2924 : Index := Scalar.indexCast v2923
  let c0_1339 : Index := 0#32
  ![2, v2924.toNat, 0]
def k0_off37 (i : grid0.Coords) (k0_t16 : Fin (k0_t16_loop i).trips) : Fin 3 → Nat :=
  let c0_i32_601 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1021 : BitVec 32 := Scalar.subi v20 c0_i32_601
  let c1_i32_602 : BitVec 32 := 1#32
  let v1023 : BitVec 32 := Scalar.divsi v1021 c1_i32_602
  let v1024 : BitVec 32 := Scalar.muli v1023 c1_i32_602
  let v1025 : BitVec 32 := Scalar.addi c0_i32_601 v1024
  let c1_i32_604 : BitVec 32 := 1#32
  let arg21 : BitVec 32 := Scf.iv v1025 c1_i32_604 k0_t16
  let v3015 : Index := Scalar.indexCast arg21
  let c192_1402 : Index := 192#32
  let c0_1403 : Index := 0#32
  ![v3015.toNat, 192, 0]
def k0_mult37 (i : grid0.Coords) (k0_t16 : Fin (k0_t16_loop i).trips) : BitVec 32 :=
  let c0_i32_601 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1021 : BitVec 32 := Scalar.subi v20 c0_i32_601
  let c1_i32_602 : BitVec 32 := 1#32
  let v1023 : BitVec 32 := Scalar.divsi v1021 c1_i32_602
  let v1024 : BitVec 32 := Scalar.muli v1023 c1_i32_602
  let v1025 : BitVec 32 := Scalar.addi c0_i32_601 v1024
  let c1_i32_604 : BitVec 32 := 1#32
  let arg21 : BitVec 32 := Scf.iv v1025 c1_i32_604 k0_t16
  let c1_i32_666 : BitVec 32 := 1#32
  let v1096 : BitVec 32 := Scalar.addi arg21 c1_i32_666
  let c1_i32_667 : BitVec 32 := 1#32
  let v1097 : BitVec 32 := Scalar.subi v20 c1_i32_667
  let v1098 : BitVec 32 := Scalar.minsi v1096 v1097
  let c512_i32_1418 : BitVec 32 := 512#32
  let v3038 : BitVec 32 := Scalar.muli v1098 c512_i32_1418
  v3038
def k0_off38 (i : grid0.Coords) (k0_t16 : Fin (k0_t16_loop i).trips) : Fin 3 → Nat :=
  let c0_i32_601 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1021 : BitVec 32 := Scalar.subi v20 c0_i32_601
  let c1_i32_602 : BitVec 32 := 1#32
  let v1023 : BitVec 32 := Scalar.divsi v1021 c1_i32_602
  let v1024 : BitVec 32 := Scalar.muli v1023 c1_i32_602
  let v1025 : BitVec 32 := Scalar.addi c0_i32_601 v1024
  let c1_i32_604 : BitVec 32 := 1#32
  let arg21 : BitVec 32 := Scf.iv v1025 c1_i32_604 k0_t16
  let v3131 : Index := Scalar.indexCast arg21
  let c256_1483 : Index := 256#32
  let c0_1484 : Index := 0#32
  ![v3131.toNat, 256, 0]
def k0_mult38 (i : grid0.Coords) (k0_t16 : Fin (k0_t16_loop i).trips) : BitVec 32 :=
  let c0_i32_601 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1021 : BitVec 32 := Scalar.subi v20 c0_i32_601
  let c1_i32_602 : BitVec 32 := 1#32
  let v1023 : BitVec 32 := Scalar.divsi v1021 c1_i32_602
  let v1024 : BitVec 32 := Scalar.muli v1023 c1_i32_602
  let v1025 : BitVec 32 := Scalar.addi c0_i32_601 v1024
  let c1_i32_604 : BitVec 32 := 1#32
  let arg21 : BitVec 32 := Scf.iv v1025 c1_i32_604 k0_t16
  let c1_i32_666 : BitVec 32 := 1#32
  let v1096 : BitVec 32 := Scalar.addi arg21 c1_i32_666
  let c1_i32_667 : BitVec 32 := 1#32
  let v1097 : BitVec 32 := Scalar.subi v20 c1_i32_667
  let v1098 : BitVec 32 := Scalar.minsi v1096 v1097
  let c512_i32_1499 : BitVec 32 := 512#32
  let v3154 : BitVec 32 := Scalar.muli v1098 c512_i32_1499
  v3154
def k0_off39 (i : grid0.Coords) (k0_t16 : Fin (k0_t16_loop i).trips) : Fin 3 → Nat :=
  let c3_1500 : Index := 3#32
  let c0_i32_601 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1021 : BitVec 32 := Scalar.subi v20 c0_i32_601
  let c1_i32_602 : BitVec 32 := 1#32
  let v1023 : BitVec 32 := Scalar.divsi v1021 c1_i32_602
  let v1024 : BitVec 32 := Scalar.muli v1023 c1_i32_602
  let v1025 : BitVec 32 := Scalar.addi c0_i32_601 v1024
  let c1_i32_604 : BitVec 32 := 1#32
  let arg21 : BitVec 32 := Scf.iv v1025 c1_i32_604 k0_t16
  let c1_i32_666 : BitVec 32 := 1#32
  let v1096 : BitVec 32 := Scalar.addi arg21 c1_i32_666
  let c1_i32_667 : BitVec 32 := 1#32
  let v1097 : BitVec 32 := Scalar.subi v20 c1_i32_667
  let v1098 : BitVec 32 := Scalar.minsi v1096 v1097
  let c512_i32_1499 : BitVec 32 := 512#32
  let v3154 : BitVec 32 := Scalar.muli v1098 c512_i32_1499
  let v3155 : BitVec 32 := v3154
  let v3156 : Index := Scalar.indexCast v3155
  let c0_1501 : Index := 0#32
  ![3, v3156.toNat, 0]
def k0_off40 (i : grid0.Coords) (k0_t16 : Fin (k0_t16_loop i).trips) : Fin 3 → Nat :=
  let c0_i32_601 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1021 : BitVec 32 := Scalar.subi v20 c0_i32_601
  let c1_i32_602 : BitVec 32 := 1#32
  let v1023 : BitVec 32 := Scalar.divsi v1021 c1_i32_602
  let v1024 : BitVec 32 := Scalar.muli v1023 c1_i32_602
  let v1025 : BitVec 32 := Scalar.addi c0_i32_601 v1024
  let c1_i32_604 : BitVec 32 := 1#32
  let arg21 : BitVec 32 := Scf.iv v1025 c1_i32_604 k0_t16
  let v3247 : Index := Scalar.indexCast arg21
  let c320_1564 : Index := 320#32
  let c0_1565 : Index := 0#32
  ![v3247.toNat, 320, 0]
def k0_mult39 (i : grid0.Coords) (k0_t16 : Fin (k0_t16_loop i).trips) : BitVec 32 :=
  let c0_i32_601 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1021 : BitVec 32 := Scalar.subi v20 c0_i32_601
  let c1_i32_602 : BitVec 32 := 1#32
  let v1023 : BitVec 32 := Scalar.divsi v1021 c1_i32_602
  let v1024 : BitVec 32 := Scalar.muli v1023 c1_i32_602
  let v1025 : BitVec 32 := Scalar.addi c0_i32_601 v1024
  let c1_i32_604 : BitVec 32 := 1#32
  let arg21 : BitVec 32 := Scf.iv v1025 c1_i32_604 k0_t16
  let c1_i32_666 : BitVec 32 := 1#32
  let v1096 : BitVec 32 := Scalar.addi arg21 c1_i32_666
  let c1_i32_667 : BitVec 32 := 1#32
  let v1097 : BitVec 32 := Scalar.subi v20 c1_i32_667
  let v1098 : BitVec 32 := Scalar.minsi v1096 v1097
  let c512_i32_1580 : BitVec 32 := 512#32
  let v3270 : BitVec 32 := Scalar.muli v1098 c512_i32_1580
  v3270
def k0_off41 (i : grid0.Coords) (k0_t16 : Fin (k0_t16_loop i).trips) : Fin 3 → Nat :=
  let c0_i32_601 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1021 : BitVec 32 := Scalar.subi v20 c0_i32_601
  let c1_i32_602 : BitVec 32 := 1#32
  let v1023 : BitVec 32 := Scalar.divsi v1021 c1_i32_602
  let v1024 : BitVec 32 := Scalar.muli v1023 c1_i32_602
  let v1025 : BitVec 32 := Scalar.addi c0_i32_601 v1024
  let c1_i32_604 : BitVec 32 := 1#32
  let arg21 : BitVec 32 := Scf.iv v1025 c1_i32_604 k0_t16
  let v3363 : Index := Scalar.indexCast arg21
  let c384_1645 : Index := 384#32
  let c0_1646 : Index := 0#32
  ![v3363.toNat, 384, 0]
def k0_off42 (i : grid0.Coords) (k0_t16 : Fin (k0_t16_loop i).trips) : Fin 3 → Nat :=
  let c0_i32_601 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v1021 : BitVec 32 := Scalar.subi v20 c0_i32_601
  let c1_i32_602 : BitVec 32 := 1#32
  let v1023 : BitVec 32 := Scalar.divsi v1021 c1_i32_602
  let v1024 : BitVec 32 := Scalar.muli v1023 c1_i32_602
  let v1025 : BitVec 32 := Scalar.addi c0_i32_601 v1024
  let c1_i32_604 : BitVec 32 := 1#32
  let arg21 : BitVec 32 := Scf.iv v1025 c1_i32_604 k0_t16
  let v3468 : Index := Scalar.indexCast arg21
  let c448_1716 : Index := 448#32
  let c0_1717 : Index := 0#32
  ![v3468.toNat, 448, 0]
def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Proof.RowFns.lean ====
/-
  One row of the layer's second half as functions of extended reals: the root-mean-square norm of a row of 1024
  values, the attention and pooling halves of the out-projection, the squared-ReLU block.
-/
module

public import Idealize.ShloMosaic.Lib.Pointwise

@[expose] public section

noncomputable section

namespace Cert.Row

open Idealize.ShloMosaic

/-- The factor of a row whose squares sum to `s`: one over the root of their mean plus the norm's small constant. -/
def scale (s : EReal) : EReal :=
  Ideal.rsqrt (Ideal.div s (Ideal.ofBits .f32 0x44800000#32) + Ideal.ofBits .f32 0x358637BD#32)

/-- The norm of the row `v` with the gains `g`. -/
def normRow (g v : Fin 1024 → EReal) (j : Fin 1024) : EReal := v j * scale (∑ k, v k * v k) * g j

/-- The out-projection of a row in two halves: `a` against the upper weights, `b` against the lower ones. -/
def mix (a b : Fin 512 → EReal) (wa wb : Fin 512 → Fin 1024 → EReal) (j : Fin 1024) : EReal :=
  ∑ k, a k * wa k j + ∑ k, b k * wb k j

/-- The first residual sum of a row. -/
def mid (x : Fin 1024 → EReal) (g : Fin 1024 → EReal) (v : Fin 1024 → EReal) (j : Fin 1024) : EReal :=
  x j + normRow g v j

/-- One hidden value of the block: the product of the row with a column, held at zero from below, squared. -/
def hid (h : Fin 1024 → EReal) (w : Fin 1024 → EReal) : EReal :=
  max (∑ k, h k * w k) 0 * max (∑ k, h k * w k) 0

/-- The block's result for a row: the hidden values against the second weights. -/
def ffn (h : Fin 1024 → EReal) (w1 : Fin 1024 → Fin 4096 → EReal) (w2 : Fin 4096 → Fin 1024 → EReal)
    (j : Fin 1024) : EReal :=
  ∑ n, hid h (fun k => w1 k n) * w2 n j

/-- A row of the layer's second half from the row's mixture `v`. -/
def postRow (x v g1 g2 g3 : Fin 1024 → EReal) (w1 : Fin 1024 → Fin 4096 → EReal) (w2 : Fin 4096 → Fin 1024 → EReal)
    (j : Fin 1024) : EReal :=
  mid x g1 v j + normRow g3 (ffn (normRow g2 (mid x g1 v)) w1 w2) j

end Cert.Row

end
-- ==== Proof.ProjFns.lean ====
/-
  The layer's first call as functions of extended reals: the turn of a head's leading lanes, and the pooling of a
  sequence over a window that reaches back from each position.
-/
module

public import proofs.«01_k».proof.Proof.RowFns

@[expose] public section

noncomputable section

namespace Cert.Row

open Idealize.ShloMosaic

/-- The turn of a pair of heads, lane by lane: the first eight lanes of a head meet the lanes eight above them, the
    others the lanes eight below; the tables `cs` and `sn` weigh the two. -/
def turn (cs sn z : Fin 128 → EReal) (l : Fin 128) : EReal :=
  z l * cs l
    + (if l.val % 64 < 8 then z ⟨(l.val + 128 - 120) % 128, Nat.mod_lt _ (by decide)⟩
        else z ⟨(l.val + 128 - 8) % 128, Nat.mod_lt _ (by decide)⟩) * sn l

/-- The sum of `g` over the `n` places that end at `a`. -/
def back (g : ℕ → EReal) (n a : ℕ) : EReal := ∑ j ∈ Finset.range n, g (a - j)

theorem back_one (g : ℕ → EReal) (a : ℕ) : back g 1 a = g a := by
  simp [back]

theorem back_add (g : ℕ → EReal) (n k a : ℕ) : back g (n + k) a = back g n a + back g k (a - n) := by
  unfold back
  rw [Finset.sum_range_add]
  simp only [Nat.sub_sub]

theorem back_two (g : ℕ → EReal) (a : ℕ) : back g 2 a = g a + g (a - 1) := by
  rw [back_add g 1 1, back_one, back_one]

theorem back_four (g : ℕ → EReal) (a : ℕ) : back g 4 a = back g 2 a + back g 2 (a - 2) := back_add g 2 2 a

theorem back_eight (g : ℕ → EReal) (a : ℕ) : back g 8 a = back g 4 a + back g 4 (a - 4) := back_add g 4 4 a

theorem back_sixteen (g : ℕ → EReal) (a : ℕ) : back g 16 a = back g 8 a + back g 8 (a - 8) := back_add g 8 8 a

/-- A step back that stays inside the 528 rows is not carried round. -/
theorem step_back {n d : ℕ} (h : d ≤ n) (hn : n < 528) : (n + 528 - d) % 528 = n - d := by omega

/-- The number of positions the window of width `w` holds at position `s`, as the two sides compute it. -/
def held (w : BitVec 32) (s : ℕ) : EReal :=
  FloatOps.sitofp (F := Ideal) FTy.f32 (IntOp.minsi (IntOp.addi (BitVec.ofNat 32 s) 1#32) w)

/-- The sum of the sequence `u` over the window of width `w` that ends at position `s`; before the start is zero. -/
def win (u : ℕ → EReal) (w s : ℕ) : EReal := ∑ j ∈ Finset.range w, if j ≤ s then u (s - j) else 0

/-- A running sum is the one `w` places earlier and the window between. -/
theorem run_split (u : ℕ → EReal) (w s : ℕ) :
    ∑ i ∈ Finset.range (s + 1), u i = ∑ i ∈ Finset.range (s + 1 - w), u i + win u w s := by
  induction w with
  | zero => simp [win]
  | succ w ih =>
    rw [ih]
    unfold win
    rw [Finset.sum_range_succ _ w]
    by_cases h : w ≤ s
    · rw [if_pos h, show s + 1 - w = (s - w) + 1 by omega, Finset.sum_range_succ,
        show s + 1 - (w + 1) = s - w by omega]
      ac_rfl
    · rw [if_neg h, show s + 1 - w = 0 by omega, show s + 1 - (w + 1) = 0 by omega, add_zero]

/-- A finite sum of reals, read in the extended reals. -/
theorem coe_sum {ι : Type*} (S : Finset ι) (r : ι → ℝ) : ((∑ i ∈ S, r i : ℝ) : EReal) = ∑ i ∈ S, (r i : EReal) := by
  classical
  induction S using Finset.induction_on with
  | empty => simp
  | insert a S ha ih => rw [Finset.sum_insert ha, Finset.sum_insert ha, EReal.coe_add, ih]

/-- The window is the difference of two running sums, where the earlier one is finite. -/
theorem win_eq_sub (u : ℕ → EReal) (w s : ℕ) (r : ℕ → ℝ) (hu : ∀ i, i ≤ s → u i = (r i : EReal)) :
    ∑ i ∈ Finset.range (s + 1), u i - ∑ i ∈ Finset.range (s + 1 - w), u i = win u w s := by
  rw [run_split u w s]
  have e : ∑ i ∈ Finset.range (s + 1 - w), u i = ((∑ i ∈ Finset.range (s + 1 - w), r i : ℝ) : EReal) := by
    rw [coe_sum]
    refine Finset.sum_congr rfl fun i hi => hu i ?_
    have := Finset.mem_range.mp hi
    omega
  rw [e]
  exact EReal.add_sub_cancel_left

/-- One value of the pooling mixer: the window's mean less the position's own value, through the group's weights. -/
def pooled (mean own : Fin 128 → EReal) (w : Fin 128 → EReal) (scale : EReal) : EReal :=
  (∑ x, (mean x - own x) * w x) * scale

end Cert.Row

end
-- ==== Proof.ProjBlock.lean ====
/-
  One block of the layer's first call: each of the body's values at a row and a column.
-/
module

public import proofs.«01_k».proof.Proof.Gen.ProjIdeal.Value
public import Idealize.ShloMosaic.Lib.Pipeline.ReadBack
public import Idealize.ShloMosaic.Lib.Pipeline.ValueKit
public import proofs.«01_k».proof.Proof.ProjFns

@[expose] public section

set_option maxRecDepth 16384

noncomputable section

namespace Cert.ProjIdeal.Block

open Cert.ProjIdeal Cert.ProjIdeal.Gen Idealize.ShloMosaic Idealize.ShloMosaic.TcCoe Idealize.SL.Sem
open Cert.Row

/-- A choice on a bit that a condition sets. -/
theorem select_ite {α : Type} (p : Prop) [Decidable p] (a b : α) :
    Scalar.select (if p then 1#1 else 0#1) a b = if p then a else b := by
  by_cases h : p <;> simp [h, Scalar.select]

/-- The lanes whose partner stands above them. -/
theorem pay10_at (r : Fin 512) (l : Fin 128) : k0_pay10 (ix2 r l) = if l.val % 64 < 8 then 1#1 else 0#1 := by
  pointwise [k0_pay10]
  revert l
  decide

/-- The normed row of the block. -/
theorem pay2_at (v10 : Vec Ideal S512x1024 .f32) (v12 : Vec Ideal S1x1024 .f32) (r : Fin 512) (k : Fin 1024) :
    k0_pay2 v10 v12 (ix2 r k) = normRow (fun j => v12 (ix2 0 j)) (fun j => v10 (ix2 r j)) k := by
  pointwise [k0_pay2]
  unfold normRow scale
  rfl

/-- A row of the block against a column of the weights. -/
theorem pay3_at (v10 : Vec Ideal S512x1024 .f32) (v12 : Vec Ideal S1x1024 .f32) (v27 : Vec Ideal S1024x512 .bf16) (r n : Fin 512) :
    k0_pay3 v10 v12 v27 (ix2 r n) = ∑ k, k0_pay2 v10 v12 (ix2 r k) * v27 (ix2 k n) := by
  unfold k0_pay3
  generalize k0_pay2 v10 v12 = h
  pointwise

theorem pay11_at (v26 : FVec Ideal S512x1024 .bf16) (v66 : Vec Ideal S1024x512 .bf16) (r n : Fin 512) :
    k0_pay11 v26 v66 (ix2 r n) = ∑ k, v26 (ix2 r k) * v66 (ix2 k n) := by
  pointwise [k0_pay11]

theorem pay19_at (v26 : FVec Ideal S512x1024 .bf16) (v66 : Vec Ideal S1024x512 .bf16) (r n : Fin 512) :
    k0_pay19 v26 v66 (ix2 r n) = ∑ k, v26 (ix2 r k) * v66 (ix2 k n) := by
  pointwise [k0_pay19]

theorem pay28_at (v26 : FVec Ideal S512x1024 .bf16) (v66 : Vec Ideal S1024x512 .bf16) (r n : Fin 512) :
    k0_pay28 v26 v66 (ix2 r n) = ∑ k, v26 (ix2 r k) * v66 (ix2 k n) := by
  pointwise [k0_pay28]

section Turns

variable (v43 v45 : FVec Ideal S512x128 .f32) (z : FVec Ideal S512x512 .f32) (r : Fin 512) (l : Fin 128)

theorem pay14_at : k0_pay14 (k0_pay8 v43) (k0_pay9 v45) k0_pay10 z (ix3 0 r l)
    = turn (fun d => v43 (ix2 r d)) (fun d => v45 (ix2 r d)) (fun d => z (ix2 r ⟨128 + d.val, by omega⟩)) l
      * Ideal.ofBits .f32 0x3E38AA3B#32 := by
  pointwise [k0_pay14, k0_pay8, k0_pay9, pay10_at, select_ite]
  rfl

theorem pay15_at : k0_pay15 (k0_pay8 v43) (k0_pay9 v45) k0_pay10 z (ix3 0 r l)
    = turn (fun d => v43 (ix2 r d)) (fun d => v45 (ix2 r d)) (fun d => z (ix2 r ⟨256 + d.val, by omega⟩)) l
      * Ideal.ofBits .f32 0x3E38AA3B#32 := by
  pointwise [k0_pay15, k0_pay8, k0_pay9, pay10_at, select_ite]
  rfl

theorem pay17_at : k0_pay17 (k0_pay16 (k0_pay8 v43) (k0_pay9 v45) k0_pay10 z) (Scalar.ofBits .f32 0x3E38AA3B#32) (ix3 0 r l)
    = turn (fun d => v43 (ix2 r d)) (fun d => v45 (ix2 r d)) (fun d => z (ix2 r ⟨384 + d.val, by omega⟩)) l
      * Ideal.ofBits .f32 0x3E38AA3B#32 := by
  pointwise [k0_pay17, k0_pay16, k0_pay8, k0_pay9, pay10_at, select_ite]
  rfl

theorem pay24_at : k0_pay24 (k0_pay8 v43) (k0_pay9 v45) k0_pay10 z (ix3 0 r l)
    = turn (fun d => v43 (ix2 r d)) (fun d => v45 (ix2 r d)) (fun d => z (ix2 r ⟨128 + d.val, by omega⟩)) l := by
  pointwise [k0_pay24, k0_pay8, k0_pay9, pay10_at, select_ite]
  rfl

theorem pay25_at : k0_pay25 (k0_pay8 v43) (k0_pay9 v45) k0_pay10 z (ix3 0 r l)
    = turn (fun d => v43 (ix2 r d)) (fun d => v45 (ix2 r d)) (fun d => z (ix2 r ⟨256 + d.val, by omega⟩)) l := by
  pointwise [k0_pay25, k0_pay8, k0_pay9, pay10_at, select_ite]
  rfl

theorem pay26_at : k0_pay26 (k0_pay8 v43) (k0_pay9 v45) k0_pay10 z (ix3 0 r l)
    = turn (fun d => v43 (ix2 r d)) (fun d => v45 (ix2 r d)) (fun d => z (ix2 r ⟨384 + d.val, by omega⟩)) l := by
  pointwise [k0_pay26, k0_pay8, k0_pay9, pay10_at, select_ite]
  rfl

theorem pay31_at : k0_pay31 (k0_pay8 v43) (k0_pay9 v45) k0_pay10 z (ix3 0 r l)
    = turn (fun d => v43 (ix2 r d)) (fun d => v45 (ix2 r d)) (fun d => z (ix2 r ⟨128 + d.val, by omega⟩)) l
      * Ideal.ofBits .f32 0x3E000000#32 := by
  pointwise [k0_pay31, k0_pay8, k0_pay9, pay10_at, select_ite]
  rfl

theorem pay32_at : k0_pay32 (k0_pay8 v43) (k0_pay9 v45) k0_pay10 z (ix3 0 r l)
    = turn (fun d => v43 (ix2 r d)) (fun d => v45 (ix2 r d)) (fun d => z (ix2 r ⟨256 + d.val, by omega⟩)) l
      * Ideal.ofBits .f32 0x3E000000#32 := by
  pointwise [k0_pay32, k0_pay8, k0_pay9, pay10_at, select_ite]
  rfl

theorem pay34_at : k0_pay34 (k0_pay33 (k0_pay8 v43) (k0_pay9 v45) k0_pay10 z) (ix3 0 r l)
    = turn (fun d => v43 (ix2 r d)) (fun d => v45 (ix2 r d)) (fun d => z (ix2 r ⟨384 + d.val, by omega⟩)) l
      * Ideal.ofBits .f32 0x3E000000#32 := by
  pointwise [k0_pay34, k0_pay33, k0_pay8, k0_pay9, pay10_at, select_ite]
  rfl

variable (h : FVec Ideal S512x1024 .bf16) (w : Vec Ideal S1024x512 .bf16)

theorem pay13_at : k0_pay13 (k0_pay12 h v43 v45 w) (Scalar.ofBits .f32 0x3E38AA3B#32) (ix3 0 r l)
    = turn (fun d => v43 (ix2 r d)) (fun d => v45 (ix2 r d)) (fun d => k0_pay11 h w (ix2 r ⟨d.val, by omega⟩)) l
      * Ideal.ofBits .f32 0x3E38AA3B#32 := by
  unfold k0_pay12
  generalize k0_pay11 h w = z
  pointwise [k0_pay13, k0_pay8, k0_pay9, pay10_at, select_ite]
  rfl

theorem pay23_at : k0_pay23 (k0_pay9 v45) (k0_pay21 h k0_pay10 w) (k0_pay22 h (k0_pay8 v43) w) (ix3 0 r l)
    = turn (fun d => v43 (ix2 r d)) (fun d => v45 (ix2 r d)) (fun d => k0_pay19 h w (ix2 r ⟨d.val, by omega⟩)) l := by
  unfold k0_pay21 k0_pay22 k0_pay20
  generalize k0_pay19 h w = z
  pointwise [k0_pay23, k0_pay8, k0_pay9, pay10_at, select_ite]
  rfl

theorem pay30_at : k0_pay30 (k0_pay29 h (k0_pay8 v43) (k0_pay9 v45) k0_pay10 w) (ix3 0 r l)
    = turn (fun d => v43 (ix2 r d)) (fun d => v45 (ix2 r d)) (fun d => k0_pay28 h w (ix2 r ⟨d.val, by omega⟩)) l
      * Ideal.ofBits .f32 0x3E000000#32 := by
  unfold k0_pay29
  generalize k0_pay28 h w = z
  pointwise [k0_pay30, k0_pay8, k0_pay9, pay10_at, select_ite]
  rfl

theorem pay39_at (w' : Vec Ideal S1024x128 .bf16) :
    k0_pay39 (k0_pay8 v43) (k0_pay9 v45) k0_pay10 (k0_pay36 h w') (k0_pay37 h w') (k0_pay38 h w') (ix2 r l)
    = turn (fun d => v43 (ix2 r d)) (fun d => v45 (ix2 r d)) (fun d => ∑ k, h (ix2 r k) * w' (ix2 k d)) l := by
  pointwise [k0_pay39, k0_pay36, k0_pay37, k0_pay38, k0_pay8, k0_pay9, pay10_at, select_ite]
  rfl

end Turns

theorem pay40_at (h : FVec Ideal S512x1024 .bf16) (w : Vec Ideal S512x1024 .bf16) (f r : Fin 512) :
    k0_pay40 h w (ix3 0 f r) = ∑ k, w (ix2 f k) * h (ix2 r k) := by
  pointwise [k0_pay40]

theorem pay41_at (h : FVec Ideal S512x1024 .bf16) (w : Vec Ideal S16x1024 .bf16) (j : Fin 16) (r : Fin 512) :
    k0_pay41 h w (ix2 j r) = (∑ k, w (ix2 j k) * h (ix2 r k)) * Ideal.ofBits .f32 0x3EB504F3#32 := by
  pointwise [k0_pay41]

/-- Row `r` of the point whose tile is the `q`-th of its sequence stands at position `q * 512 + r`. -/
theorem pay7_at (q : ℕ) (r : Fin 512) : k0_pay7 (BitVec.ofNat 32 q) (ix2 r 0) = BitVec.ofNat 32 (q * 512 + r.val) := by
  pointwise [k0_pay7]
  simp [IntOp.addi, Scalar.muli, IntOp.muli, BitVec.ofNat_add, BitVec.ofNat_mul]

/-- Adding to each row the one `d` rows above it doubles a window of `d` rows, where nothing is carried round. -/
theorem roll_at (d : ℕ) (h0 : 0 < d) (hd : d < 528) (b : FVec Ideal S528x128 .f32) (g : ℕ → EReal) (h : S528x128.Rotates 0 none)
    (x : Fin 128) (hb : ∀ n : Fin 528, d - 1 ≤ n.val → b (ix2 n x) = back g d n.val) (n : Fin 528) (hn : d + d - 1 ≤ n.val) :
    (addf b (dynamicRotate 0 (BitVec.ofNat 32 d) none b h) : FVec Ideal S528x128 .f32) (ix2 n x) = back g (d + d) n.val := by
  pointwise
  have e : (n.val + 528 - (BitVec.ofNat 32 d).toNat % 528) % 528 = n.val - d := by
    rw [BitVec.toNat_ofNat, Nat.mod_eq_of_lt (by omega : d < 2 ^ 32), Nat.mod_eq_of_lt hd]
    exact step_back (by omega) n.isLt
  simp only [e]
  rw [hb n (by omega), hb ⟨n.val - d, by omega⟩ (by dsimp only; omega), back_add]

section Pools

variable (u : FVec Ideal S512x512 .f32) (q : ℕ) (b : Vec Ideal S528x128 .f32) (w : Vec Ideal S1x128x128 .bf16)
  (s : Vec Ideal S1x128 .f32) (g : ℕ → Fin 128 → EReal) (hg : ∀ n x, b (ix2 n x) = g n.val x) (r : Fin 512) (l : Fin 128)

include hg

theorem pay18_at : k0_pay18 u (k0_pay7 (BitVec.ofNat 32 q)) b w s (ix2 r l)
    = pooled (fun x => Ideal.div (back (g · x) 2 (16 + r.val)) (held 2#32 (q * 512 + r.val)))
        (fun x => u (ix2 r ⟨x.val, by omega⟩)) (fun x => w (ix3 0 x l)) (s (ix2 0 l)) := by
  pointwise [k0_pay18]
  simp only [pay7_at, hg]
  simp (disch := omega) only [step_back]
  simp only [pooled, back_two, held]

theorem pay27_at : k0_pay27 u (k0_pay7 (BitVec.ofNat 32 q)) b w s (ix2 r l)
    = pooled (fun x => Ideal.div (back (g · x) 4 (16 + r.val)) (held 4#32 (q * 512 + r.val)))
        (fun x => u (ix2 r ⟨128 + x.val, by omega⟩)) (fun x => w (ix3 0 x l)) (s (ix2 0 l)) := by
  pointwise [k0_pay27]
  simp only [pay7_at, hg]
  simp (disch := omega) only [step_back]
  simp only [pooled, back_four, back_two, held]

theorem pay35_at : k0_pay35 u (k0_pay7 (BitVec.ofNat 32 q)) b w s (ix2 r l)
    = pooled (fun x => Ideal.div (back (g · x) 8 (16 + r.val)) (held 8#32 (q * 512 + r.val)))
        (fun x => u (ix2 r ⟨256 + x.val, by omega⟩)) (fun x => w (ix3 0 x l)) (s (ix2 0 l)) := by
  pointwise [k0_pay35]
  simp only [pay7_at, hg]
  simp (disch := omega) only [step_back]
  simp only [pooled, back_eight, back_four, back_two, held]

theorem pay44_at (x : Fin 128) : k0_pay44 b (ix2 r x) = back (g · x) 16 (16 + r.val) := by
  have hs : ∀ z : FVec Ideal S528x128 .f32, extractStridedSlice S512x128 ![16, 0] z slices_S528x128_o16_0_S512x128 (ix2 r x)
      = z (ix2 ⟨16 + r.val, by omega⟩ x) := by
    intro z
    pointwise
  unfold k0_pay44
  refine (hs _).trans (roll_at 8 (by decide) (by decide) _ _ _ x (roll_at 4 (by decide) (by decide) _ _ _ x
    (roll_at 2 (by decide) (by decide) _ _ _ x (roll_at 1 (by decide) (by decide) _ _ _ x fun n _ => ?_))) _ (by dsimp only; omega))
  rw [hg, back_one]

theorem pay1_at : k0_pay1 (k0_pay42 u) (k0_pay43 (k0_pay7 (BitVec.ofNat 32 q))) (k0_pay44 b) w s (ix2 r l)
    = pooled (fun x => Ideal.div (back (g · x) 16 (16 + r.val)) (held 16#32 (q * 512 + r.val)))
        (fun x => u (ix2 r ⟨384 + x.val, by omega⟩)) (fun x => w (ix3 0 x l)) (s (ix2 0 l)) := by
  have e := pay44_at b g hg r
  generalize k0_pay44 b = z at e ⊢
  pointwise [k0_pay1, k0_pay42, k0_pay43]
  simp only [pay7_at, e]
  simp only [pooled, held]

end Pools

end Cert.ProjIdeal.Block

end
-- ==== Proof.ProjOut.lean ====
/-
  What a point of the layer's first call leaves in each of its buffers, at an index.
-/
module

public import proofs.«01_k».proof.Proof.ProjBlock

@[expose] public section

set_option maxRecDepth 16384
set_option maxHeartbeats 1000000

noncomputable section

namespace Cert.ProjIdeal.Out

open Cert.ProjIdeal Cert.ProjIdeal.Gen Idealize.ShloMosaic Idealize.ShloMosaic.TcCoe Idealize.SL.Sem
open Cert.Row Cert.ProjIdeal.Block

variable (m : (ℓ : Loc nD τ sig) → Buf (Elt Ideal) ℓ) (c : Dev nD)

/-- The rows, the gain, the three weights and the two tables at point `t`. -/
abbrev xb (t : Fin cfg0.N) : Vec Ideal S512x1024 .f32 := iblk m c 0 t
abbrev gb (t : Fin cfg0.N) : Vec Ideal S1x1024 .f32 := iblk m c 1 t
abbrev wb (t : Fin cfg0.N) : Vec Ideal S1024x2176 .bf16 := iblk m c 2 t
abbrev vb (t : Fin cfg0.N) : Vec Ideal S512x1024 .bf16 := iblk m c 3 t
abbrev ib (t : Fin cfg0.N) : Vec Ideal S16x1024 .bf16 := iblk m c 4 t
abbrev cb (t : Fin cfg0.N) : Vec Ideal S512x128 .f32 := iblk m c 5 t
abbrev sb (t : Fin cfg0.N) : Vec Ideal S512x128 .f32 := iblk m c 6 t
abbrev pb (t : Fin cfg0.N) : Vec Ideal S4x128x128 .bf16 := iblk m c 7 t
abbrev ab (t : Fin cfg0.N) : Vec Ideal S1x512 .f32 := iblk m c 8 t

/-- The normed row `r` of point `t`'s rows. -/
def hrow (t : Fin cfg0.N) (r : Fin 512) : Fin 1024 → EReal :=
  normRow (fun j => gb m c t (ix2 0 j)) (fun j => xb m c t (ix2 r j))

/-- That row against column `n` of the weights. -/
def zcol (t : Fin cfg0.N) (r : Fin 512) (n : Fin 2176) : EReal :=
  ∑ k, hrow m c t r k * (wb m c t (ix2 k n) : EReal)

/-- A head pair of row `r` that starts at column `n`, turned. -/
def turned (t : Fin cfg0.N) (r : Fin 512) (n : ℕ) (hn : n + 128 ≤ 2176) (l : Fin 128) : EReal :=
  turn (fun d => cb m c t (ix2 r d)) (fun d => sb m c t (ix2 r d)) (fun d => zcol m c t r ⟨n + d.val, by omega⟩) l

theorem turn_congr {cs sn z z' : Fin 128 → EReal} (l : Fin 128) (h : ∀ d, z d = z' d) : turn cs sn z l = turn cs sn z' l := by
  rw [funext h]

theorem hrow_eq (t : Fin cfg0.N) (r : Fin 512) (k : Fin 1024) : k0_pay2 (iblk m c 0 t) (iblk m c 1 t) (ix2 r k) = hrow m c t r k :=
  pay2_at _ _ r k

theorem ix3_eq (x : S1x512x128.Idx) (r : Fin 512) (l : Fin 128) (h1 : r.val = (x 1).val) (h2 : l.val = (x 2).val) : x = ix3 0 r l := by
  funext a
  fin_cases a
  · exact Fin.ext (Nat.lt_one_iff.mp (x 0).isLt)
  · exact Fin.ext h1.symm
  · exact Fin.ext h2.symm

theorem zu (t : Fin cfg0.N) (r n : Fin 512) :
    k0_pay3 (iblk m c 0 t) (iblk m c 1 t) (View.ld (wb m c t) (Rect.unit ![0, 0] ![1024, 512] inb_S1024x2176_S1024x512_0_0)) (ix2 r n)
      = zcol m c t r ⟨0 + n.val, by omega⟩ := by
  rw [pay3_at]
  unfold zcol
  refine Finset.sum_congr rfl fun k _ => ?_
  rw [hrow_eq]
  congr 1
  pointwise

theorem zq (t : Fin cfg0.N) (r n : Fin 512) :
    k0_pay11 (k0_pay2 (iblk m c 0 t) (iblk m c 1 t)) (View.ld (wb m c t) (Rect.unit ![0, 512] ![1024, 512] inb_S1024x2176_S1024x512_0_512)) (ix2 r n)
      = zcol m c t r ⟨512 + n.val, by omega⟩ := by
  rw [pay11_at]
  unfold zcol
  refine Finset.sum_congr rfl fun k _ => ?_
  rw [hrow_eq]
  congr 1
  pointwise

theorem zk (t : Fin cfg0.N) (r n : Fin 512) :
    k0_pay19 (k0_pay2 (iblk m c 0 t) (iblk m c 1 t)) (View.ld (wb m c t) (Rect.unit ![0, 1024] ![1024, 512] inb_S1024x2176_S1024x512_0_1024)) (ix2 r n)
      = zcol m c t r ⟨1024 + n.val, by omega⟩ := by
  rw [pay19_at]
  unfold zcol
  refine Finset.sum_congr rfl fun k _ => ?_
  rw [hrow_eq]
  congr 1
  pointwise

theorem zi (t : Fin cfg0.N) (r n : Fin 512) :
    k0_pay28 (k0_pay2 (iblk m c 0 t) (iblk m c 1 t)) (View.ld (wb m c t) (Rect.unit ![0, 1536] ![1024, 512] inb_S1024x2176_S1024x512_0_1536)) (ix2 r n)
      = zcol m c t r ⟨1536 + n.val, by omega⟩ := by
  rw [pay28_at]
  unfold zcol
  refine Finset.sum_congr rfl fun k _ => ?_
  rw [hrow_eq]
  congr 1
  pointwise

/-- The values, one column of the block per row. -/
theorem out12_at (t : Fin cfg0.N) (f r : Fin 512) : (outsAt0 m c t.val t.isLt).2.2.2.1 (ix3 0 f r)
    = ∑ k, (vb m c t (ix2 f k) : EReal) * hrow m c t r k := by
  by_cases h0 : t.val % 8 = 0
  · rw [Gen.outsAt0_A m c t h0 (not_not.mpr h0)]
    frame_open
    simp (disch := decide) only [↓ View.readCov_skip, ↓ View.readCov_cons_toLoadRect, ↓ View.readCov_fill]
    frame_out
    simp only [pay40_at, hrow_eq]
  · rw [Gen.outsAt0_B m c t h0 h0]
    frame_open
    simp (disch := decide) only [↓ View.readCov_skip, ↓ View.readCov_cons_toLoadRect, ↓ View.readCov_fill]
    frame_out
    simp only [pay40_at, hrow_eq]

/-- The index weights, one column of the block per row. -/
theorem out15_at (t : Fin cfg0.N) (j : Fin 16) (r : Fin 512) : (outsAt0 m c t.val t.isLt).2.2.2.2.2.2.1 (ix2 j r)
    = (∑ k, (ib m c t (ix2 j k) : EReal) * hrow m c t r k) * Ideal.ofBits .f32 0x3EB504F3#32 := by
  by_cases h0 : t.val % 8 = 0
  · rw [Gen.outsAt0_A m c t h0 (not_not.mpr h0)]
    frame_open
    simp (disch := decide) only [↓ View.readCov_skip, ↓ View.readCov_cons_toLoadRect, ↓ View.readCov_fill]
    frame_out
    simp only [pay41_at, hrow_eq]
  · rw [Gen.outsAt0_B m c t h0 h0]
    frame_open
    simp (disch := decide) only [↓ View.readCov_skip, ↓ View.readCov_cons_toLoadRect, ↓ View.readCov_fill]
    frame_out
    simp only [pay41_at, hrow_eq]

/-- The index keys, twice side by side. -/
theorem out14_at (t : Fin cfg0.N) (r : Fin 512) (l : Fin 128) : (outsAt0 m c t.val t.isLt).2.2.2.2.2.1 (ix2 r l)
    = turned m c t r 2048 (by decide) l := by
  by_cases h0 : t.val % 8 = 0
  · rw [Gen.outsAt0_A m c t h0 (not_not.mpr h0)]
    frame_open
    simp (disch := decide) only [↓ View.readCov_skip, ↓ View.readCov_cons_toLoadRect, ↓ View.readCov_fill]
    frame_out
    rw [pay39_at]
    refine turn_congr l fun d => ?_
    unfold zcol
    refine Finset.sum_congr rfl fun k _ => ?_
    rw [hrow_eq]
    congr 1
    pointwise
  · rw [Gen.outsAt0_B m c t h0 h0]
    frame_open
    simp (disch := decide) only [↓ View.readCov_skip, ↓ View.readCov_cons_toLoadRect, ↓ View.readCov_fill]
    frame_out
    rw [pay39_at]
    refine turn_congr l fun d => ?_
    unfold zcol
    refine Finset.sum_congr rfl fun k _ => ?_
    rw [hrow_eq]
    congr 1
    pointwise

/-- The queries, a head pair per leading index. -/
theorem out10_at (t : Fin cfg0.N) (p : Fin 4) (r : Fin 512) (l : Fin 128) : (outsAt0 m c t.val t.isLt).2.1 (ix3 p r l)
    = turned m c t r (512 + 128 * p.val) (by omega) l * Ideal.ofBits .f32 0x3E38AA3B#32 := by
  by_cases hc : t.val % 8 = 0
  · rw [Gen.outsAt0_A m c t hc (not_not.mpr hc)]
    frame_open
    simp (disch := decide) only [↓ View.readCov_skip, ↓ View.readCov_cons_toLoadRect, ↓ View.readCov_fill]
    frame_out
    canon_tiles x h
    · obtain rfl : p = 3 := Fin.ext (by have e : p.val = 3 + (x 0).val := h0; omega)
      rw [ix3_eq x r l h1 h2]
      refine (pay17_at _ _ _ r l).trans ?_
      refine congrArg (· * _) (turn_congr l fun d => ?_)
      exact (zq m c t r _).trans (congrArg (zcol m c t r) (Fin.ext (by dsimp only [Fin.val_ofNat]; omega)))
    · obtain rfl : p = 2 := Fin.ext (by have e : p.val = 2 + (x 0).val := h0; omega)
      rw [ix3_eq x r l h1 h2]
      refine (pay15_at _ _ _ r l).trans ?_
      refine congrArg (· * _) (turn_congr l fun d => ?_)
      exact (zq m c t r _).trans (congrArg (zcol m c t r) (Fin.ext (by dsimp only [Fin.val_ofNat]; omega)))
    · obtain rfl : p = 1 := Fin.ext (by have e : p.val = 1 + (x 0).val := h0; omega)
      rw [ix3_eq x r l h1 h2]
      refine (pay14_at _ _ _ r l).trans ?_
      refine congrArg (· * _) (turn_congr l fun d => ?_)
      exact (zq m c t r _).trans (congrArg (zcol m c t r) (Fin.ext (by dsimp only [Fin.val_ofNat]; omega)))
    · obtain rfl : p = 0 := Fin.ext (by have e : p.val = (x 0).val := h0; omega)
      rw [ix3_eq x r l h1 h2]
      refine (pay13_at _ _ r l _ _).trans ?_
      refine congrArg (· * _) (turn_congr l fun d => ?_)
      exact (zq m c t r _).trans (congrArg (zcol m c t r) (Fin.ext (by dsimp only [Fin.val_ofNat]; omega)))
  · rw [Gen.outsAt0_B m c t hc hc]
    frame_open
    simp (disch := decide) only [↓ View.readCov_skip, ↓ View.readCov_cons_toLoadRect, ↓ View.readCov_fill]
    frame_out
    canon_tiles x h
    · obtain rfl : p = 3 := Fin.ext (by have e : p.val = 3 + (x 0).val := h0; omega)
      rw [ix3_eq x r l h1 h2]
      refine (pay17_at _ _ _ r l).trans ?_
      refine congrArg (· * _) (turn_congr l fun d => ?_)
      exact (zq m c t r _).trans (congrArg (zcol m c t r) (Fin.ext (by dsimp only [Fin.val_ofNat]; omega)))
    · obtain rfl : p = 2 := Fin.ext (by have e : p.val = 2 + (x 0).val := h0; omega)
      rw [ix3_eq x r l h1 h2]
      refine (pay15_at _ _ _ r l).trans ?_
      refine congrArg (· * _) (turn_congr l fun d => ?_)
      exact (zq m c t r _).trans (congrArg (zcol m c t r) (Fin.ext (by dsimp only [Fin.val_ofNat]; omega)))
    · obtain rfl : p = 1 := Fin.ext (by have e : p.val = 1 + (x 0).val := h0; omega)
      rw [ix3_eq x r l h1 h2]
      refine (pay14_at _ _ _ r l).trans ?_
      refine congrArg (· * _) (turn_congr l fun d => ?_)
      exact (zq m c t r _).trans (congrArg (zcol m c t r) (Fin.ext (by dsimp only [Fin.val_ofNat]; omega)))
    · obtain rfl : p = 0 := Fin.ext (by have e : p.val = (x 0).val := h0; omega)
      rw [ix3_eq x r l h1 h2]
      refine (pay13_at _ _ r l _ _).trans ?_
      refine congrArg (· * _) (turn_congr l fun d => ?_)
      exact (zq m c t r _).trans (congrArg (zcol m c t r) (Fin.ext (by dsimp only [Fin.val_ofNat]; omega)))

/-- The keys, a head pair per leading index. -/
theorem out11_at (t : Fin cfg0.N) (p : Fin 4) (r : Fin 512) (l : Fin 128) : (outsAt0 m c t.val t.isLt).2.2.1 (ix3 p r l)
    = turned m c t r (1024 + 128 * p.val) (by omega) l := by
  by_cases hc : t.val % 8 = 0
  · rw [Gen.outsAt0_A m c t hc (not_not.mpr hc)]
    frame_open
    simp (disch := decide) only [↓ View.readCov_skip, ↓ View.readCov_cons_toLoadRect, ↓ View.readCov_fill]
    frame_out
    canon_tiles x h
    · obtain rfl : p = 3 := Fin.ext (by have e : p.val = 3 + (x 0).val := h0; omega)
      rw [ix3_eq x r l h1 h2]
      refine (pay26_at _ _ _ r l).trans ?_
      refine turn_congr l fun d => ?_
      exact (zk m c t r _).trans (congrArg (zcol m c t r) (Fin.ext (by dsimp only [Fin.val_ofNat]; omega)))
    · obtain rfl : p = 2 := Fin.ext (by have e : p.val = 2 + (x 0).val := h0; omega)
      rw [ix3_eq x r l h1 h2]
      refine (pay25_at _ _ _ r l).trans ?_
      refine turn_congr l fun d => ?_
      exact (zk m c t r _).trans (congrArg (zcol m c t r) (Fin.ext (by dsimp only [Fin.val_ofNat]; omega)))
    · obtain rfl : p = 1 := Fin.ext (by have e : p.val = 1 + (x 0).val := h0; omega)
      rw [ix3_eq x r l h1 h2]
      refine (pay24_at _ _ _ r l).trans ?_
      refine turn_congr l fun d => ?_
      exact (zk m c t r _).trans (congrArg (zcol m c t r) (Fin.ext (by dsimp only [Fin.val_ofNat]; omega)))
    · obtain rfl : p = 0 := Fin.ext (by have e : p.val = (x 0).val := h0; omega)
      rw [ix3_eq x r l h1 h2]
      refine (pay23_at _ _ r l _ _).trans ?_
      refine turn_congr l fun d => ?_
      exact (zk m c t r _).trans (congrArg (zcol m c t r) (Fin.ext (by dsimp only [Fin.val_ofNat]; omega)))
  · rw [Gen.outsAt0_B m c t hc hc]
    frame_open
    simp (disch := decide) only [↓ View.readCov_skip, ↓ View.readCov_cons_toLoadRect, ↓ View.readCov_fill]
    frame_out
    canon_tiles x h
    · obtain rfl : p = 3 := Fin.ext (by have e : p.val = 3 + (x 0).val := h0; omega)
      rw [ix3_eq x r l h1 h2]
      refine (pay26_at _ _ _ r l).trans ?_
      refine turn_congr l fun d => ?_
      exact (zk m c t r _).trans (congrArg (zcol m c t r) (Fin.ext (by dsimp only [Fin.val_ofNat]; omega)))
    · obtain rfl : p = 2 := Fin.ext (by have e : p.val = 2 + (x 0).val := h0; omega)
      rw [ix3_eq x r l h1 h2]
      refine (pay25_at _ _ _ r l).trans ?_
      refine turn_congr l fun d => ?_
      exact (zk m c t r _).trans (congrArg (zcol m c t r) (Fin.ext (by dsimp only [Fin.val_ofNat]; omega)))
    · obtain rfl : p = 1 := Fin.ext (by have e : p.val = 1 + (x 0).val := h0; omega)
      rw [ix3_eq x r l h1 h2]
      refine (pay24_at _ _ _ r l).trans ?_
      refine turn_congr l fun d => ?_
      exact (zk m c t r _).trans (congrArg (zcol m c t r) (Fin.ext (by dsimp only [Fin.val_ofNat]; omega)))
    · obtain rfl : p = 0 := Fin.ext (by have e : p.val = (x 0).val := h0; omega)
      rw [ix3_eq x r l h1 h2]
      refine (pay23_at _ _ r l _ _).trans ?_
      refine turn_congr l fun d => ?_
      exact (zk m c t r _).trans (congrArg (zcol m c t r) (Fin.ext (by dsimp only [Fin.val_ofNat]; omega)))

/-- The index queries, a head pair per leading index. -/
theorem out13_at (t : Fin cfg0.N) (p : Fin 4) (r : Fin 512) (l : Fin 128) : (outsAt0 m c t.val t.isLt).2.2.2.2.1 (ix3 p r l)
    = turned m c t r (1536 + 128 * p.val) (by omega) l * Ideal.ofBits .f32 0x3E000000#32 := by
  by_cases hc : t.val % 8 = 0
  · rw [Gen.outsAt0_A m c t hc (not_not.mpr hc)]
    frame_open
    simp (disch := decide) only [↓ View.readCov_skip, ↓ View.readCov_cons_toLoadRect, ↓ View.readCov_fill]
    frame_out
    canon_tiles x h
    · obtain rfl : p = 3 := Fin.ext (by have e : p.val = 3 + (x 0).val := h0; omega)
      rw [ix3_eq x r l h1 h2]
      refine (pay34_at _ _ _ r l).trans ?_
      refine congrArg (· * _) (turn_congr l fun d => ?_)
      exact (zi m c t r _).trans (congrArg (zcol m c t r) (Fin.ext (by dsimp only [Fin.val_ofNat]; omega)))
    · obtain rfl : p = 2 := Fin.ext (by have e : p.val = 2 + (x 0).val := h0; omega)
      rw [ix3_eq x r l h1 h2]
      refine (pay32_at _ _ _ r l).trans ?_
      refine congrArg (· * _) (turn_congr l fun d => ?_)
      exact (zi m c t r _).trans (congrArg (zcol m c t r) (Fin.ext (by dsimp only [Fin.val_ofNat]; omega)))
    · obtain rfl : p = 1 := Fin.ext (by have e : p.val = 1 + (x 0).val := h0; omega)
      rw [ix3_eq x r l h1 h2]
      refine (pay31_at _ _ _ r l).trans ?_
      refine congrArg (· * _) (turn_congr l fun d => ?_)
      exact (zi m c t r _).trans (congrArg (zcol m c t r) (Fin.ext (by dsimp only [Fin.val_ofNat]; omega)))
    · obtain rfl : p = 0 := Fin.ext (by have e : p.val = (x 0).val := h0; omega)
      rw [ix3_eq x r l h1 h2]
      refine (pay30_at _ _ r l _ _).trans ?_
      refine congrArg (· * _) (turn_congr l fun d => ?_)
      exact (zi m c t r _).trans (congrArg (zcol m c t r) (Fin.ext (by dsimp only [Fin.val_ofNat]; omega)))
  · rw [Gen.outsAt0_B m c t hc hc]
    frame_open
    simp (disch := decide) only [↓ View.readCov_skip, ↓ View.readCov_cons_toLoadRect, ↓ View.readCov_fill]
    frame_out
    canon_tiles x h
    · obtain rfl : p = 3 := Fin.ext (by have e : p.val = 3 + (x 0).val := h0; omega)
      rw [ix3_eq x r l h1 h2]
      refine (pay34_at _ _ _ r l).trans ?_
      refine congrArg (· * _) (turn_congr l fun d => ?_)
      exact (zi m c t r _).trans (congrArg (zcol m c t r) (Fin.ext (by dsimp only [Fin.val_ofNat]; omega)))
    · obtain rfl : p = 2 := Fin.ext (by have e : p.val = 2 + (x 0).val := h0; omega)
      rw [ix3_eq x r l h1 h2]
      refine (pay32_at _ _ _ r l).trans ?_
      refine congrArg (· * _) (turn_congr l fun d => ?_)
      exact (zi m c t r _).trans (congrArg (zcol m c t r) (Fin.ext (by dsimp only [Fin.val_ofNat]; omega)))
    · obtain rfl : p = 1 := Fin.ext (by have e : p.val = 1 + (x 0).val := h0; omega)
      rw [ix3_eq x r l h1 h2]
      refine (pay31_at _ _ _ r l).trans ?_
      refine congrArg (· * _) (turn_congr l fun d => ?_)
      exact (zi m c t r _).trans (congrArg (zcol m c t r) (Fin.ext (by dsimp only [Fin.val_ofNat]; omega)))
    · obtain rfl : p = 0 := Fin.ext (by have e : p.val = (x 0).val := h0; omega)
      rw [ix3_eq x r l h1 h2]
      refine (pay30_at _ _ r l _ _).trans ?_
      refine congrArg (· * _) (turn_congr l fun d => ?_)
      exact (zi m c t r _).trans (congrArg (zcol m c t r) (Fin.ext (by dsimp only [Fin.val_ofNat]; omega)))

end Cert.ProjIdeal.Out

end
-- ==== Proof.ProjPool.lean ====
/-
  The pooling mixer of the layer's first call: the rows that a point keeps for the next one, and the pooled block.
-/
module

public import proofs.«01_k».proof.Proof.ProjOut

@[expose] public section

set_option maxRecDepth 16384
set_option maxHeartbeats 1000000

noncomputable section

namespace Cert.ProjIdeal.Pool

open Cert.ProjIdeal Cert.ProjIdeal.Gen Idealize.ShloMosaic Idealize.ShloMosaic.TcCoe Idealize.SL.Sem
open Cert.Row Cert.ProjIdeal.Block Cert.ProjIdeal.Out

variable (m : (ℓ : Loc nD τ sig) → Buf (Elt Ideal) ℓ) (c : Dev nD)

/-- Sixteen rows above a block of 512, stored one after the other, read at row `n`. -/
theorem stacked_at (hi : Vec Ideal S512x512 .f32) (lo : Vec Ideal S16x512 .f32) (n : Fin 528) (x : Fin 512) :
    View.canon (Val := Elt Ideal) (e := .f32) [⟨Rect.unit (s := S528x512) ![16, 0] ![512, 512] inb_S528x512_S512x512_16_0, hi⟩,
        ⟨Rect.unit (s := S528x512) ![0, 0] ![16, 512] inb_S528x512_S16x512_0_0, lo⟩] (ix2 n x)
      = if h : n.val < 16 then lo (ix2 ⟨n.val, h⟩ x) else hi (ix2 ⟨n.val - 16, by omega⟩ x) := by
  by_cases h : n.val < 16
  · rw [dif_pos h, View.canon_cons_of_not_mem]
    · refine Eq.trans (congrArg (View.canon _) (?_ : _ = (Rect.unit (s := S528x512) ![0, 0] ![16, 512] inb_S528x512_S16x512_0_0).emb (ix2 ⟨n.val, h⟩ x)))
        (View.canon_cons_emb (Val := Elt Ideal) (e := .f32) (Rect.unit (s := S528x512) ![0, 0] ![16, 512] inb_S528x512_S16x512_0_0) lo _ _)
      funext a
      fin_cases a
      · exact Fin.ext (by show n.val = 0 + 1 * n.val; omega)
      · exact Fin.ext (by show x.val = 0 + 1 * x.val; omega)
    · rw [Rect.mem_set_unit]
      intro hm
      have h0 : 16 ≤ n.val := (hm 0).1
      omega
  · rw [dif_neg h]
    refine Eq.trans (congrArg (View.canon _) (?_ : _ = (Rect.unit (s := S528x512) ![16, 0] ![512, 512] inb_S528x512_S512x512_16_0).emb (ix2 ⟨n.val - 16, by omega⟩ x)))
      (View.canon_cons_emb (Val := Elt Ideal) (e := .f32) (Rect.unit (s := S528x512) ![16, 0] ![512, 512] inb_S528x512_S512x512_16_0) hi _ _)
    funext a
    fin_cases a
    · exact Fin.ext (by show n.val = 16 + 1 * (n.val - 16); omega)
    · exact Fin.ext (by show x.val = 0 + 1 * x.val; omega)

theorem pay6_eq (u : FVec Ideal S512x512 .f32) : k0_pay6 u = u := by
  unfold k0_pay6
  exact shapeCast_self _ _

theorem pay5_eq (u : Vec Ideal S16x512 .f32) : k0_pay5 u = u := by
  unfold k0_pay5
  exact shapeCast_self _ _

theorem pay4_at (n : Fin 16) (x : Fin 512) : (k0_pay4 : FVec Ideal S16x512 .f32) (ix2 n x) = 0 := by
  pointwise [k0_pay4]

/-- The point before. -/
abbrev prev (t : Fin cfg0.N) : Fin cfg0.N := ⟨t.val - 1, Nat.lt_of_le_of_lt (Nat.sub_le _ _) t.isLt⟩

/-- The kept rows after point `t`: the block's own, below the last sixteen of the point before in the same sequence. -/
def rows (t : Fin cfg0.N) (n : ℕ) (x : Fin 512) : EReal :=
  if n < 16 then (if t.val % 8 = 0 then 0 else zcol m c (prev t) ⟨(496 + n) % 512, Nat.mod_lt _ (by decide)⟩ ⟨x.val, by omega⟩)
  else zcol m c t ⟨(n - 16) % 512, Nat.mod_lt _ (by decide)⟩ ⟨x.val, by omega⟩

theorem zu' (t : Fin cfg0.N) (r n : Fin 512) :
    k0_pay3 (iblk m c 0 t) (iblk m c 1 t) (View.ld (wb m c t) (Rect.unit ![0, 0] ![1024, 512] inb_S1024x2176_S1024x512_0_0)) (ix2 r n)
      = zcol m c t r ⟨n.val, by omega⟩ :=
  (zu m c t r n).trans (congrArg (zcol m c t r) (Fin.ext (Nat.zero_add _)))

/-- A row of the block among the kept rows, at any point. -/
theorem kept_own (t : Fin cfg0.N) (n : Fin 528) (hn : 16 ≤ n.val) (x : Fin 512) :
    (outsAt0 m c t.val t.isLt).2.2.2.2.2.2.2 (ix2 n x) = zcol m c t ⟨n.val - 16, by omega⟩ ⟨x.val, by omega⟩ := by
  by_cases hc : t.val % 8 = 0
  · rw [Gen.outsAt0_A m c t hc (not_not.mpr hc)]
    frame_open
    simp (disch := decide) only [↓ View.readCov_skip, ↓ View.readCov_cons_toLoadRect, ↓ View.readCov_fill]
    frame_out
    refine (stacked_at _ _ n x).trans ?_
    rw [dif_neg (by omega), pay6_eq]
    exact zu' m c t _ x
  · rw [Gen.outsAt0_B m c t hc hc]
    frame_open
    simp (disch := decide) only [↓ View.readCov_skip, ↓ View.readCov_cons_toLoadRect, ↓ View.readCov_fill]
    frame_out
    refine (stacked_at _ _ n x).trans ?_
    rw [dif_neg (by omega), pay6_eq]
    exact zu' m c t _ x

/-- What the first point of a sequence stacks is the kept rows. -/
theorem stack_A (t : Fin cfg0.N) (hc : t.val % 8 = 0) (n : Fin 528) (x : Fin 512) :
    View.canon (Val := Elt Ideal) (e := .f32) [⟨Rect.unit (s := S528x512) ![16, 0] ![512, 512] inb_S528x512_S512x512_16_0, k0_pay6
            (k0_pay3 (iblk m c 0 t) (iblk m c 1 t)
              (View.ld (iblk m c 2 t) (Rect.unit ![0, 0] ![1024, 512] inb_S1024x2176_S1024x512_0_0)))⟩,
        ⟨Rect.unit (s := S528x512) ![0, 0] ![16, 512] inb_S528x512_S16x512_0_0, (k0_pay4 : FVec Ideal S16x512 .f32)⟩] (ix2 n x)
      = rows m c t n.val x := by
  rw [stacked_at]
  unfold rows
  by_cases h : n.val < 16
  · rw [dif_pos h, if_pos h, if_pos hc, pay4_at]
  · rw [dif_neg h, if_neg h, pay6_eq]
    exact (zu' m c t _ x).trans (congrArg (fun r => zcol m c t r _) (Fin.ext (Nat.mod_eq_of_lt (by omega)).symm))

/-- What a later point stacks is the kept rows. -/
theorem stack_B (t : Fin cfg0.N) (hc : ¬t.val % 8 = 0) (n : Fin 528) (x : Fin 512) :
    View.canon (Val := Elt Ideal) (e := .f32) [⟨Rect.unit (s := S528x512) ![16, 0] ![512, 512] inb_S528x512_S512x512_16_0, k0_pay6
            (k0_pay3 (iblk m c 0 t) (iblk m c 1 t)
              (View.ld (iblk m c 2 t) (Rect.unit ![0, 0] ![1024, 512] inb_S1024x2176_S1024x512_0_0)))⟩,
        ⟨Rect.unit (s := S528x512) ![0, 0] ![16, 512] inb_S528x512_S16x512_0_0, k0_pay5
              (View.ld (outsAt0 m c (prev t).val (prev t).isLt).2.2.2.2.2.2.2
                (Rect.unit ![512, 0] ![16, 512] inb_S528x512_S16x512_512_0))⟩] (ix2 n x)
      = rows m c t n.val x := by
  rw [stacked_at]
  unfold rows
  by_cases h : n.val < 16
  · rw [dif_pos h, if_pos h, if_neg hc, pay5_eq]
    have e : View.ld (outsAt0 m c (prev t).val (prev t).isLt).2.2.2.2.2.2.2
        (Rect.unit ![512, 0] ![16, 512] inb_S528x512_S16x512_512_0) (ix2 ⟨n.val, h⟩ x)
        = (outsAt0 m c (prev t).val (prev t).isLt).2.2.2.2.2.2.2 (ix2 ⟨512 + n.val, by omega⟩ x) := by
      generalize (outsAt0 m c (prev t).val (prev t).isLt).2.2.2.2.2.2.2 = z
      pointwise
    refine e.trans ((kept_own m c (prev t) _ (by dsimp only; omega) x).trans ?_)
    exact congrArg (fun r => zcol m c (prev t) r _) (Fin.ext (by dsimp only; omega))
  · rw [dif_neg h, if_neg h, pay6_eq]
    exact (zu' m c t _ x).trans (congrArg (fun r => zcol m c t r _) (Fin.ext (Nat.mod_eq_of_lt (by omega)).symm))

/-- The place of a point's tile in its sequence, as the body computes it. -/
theorem tile_word : ∀ t : Fin cfg0.N,
    Scalar.select
      (Scalar.andi
        (Scalar.xori (Scalar.cmpi CmpIPredicate.slt (Scalar.remsi (BitVec.ofNat 32 (grid0.coords t 0).val) 8#32) 0#32) 0#1)
        (Scalar.cmpi CmpIPredicate.ne (Scalar.remsi (BitVec.ofNat 32 (grid0.coords t 0).val) 8#32) 0#32))
      (Scalar.addi (Scalar.remsi (BitVec.ofNat 32 (grid0.coords t 0).val) 8#32) 8#32)
      (Scalar.remsi (BitVec.ofNat 32 (grid0.coords t 0).val) 8#32) = BitVec.ofNat 32 (t.val % 8) :=
  (by decide +kernel : ∀ t : Fin grid0.N,
    Scalar.select
      (Scalar.andi
        (Scalar.xori (Scalar.cmpi CmpIPredicate.slt (Scalar.remsi (BitVec.ofNat 32 (grid0.coords t 0).val) 8#32) 0#32) 0#1)
        (Scalar.cmpi CmpIPredicate.ne (Scalar.remsi (BitVec.ofNat 32 (grid0.coords t 0).val) 8#32) 0#32))
      (Scalar.addi (Scalar.remsi (BitVec.ofNat 32 (grid0.coords t 0).val) 8#32) 8#32)
      (Scalar.remsi (BitVec.ofNat 32 (grid0.coords t 0).val) 8#32) = BitVec.ofNat 32 (t.val % 8))

/-- A value of the pooled block at row `r`, of group `g` and lane `l` of the group. -/
def poolAt (t : Fin cfg0.N) (r : Fin 512) (g : Fin 4) (l : Fin 128) : EReal :=
  pooled (fun x => Ideal.div (back (fun n => rows m c t n ⟨128 * g.val + x.val, by omega⟩) (2 ^ (g.val + 1)) (16 + r.val))
        (held (BitVec.ofNat 32 (2 ^ (g.val + 1))) (t.val % 8 * 512 + r.val)))
    (fun x => zcol m c t r ⟨128 * g.val + x.val, by omega⟩) (fun x => pb m c t (ix3 g x l)) (ab m c t (ix2 0 ⟨128 * g.val + l.val, by omega⟩))

theorem ix2_eq (x : S512x128.Idx) (r : Fin 512) (l : Fin 128) (h0 : r.val = (x 0).val) (h1 : l.val = (x 1).val) : x = ix2 r l := by
  funext a
  fin_cases a
  · exact Fin.ext h0.symm
  · exact Fin.ext h1.symm

theorem pooled_congr {a a' b b' w w' : Fin 128 → EReal} {s s' : EReal} (ha : ∀ x, a x = a' x) (hb : ∀ x, b x = b' x)
    (hw : ∀ x, w x = w' x) (hs : s = s') : pooled a b w s = pooled a' b' w' s' := by
  rw [funext ha, funext hb, funext hw, hs]

theorem piece0_at (t : Fin cfg0.N) (L : List (View.Piece (Elt Ideal) S528x512 .f32))
    (hL : ∀ (n : Fin 528) (x : Fin 512), View.canon L (ix2 n x) = rows m c t n.val x) (r : Fin 512) (l : Fin 128) :
    k0_pay18 (k0_pay3 (iblk m c 0 t) (iblk m c 1 t) (View.ld (iblk m c 2 t) (Rect.unit ![0, 0] ![1024, 512] inb_S1024x2176_S1024x512_0_0))) (k0_pay7 (BitVec.ofNat 32 (t.val % 8)))
        ((View.whole cc0_scratch0).readCov L (Rect.unit (s := S528x512) ![0, 0] ![528, 128] inb_S528x512_S528x128_0_0).toLoadRect)
        (View.ld (iblk m c 7 t) (Rect.unit (s := S4x128x128) ![0, 0, 0] ![1, 128, 128] inb_S4x128x128_S1x128x128_0_0_0))
        (View.ld (iblk m c 8 t) (Rect.unit (s := S1x512) ![0, 0] ![1, 128] inb_S1x512_S1x128_0_0)) (ix2 r l) = poolAt m c t r 0 l := by
  refine (pay18_at _ _ _ _ _ (fun n x => rows m c t n ⟨128 * (0 : Fin 4).val + x.val, by omega⟩) ?_ r l).trans ?_
  · intro n x
    rw [View.readCov_eq_canon']
    refine Eq.trans (congrArg (View.canon _) (?_ : _ = ix2 n ⟨128 * (0 : Fin 4).val + x.val, by omega⟩)) (hL n _)
    funext a
    fin_cases a
    · exact Fin.ext (by show 0 + 1 * n.val = n.val; omega)
    · exact Fin.ext (by show 0 + 1 * x.val = 128 * 0 + x.val; omega)
  · unfold poolAt
    refine pooled_congr (fun x => ?_) (fun x => ?_) (fun x => ?_) ?_
    · rfl
    · exact (zu' m c t r _).trans (congrArg (zcol m c t r) (Fin.ext (by show x.val = 128 * 0 + x.val; omega)))
    · pointwise
    · pointwise

theorem piece1_at (t : Fin cfg0.N) (L : List (View.Piece (Elt Ideal) S528x512 .f32))
    (hL : ∀ (n : Fin 528) (x : Fin 512), View.canon L (ix2 n x) = rows m c t n.val x) (r : Fin 512) (l : Fin 128) :
    k0_pay27 (k0_pay3 (iblk m c 0 t) (iblk m c 1 t) (View.ld (iblk m c 2 t) (Rect.unit ![0, 0] ![1024, 512] inb_S1024x2176_S1024x512_0_0))) (k0_pay7 (BitVec.ofNat 32 (t.val % 8)))
        ((View.whole cc0_scratch0).readCov L (Rect.unit (s := S528x512) ![0, 128] ![528, 128] inb_S528x512_S528x128_0_128).toLoadRect)
        (View.ld (iblk m c 7 t) (Rect.unit (s := S4x128x128) ![1, 0, 0] ![1, 128, 128] inb_S4x128x128_S1x128x128_1_0_0))
        (View.ld (iblk m c 8 t) (Rect.unit (s := S1x512) ![0, 128] ![1, 128] inb_S1x512_S1x128_0_128)) (ix2 r l) = poolAt m c t r 1 l := by
  refine (pay27_at _ _ _ _ _ (fun n x => rows m c t n ⟨128 + x.val, by omega⟩) ?_ r l).trans ?_
  · intro n x
    rw [View.readCov_eq_canon']
    refine Eq.trans (congrArg (View.canon _) (?_ : _ = ix2 n ⟨128 + x.val, by omega⟩)) (hL n _)
    funext a
    fin_cases a
    · exact Fin.ext (by show 0 + 1 * n.val = n.val; omega)
    · exact Fin.ext (by show 128 + 1 * x.val = 128 + x.val; omega)
  · unfold poolAt
    refine pooled_congr (fun x => ?_) (fun x => ?_) (fun x => ?_) ?_
    · rfl
    · exact zu' m c t r _
    · pointwise
    · pointwise

theorem piece2_at (t : Fin cfg0.N) (L : List (View.Piece (Elt Ideal) S528x512 .f32))
    (hL : ∀ (n : Fin 528) (x : Fin 512), View.canon L (ix2 n x) = rows m c t n.val x) (r : Fin 512) (l : Fin 128) :
    k0_pay35 (k0_pay3 (iblk m c 0 t) (iblk m c 1 t) (View.ld (iblk m c 2 t) (Rect.unit ![0, 0] ![1024, 512] inb_S1024x2176_S1024x512_0_0))) (k0_pay7 (BitVec.ofNat 32 (t.val % 8)))
        ((View.whole cc0_scratch0).readCov L (Rect.unit (s := S528x512) ![0, 256] ![528, 128] inb_S528x512_S528x128_0_256).toLoadRect)
        (View.ld (iblk m c 7 t) (Rect.unit (s := S4x128x128) ![2, 0, 0] ![1, 128, 128] inb_S4x128x128_S1x128x128_2_0_0))
        (View.ld (iblk m c 8 t) (Rect.unit (s := S1x512) ![0, 256] ![1, 128] inb_S1x512_S1x128_0_256)) (ix2 r l) = poolAt m c t r 2 l := by
  refine (pay35_at _ _ _ _ _ (fun n x => rows m c t n ⟨256 + x.val, by omega⟩) ?_ r l).trans ?_
  · intro n x
    rw [View.readCov_eq_canon']
    refine Eq.trans (congrArg (View.canon _) (?_ : _ = ix2 n ⟨256 + x.val, by omega⟩)) (hL n _)
    funext a
    fin_cases a
    · exact Fin.ext (by show 0 + 1 * n.val = n.val; omega)
    · exact Fin.ext (by show 256 + 1 * x.val = 256 + x.val; omega)
  · unfold poolAt
    refine pooled_congr (fun x => ?_) (fun x => ?_) (fun x => ?_) ?_
    · rfl
    · exact zu' m c t r _
    · pointwise
    · pointwise

theorem piece3_at (t : Fin cfg0.N) (L : List (View.Piece (Elt Ideal) S528x512 .f32))
    (hL : ∀ (n : Fin 528) (x : Fin 512), View.canon L (ix2 n x) = rows m c t n.val x) (r : Fin 512) (l : Fin 128) :
    k0_pay1 (k0_pay42 (k0_pay3 (iblk m c 0 t) (iblk m c 1 t) (View.ld (iblk m c 2 t) (Rect.unit ![0, 0] ![1024, 512] inb_S1024x2176_S1024x512_0_0)))) (k0_pay43 (k0_pay7 (BitVec.ofNat 32 (t.val % 8))))
        (k0_pay44 ((View.whole cc0_scratch0).readCov L (Rect.unit (s := S528x512) ![0, 384] ![528, 128] inb_S528x512_S528x128_0_384).toLoadRect))
        (View.ld (iblk m c 7 t) (Rect.unit (s := S4x128x128) ![3, 0, 0] ![1, 128, 128] inb_S4x128x128_S1x128x128_3_0_0))
        (View.ld (iblk m c 8 t) (Rect.unit (s := S1x512) ![0, 384] ![1, 128] inb_S1x512_S1x128_0_384)) (ix2 r l) = poolAt m c t r 3 l := by
  refine (pay1_at _ _ _ _ _ (fun n x => rows m c t n ⟨384 + x.val, by omega⟩) ?_ r l).trans ?_
  · intro n x
    rw [View.readCov_eq_canon']
    refine Eq.trans (congrArg (View.canon _) (?_ : _ = ix2 n ⟨384 + x.val, by omega⟩)) (hL n _)
    funext a
    fin_cases a
    · exact Fin.ext (by show 0 + 1 * n.val = n.val; omega)
    · exact Fin.ext (by show 384 + 1 * x.val = 384 + x.val; omega)
  · unfold poolAt
    refine pooled_congr (fun x => ?_) (fun x => ?_) (fun x => ?_) ?_
    · rfl
    · exact zu' m c t r _
    · pointwise
    · pointwise

end Cert.ProjIdeal.Pool

end
-- ==== Proof.ProjPooled.lean ====
/-
  The pooled block of the layer's first call, read at an index.
-/
module

public import proofs.«01_k».proof.Proof.ProjPool

@[expose] public section

set_option maxRecDepth 16384
set_option maxHeartbeats 1000000

noncomputable section

namespace Cert.ProjIdeal.Pooled

open Cert.ProjIdeal Cert.ProjIdeal.Gen Idealize.ShloMosaic Idealize.ShloMosaic.TcCoe Idealize.SL.Sem
open Cert.Row Cert.ProjIdeal.Pool Cert.ProjIdeal.Block Cert.ProjIdeal.Out

variable (m : (ℓ : Loc nD τ sig) → Buf (Elt Ideal) ℓ) (c : Dev nD)

/-- The pooled block. -/
theorem out9_at (t : Fin cfg0.N) (r : Fin 512) (g : Fin 4) (l : Fin 128) :
    (outsAt0 m c t.val t.isLt).1 (ix2 r ⟨128 * g.val + l.val, by omega⟩) = poolAt m c t r g l := by
  by_cases hc : t.val % 8 = 0
  · rw [Gen.outsAt0_A m c t hc (not_not.mpr hc)]
    frame_open
    simp (disch := decide) only [↓ View.readCov_skip, ↓ View.readCov_cons_toLoadRect, ↓ View.readCov_fill]
    frame_out
    canon_tiles x h
    · have e0 : r.val = (x 0).val := h0
      have e1 : 128 * g.val + l.val = 384 + (x 1).val := h1
      have hx : (x 1).val < 128 := (x 1).isLt
      obtain rfl : g = 3 := Fin.ext (by show g.val = 3; omega)
      rw [ix2_eq x r l e0 (by have e2 : 128 * 3 + l.val = 384 + (x 1).val := e1; omega), tile_word]
      exact piece3_at m c t _ (stack_A m c t hc) r l
    · have e0 : r.val = (x 0).val := h0
      have e1 : 128 * g.val + l.val = 256 + (x 1).val := h1
      have hx : (x 1).val < 128 := (x 1).isLt
      obtain rfl : g = 2 := Fin.ext (by show g.val = 2; omega)
      rw [ix2_eq x r l e0 (by have e2 : 128 * 2 + l.val = 256 + (x 1).val := e1; omega), tile_word]
      exact piece2_at m c t _ (stack_A m c t hc) r l
    · have e0 : r.val = (x 0).val := h0
      have e1 : 128 * g.val + l.val = 128 + (x 1).val := h1
      have hx : (x 1).val < 128 := (x 1).isLt
      obtain rfl : g = 1 := Fin.ext (by show g.val = 1; omega)
      rw [ix2_eq x r l e0 (by have e2 : 128 * 1 + l.val = 128 + (x 1).val := e1; omega), tile_word]
      exact piece1_at m c t _ (stack_A m c t hc) r l
    · have e0 : r.val = (x 0).val := h0
      have e1 : 128 * g.val + l.val = (x 1).val := h1
      have hx : (x 1).val < 128 := (x 1).isLt
      obtain rfl : g = 0 := Fin.ext (by show g.val = 0; omega)
      rw [ix2_eq x r l e0 (by have e2 : 128 * 0 + l.val = (x 1).val := e1; omega), tile_word]
      exact piece0_at m c t _ (stack_A m c t hc) r l
  · rw [Gen.outsAt0_B m c t hc hc]
    frame_open
    simp (disch := decide) only [↓ View.readCov_skip, ↓ View.readCov_cons_toLoadRect, ↓ View.readCov_fill]
    frame_out
    simp only [read_unread_whole]
    canon_tiles x h
    · have e0 : r.val = (x 0).val := h0
      have e1 : 128 * g.val + l.val = 384 + (x 1).val := h1
      have hx : (x 1).val < 128 := (x 1).isLt
      obtain rfl : g = 3 := Fin.ext (by show g.val = 3; omega)
      rw [ix2_eq x r l e0 (by have e2 : 128 * 3 + l.val = 384 + (x 1).val := e1; omega), tile_word]
      exact piece3_at m c t _ (stack_B m c t hc) r l
    · have e0 : r.val = (x 0).val := h0
      have e1 : 128 * g.val + l.val = 256 + (x 1).val := h1
      have hx : (x 1).val < 128 := (x 1).isLt
      obtain rfl : g = 2 := Fin.ext (by show g.val = 2; omega)
      rw [ix2_eq x r l e0 (by have e2 : 128 * 2 + l.val = 256 + (x 1).val := e1; omega), tile_word]
      exact piece2_at m c t _ (stack_B m c t hc) r l
    · have e0 : r.val = (x 0).val := h0
      have e1 : 128 * g.val + l.val = 128 + (x 1).val := h1
      have hx : (x 1).val < 128 := (x 1).isLt
      obtain rfl : g = 1 := Fin.ext (by show g.val = 1; omega)
      rw [ix2_eq x r l e0 (by have e2 : 128 * 1 + l.val = 128 + (x 1).val := e1; omega), tile_word]
      exact piece1_at m c t _ (stack_B m c t hc) r l
    · have e0 : r.val = (x 0).val := h0
      have e1 : 128 * g.val + l.val = (x 1).val := h1
      have hx : (x 1).val < 128 := (x 1).isLt
      obtain rfl : g = 0 := Fin.ext (by show g.val = 0; omega)
      rw [ix2_eq x r l e0 (by have e2 : 128 * 0 + l.val = (x 1).val := e1; omega), tile_word]
      exact piece0_at m c t _ (stack_B m c t hc) r l

end Cert.ProjIdeal.Pooled

end
-- ==== Proof.ProjSpec.lean ====
/-
  The layer's first call as functions of its arguments: each result at a row of the flattened sequences.
-/
module

public import proofs.«01_k».proof.Proof.ProjFns

@[expose] public section

noncomputable section

namespace Cert.Row

open Idealize.ShloMosaic

/-- The angle of position `p` at frequency `d`. -/
def angle (p : BitVec 32) (d : ℕ) : EReal :=
  (FloatOps.sitofp (F := Ideal) FTy.f32 p : EReal) * Ideal.pow (Ideal.ofBits .f32 0x48F42400#32)
    (Ideal.div (-(FloatOps.sitofp (F := Ideal) FTy.f32 (BitVec.ofNat 32 d) : EReal)) (Ideal.ofBits .f32 0x41000000#32))

/-- The first table of a pair of heads: cosines on the sixteen leading lanes of each, one elsewhere. -/
def cosTab (p : BitVec 32) (l : Fin 128) : EReal :=
  if l.val % 64 < 8 then Ideal.cos (angle p (l.val % 64))
  else if l.val % 64 - 8 < 8 then Ideal.cos (angle p (l.val % 64 - 8)) else 1

/-- The second table: sines, negative on the eight leading lanes, and zero past the sixteenth. -/
def sinTab (p : BitVec 32) (l : Fin 128) : EReal :=
  if l.val % 64 < 8 then -Ideal.sin (angle p (l.val % 64))
  else if l.val % 64 - 8 < 8 then Ideal.sin (angle p (l.val % 64 - 8)) else 0

/-- A head's rotary turn: the sixteen leading lanes in two halves of eight, the rest as they are. -/
def rope (p : BitVec 32) (z : Fin 64 → EReal) (d : Fin 64) : EReal :=
  if h : d.val < 8 then z d * Ideal.cos (angle p d.val) - z ⟨d.val + 8, by omega⟩ * Ideal.sin (angle p d.val)
  else if d.val - 8 < 8 then z d * Ideal.cos (angle p (d.val - 8)) + z ⟨d.val - 8, by omega⟩ * Ideal.sin (angle p (d.val - 8))
  else z d

/-- The turn by the two tables is each head's rotary turn. -/
theorem turn_tab (p : BitVec 32) (z : Fin 128 → EReal) (l : Fin 128) :
    turn (cosTab p) (sinTab p) z l
      = rope p (fun e => z ⟨64 * (l.val / 64) + e.val, by omega⟩) ⟨l.val % 64, Nat.mod_lt _ (by decide)⟩ := by
  unfold turn cosTab sinTab rope
  have e0 : z ⟨64 * (l.val / 64) + l.val % 64, by omega⟩ = z l := congrArg z (Fin.ext (Nat.div_add_mod _ _))
  by_cases h : l.val % 64 < 8
  · rw [if_pos h, if_pos h, if_pos h, dif_pos h]
    dsimp only
    rw [e0, sub_eq_add_neg, mul_neg]
    congr 4
    exact Fin.ext (by dsimp only; omega)
  · rw [if_neg h, if_neg h, if_neg h, dif_neg h]
    by_cases h' : l.val % 64 - 8 < 8
    · rw [if_pos h', if_pos h', if_pos h']
      dsimp only
      rw [e0]
      congr 3
      exact Fin.ext (by dsimp only; omega)
    · rw [if_neg h', if_neg h', if_neg h']
      dsimp only
      rw [e0, mul_one, mul_zero, add_zero]

/-- The sequence and the position of a flattened row. -/
abbrev sq (i : Fin 32768) : Fin 8 := ⟨i.val / 4096, by omega⟩
abbrev ps (i : Fin 32768) : Fin 4096 := ⟨i.val % 4096, by omega⟩

/-- The call's arguments. -/
structure Args where
  x : Fin 8 → Fin 4096 → Fin 1024 → EReal
  p : Fin 8 → Fin 4096 → BitVec 32
  g : Fin 1024 → EReal
  w : Fin 1024 → Fin 2632 → EReal
  wp : Fin 4 → Fin 128 → Fin 128 → EReal
  sc : Fin 512 → EReal

namespace Args

variable (A : Args)

/-- The normed row against column `n` of the weights. -/
def lin (b : Fin 8) (s : Fin 4096) (n : Fin 2632) : EReal := ∑ k, normRow A.g (A.x b s) k * A.w k n

/-- A pair of heads that starts at column `n`, turned. -/
def heads (i : Fin 32768) (n : ℕ) (hn : n + 128 ≤ 2632) (l : Fin 128) : EReal :=
  rope (A.p (sq i) (ps i)) (fun e => A.lin (sq i) (ps i) ⟨n + (64 * (l.val / 64) + e.val), by omega⟩) ⟨l.val % 64, Nat.mod_lt _ (by decide)⟩

/-- The index key, once in each half. -/
def key (i : Fin 32768) (l : Fin 128) : EReal :=
  rope (A.p (sq i) (ps i)) (fun e => A.lin (sq i) (ps i) ⟨2560 + e.val, by omega⟩) ⟨l.val % 64, Nat.mod_lt _ (by decide)⟩

/-- A value of the value heads. -/
def value (i : Fin 32768) (f : Fin 512) : EReal := A.lin (sq i) (ps i) ⟨1536 + f.val, by omega⟩

/-- An index head's weight; past the eight heads, zero. -/
def weight (j : Fin 16) (i : Fin 32768) : EReal :=
  if h : j.val < 8 then A.lin (sq i) (ps i) ⟨2624 + j.val, by omega⟩ * Ideal.ofBits .f32 0x3EB504F3#32 else 0

/-- A pooling column along sequence `b`. -/
def along (b : Fin 8) (n : Fin 512) (s : ℕ) : EReal := A.lin b ⟨s % 4096, Nat.mod_lt _ (by decide)⟩ ⟨n.val, by omega⟩

/-- A pooled value: the window's mean less the row's own, through the group's weights, scaled. -/
def pool (i : Fin 32768) (g : Fin 4) (l : Fin 128) : EReal :=
  pooled (fun x => Ideal.div (win (A.along (sq i) ⟨128 * g.val + x.val, by omega⟩) (2 ^ (g.val + 1)) (ps i).val)
        (held (BitVec.ofNat 32 (2 ^ (g.val + 1))) (ps i).val))
    (fun x => A.lin (sq i) (ps i) ⟨128 * g.val + x.val, by omega⟩) (fun x => A.wp g x l) (A.sc ⟨128 * g.val + l.val, by omega⟩)

end Args

end Cert.Row

end
-- ==== Proof.ProjArray.lean ====
/-
  The results of the layer's first call, read element by element off the blocks that the points write back.
-/
module

public import proofs.«01_k».proof.Proof.ProjPooled
public import proofs.«01_k».proof.Proof.ProjSpec
public import Idealize.ShloMosaic.Lib.Pipeline.ValueKit
public import Idealize.ShloMosaic.Lib.StableHlo.ReadAt

@[expose] public section

set_option maxRecDepth 16384
set_option maxHeartbeats 1000000

noncomputable section

namespace Cert.ProjIdeal.Array

open Cert.ProjIdeal Cert.ProjIdeal.Gen Idealize.ShloMosaic Idealize.ShloMosaic.TcCoe Idealize.SL.Sem
open Cert.Row Cert.ProjIdeal.Out Cert.ProjIdeal.Pool

variable (m : (ℓ : Loc nD τ sig) → Buf (Elt Ideal) ℓ) (c : Dev nD)

/-- The arguments of the call. -/
def args : Args where
  x b s j := m ((c : Thread nD τ).loc main_arg0) (ix3 b s j)
  p b s := m ((c : Thread nD τ).loc main_arg1) (ix2 b s)
  g j := m ((c : Thread nD τ).loc main_arg2) (ix1 j)
  w k n := m ((c : Thread nD τ).loc main_arg3) (ix2 k n)
  wp g k l := m ((c : Thread nD τ).loc main_arg4) (ix3 g k l)
  sc l := m ((c : Thread nD τ).loc main_arg5) (ix1 l)

/-- Where each window's block stands at each point. -/
theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![t.val, 0]
    ∧ win0_6.index t = ![t.val, 0]
    ∧ win0_7.index t = ![0, 0, 0]
    ∧ win0_8.index t = ![0, 0]
    ∧ win0_9.index t = ![t.val, 0]
    ∧ win0_10.index t = ![0, t.val, 0]
    ∧ win0_11.index t = ![0, t.val, 0]
    ∧ win0_12.index t = ![t.val, 0, 0]
    ∧ win0_13.index t = ![0, t.val, 0]
    ∧ win0_14.index t = ![t.val, 0]
    ∧ win0_15.index t = ![0, t.val] :=
  (by decide +kernel : ∀ t : Fin grid0.N, win0_0.index t = ![t.val, 0]
    ∧ win0_1.index t = ![0, 0]
    ∧ win0_2.index t = ![0, 0]
    ∧ win0_3.index t = ![0, 0]
    ∧ win0_4.index t = ![0, 0]
    ∧ win0_5.index t = ![t.val, 0]
    ∧ win0_6.index t = ![t.val, 0]
    ∧ win0_7.index t = ![0, 0, 0]
    ∧ win0_8.index t = ![0, 0]
    ∧ win0_9.index t = ![t.val, 0]
    ∧ win0_10.index t = ![0, t.val, 0]
    ∧ win0_11.index t = ![0, t.val, 0]
    ∧ win0_12.index t = ![t.val, 0, 0]
    ∧ win0_13.index t = ![0, t.val, 0]
    ∧ win0_14.index t = ![t.val, 0]
    ∧ win0_15.index t = ![0, t.val])

/-- The row of the flat arrays that row `r` of point `t`'s block is. -/
abbrev row (t : Fin cfg0.N) (r : Fin 512) : Fin 32768 := ⟨t.val * 512 + r.val, by
  have h : t.val < 64 := t.isLt
  omega⟩

theorem entry25 (i : Fin 32768) (l : Fin 1024) : (V m c main_v25 : Vec Ideal S32768x1024 .f32) (ix2 i l)
    = (args m c).x (sq i) (ps i) l := by
  unfold V
  after_reads_at
  rfl

theorem entry38 (l : Fin 1024) : (V m c main_v38 : Vec Ideal S1x1024 .f32) (ix2 0 l) = (args m c).g l := by
  unfold V
  after_reads_at
  rfl

theorem entry40 (l : Fin 512) : (V m c main_v40 : Vec Ideal S1x512 .f32) (ix2 0 l) = (args m c).sc l := by
  unfold V
  after_reads_at
  rfl

theorem entry39 (g : Fin 4) (k l : Fin 128) : (V m c main_v39 : Vec Ideal S4x128x128 .bf16) (ix3 g k l) = (args m c).wp g k l := by
  unfold V
  after_reads_at
  rfl

theorem entry33 (f : Fin 512) (k : Fin 1024) : (V m c main_v33 : Vec Ideal S512x1024 .bf16) (ix2 f k)
    = (args m c).w k ⟨1536 + f.val, by omega⟩ := by
  unfold V
  after_reads_at
  rfl

theorem entry37 (f : Fin 16) (k : Fin 1024) : (V m c main_v37 : Vec Ideal S16x1024 .bf16) (ix2 f k)
    = if h : f.val < 8 then (args m c).w k ⟨2624 + f.val, by omega⟩ else 0 := by
  unfold V
  after_reads_at
  by_cases h : f.val < 8
  · rw [dif_pos h, dif_pos h]
    rfl
  · rw [dif_neg h, dif_neg h]
    show (((0#32 : BitVec 32).toInt : ℝ) : EReal) = 0
    simp

/-- The column of the weights that a column of the gathered weights is. -/
def col (n : Fin 2176) : Fin 2632 :=
  if h : n.val < 1536 then ⟨n.val, by omega⟩
  else if h : n.val < 2048 then ⟨n.val + 512, by omega⟩ else ⟨2560 + (n.val - 2048) % 64, by omega⟩

theorem entry30 (k : Fin 1024) (n : Fin 2176) : (V m c main_v30 : Vec Ideal S1024x2176 .bf16) (ix2 k n)
    = (args m c).w k (col n) := by
  unfold V
  after_reads_at
  unfold col
  by_cases h : n.val < 1536
  · rw [dif_pos h, dif_pos h]
    after_reads_at
    rfl
  · rw [dif_neg h, dif_neg h]
    by_cases h' : n.val < 2048
    · rw [dif_pos (by omega), dif_pos h']
      after_reads_at
      exact congrArg ((args m c).w k) (Fin.ext (by dsimp only; omega))
    · rw [dif_neg (by omega), dif_neg h']
      by_cases h'' : n.val - 1536 - 512 < 64
      · rw [dif_pos h'']
        after_reads_at
        exact congrArg ((args m c).w k) (Fin.ext (by dsimp only; omega))
      · rw [dif_neg h'']
        after_reads_at
        exact congrArg ((args m c).w k) (Fin.ext (by dsimp only; omega))

theorem entry21 (i : Fin 32768) (l : Fin 128) : (V m c main_v21 : Vec Ideal S32768x128 .f32) (ix2 i l)
    = cosTab ((args m c).p (sq i) (ps i)) l := by
  unfold V
  after_reads_at
  unfold cosTab
  by_cases h : l.val % 64 < 8
  · rw [dif_pos h, if_pos h]
    after_reads_at
    rfl
  · rw [dif_neg h, if_neg h]
    by_cases h' : l.val % 64 - 8 < 8
    · rw [dif_pos h', if_pos h']
      after_reads_at
      rfl
    · rw [dif_neg h', if_neg h']
      after_reads_at

theorem entry24 (i : Fin 32768) (l : Fin 128) : (V m c main_v24 : Vec Ideal S32768x128 .f32) (ix2 i l)
    = sinTab ((args m c).p (sq i) (ps i)) l := by
  unfold V
  after_reads_at
  unfold sinTab
  by_cases h : l.val % 64 < 8
  · rw [dif_pos h, if_pos h]
    after_reads_at
    rfl
  · rw [dif_neg h, if_neg h]
    by_cases h' : l.val % 64 - 8 < 8
    · rw [dif_pos h', if_pos h']
      after_reads_at
      rfl
    · rw [dif_neg h', if_neg h']
      after_reads_at

theorem blk0 (t : Fin cfg0.N) (r : Fin 512) (l : Fin 1024) : xb m c t (ix2 r l) = (args m c).x (sq (row t r)) (ps (row t r)) l := by
  refine Eq.trans (b := (V m c main_v25 : Vec Ideal S32768x1024 .f32) (ix2 (row t r) l)) ?_ (entry25 m c (row t r) l)
  blk_ext [iblk, idx t]

theorem blk1 (t : Fin cfg0.N) (l : Fin 1024) : gb m c t (ix2 0 l) = (args m c).g l := by
  refine Eq.trans (b := (V m c main_v38 : Vec Ideal S1x1024 .f32) (ix2 0 l)) ?_ (entry38 m c l)
  blk_ext [iblk, idx t]

theorem blk2 (t : Fin cfg0.N) (k : Fin 1024) (n : Fin 2176) : wb m c t (ix2 k n) = (args m c).w k (col n) := by
  refine Eq.trans (b := (V m c main_v30 : Vec Ideal S1024x2176 .bf16) (ix2 k n)) ?_ (entry30 m c k n)
  blk_ext [iblk, idx t]

theorem blk3 (t : Fin cfg0.N) (f : Fin 512) (k : Fin 1024) : vb m c t (ix2 f k) = (args m c).w k ⟨1536 + f.val, by omega⟩ := by
  refine Eq.trans (b := (V m c main_v33 : Vec Ideal S512x1024 .bf16) (ix2 f k)) ?_ (entry33 m c f k)
  blk_ext [iblk, idx t]

theorem blk4 (t : Fin cfg0.N) (f : Fin 16) (k : Fin 1024) : ib m c t (ix2 f k) = if h : f.val < 8 then (args m c).w k ⟨2624 + f.val, by omega⟩ else 0 := by
  refine Eq.trans (b := (V m c main_v37 : Vec Ideal S16x1024 .bf16) (ix2 f k)) ?_ (entry37 m c f k)
  blk_ext [iblk, idx t]

theorem blk5 (t : Fin cfg0.N) (r : Fin 512) (l : Fin 128) : cb m c t (ix2 r l) = cosTab ((args m c).p (sq (row t r)) (ps (row t r))) l := by
  refine Eq.trans (b := (V m c main_v21 : Vec Ideal S32768x128 .f32) (ix2 (row t r) l)) ?_ (entry21 m c (row t r) l)
  blk_ext [iblk, idx t]

theorem blk6 (t : Fin cfg0.N) (r : Fin 512) (l : Fin 128) : sb m c t (ix2 r l) = sinTab ((args m c).p (sq (row t r)) (ps (row t r))) l := by
  refine Eq.trans (b := (V m c main_v24 : Vec Ideal S32768x128 .f32) (ix2 (row t r) l)) ?_ (entry24 m c (row t r) l)
  blk_ext [iblk, idx t]

theorem blk7 (t : Fin cfg0.N) (g : Fin 4) (k l : Fin 128) : pb m c t (ix3 g k l) = (args m c).wp g k l := by
  refine Eq.trans (b := (V m c main_v39 : Vec Ideal S4x128x128 .bf16) (ix3 g k l)) ?_ (entry39 m c g k l)
  blk_ext [iblk, idx t]

theorem blk8 (t : Fin cfg0.N) (l : Fin 512) : ab m c t (ix2 0 l) = (args m c).sc l := by
  refine Eq.trans (b := (V m c main_v40 : Vec Ideal S1x512 .f32) (ix2 0 l)) ?_ (entry40 m c l)
  blk_ext [iblk, idx t]

theorem hrow_args (t : Fin cfg0.N) (r : Fin 512) :
    hrow m c t r = normRow (args m c).g ((args m c).x (sq (row t r)) (ps (row t r))) := by
  unfold hrow
  rw [funext fun j => blk1 m c t j, funext fun j => blk0 m c t r j]

theorem zcol_args (t : Fin cfg0.N) (r : Fin 512) (n : Fin 2176) (n' : Fin 2632) (h : col n = n') :
    zcol m c t r n = (args m c).lin (sq (row t r)) (ps (row t r)) n' := by
  unfold zcol Args.lin
  rw [hrow_args]
  refine Finset.sum_congr rfl fun k _ => ?_
  rw [blk2, h]

theorem turned_args (t : Fin cfg0.N) (r : Fin 512) (n : ℕ) (hn : n + 128 ≤ 2176) (l : Fin 128) :
    turned m c t r n hn l = rope ((args m c).p (sq (row t r)) (ps (row t r)))
      (fun e => zcol m c t r ⟨n + (64 * (l.val / 64) + e.val), by omega⟩) ⟨l.val % 64, Nat.mod_lt _ (by decide)⟩ := by
  unfold turned
  rw [funext fun d => blk5 m c t r d, funext fun d => blk6 m c t r d]
  exact turn_tab _ (fun d => zcol m c t r ⟨n + d.val, by omega⟩) l

theorem turned_heads (t : Fin cfg0.N) (r : Fin 512) (n n' : ℕ) (hn : n + 128 ≤ 2176) (hn' : n' + 128 ≤ 2632)
    (h : ∀ e : Fin 128, (col ⟨n + e.val, by omega⟩).val = n' + e.val) (l : Fin 128) :
    turned m c t r n hn l = (args m c).heads (row t r) n' hn' l := by
  rw [turned_args]
  unfold Args.heads
  congr 1
  funext e
  exact zcol_args m c t r _ _ (Fin.ext (h ⟨64 * (l.val / 64) + e.val, by omega⟩))

theorem turned_key (t : Fin cfg0.N) (r : Fin 512) (l : Fin 128) :
    turned m c t r 2048 (by decide) l = (args m c).key (row t r) l := by
  rw [turned_args]
  unfold Args.key
  congr 1
  funext e
  refine zcol_args m c t r _ _ ?_
  unfold col
  dsimp only
  rw [dif_neg (by omega), dif_neg (by omega)]
  exact Fin.ext (by dsimp only; omega)

end Cert.ProjIdeal.Array

end
-- ==== Proof.ProjResult.lean ====
/-
  The seven results of the layer's first call as functions of its arguments.
-/
module

public import proofs.«01_k».proof.Proof.ProjArray

@[expose] public section

set_option maxRecDepth 16384
set_option maxHeartbeats 1000000

noncomputable section

namespace Cert.ProjIdeal.Array

open Cert.ProjIdeal Cert.ProjIdeal.Gen Idealize.ShloMosaic Idealize.ShloMosaic.TcCoe Idealize.SL.Sem
open Cert.Row Cert.ProjIdeal.Out Cert.ProjIdeal.Pool Cert.ProjIdeal.Pooled

variable (m : (ℓ : Loc nD τ sig) → Buf (Elt Ideal) ℓ) (c : Dev nD)

theorem row_ps (t : Fin cfg0.N) (r : Fin 512) : (ps (row t r)).val = t.val % 8 * 512 + r.val := by
  show (t.val * 512 + r.val) % 4096 = _
  omega

/-- The kept rows back from row `r` of a block are the window of the sequence that ends there. -/
theorem back_rows (t : Fin cfg0.N) (r x : Fin 512) (w : ℕ) (hw : w ≤ 16) :
    back (fun n => rows m c t n x) w (16 + r.val) = win ((args m c).along (sq (row t r)) x) w (ps (row t r)).val := by
  unfold back win
  refine Finset.sum_congr rfl fun j hj => ?_
  have hj' : j < 16 := lt_of_lt_of_le (Finset.mem_range.mp hj) hw
  have ht : t.val < 64 := t.isLt
  have hx : col ⟨x.val, by omega⟩ = ⟨x.val, by omega⟩ := dif_pos (by dsimp only; omega)
  have hp := row_ps t r
  unfold rows Args.along
  dsimp only
  by_cases h : 16 + r.val - j < 16
  · rw [if_pos h]
    by_cases h0 : t.val % 8 = 0
    · rw [if_pos h0, if_neg (by omega)]
    · rw [if_neg h0, if_pos (by omega), zcol_args m c _ _ _ _ hx]
      have e1 : Row.sq (row (prev t) ⟨(496 + (16 + r.val - j)) % 512, Nat.mod_lt _ (by decide)⟩) = Row.sq (row t r) :=
        Fin.ext (by show ((t.val - 1) * 512 + (496 + (16 + r.val - j)) % 512) / 4096 = (t.val * 512 + r.val) / 4096; omega)
      have e2 : ps (row (prev t) ⟨(496 + (16 + r.val - j)) % 512, Nat.mod_lt _ (by decide)⟩)
          = ⟨((ps (row t r)).val - j) % 4096, Nat.mod_lt _ (by decide)⟩ :=
        Fin.ext (by
          show ((t.val - 1) * 512 + (496 + (16 + r.val - j)) % 512) % 4096 = ((ps (row t r)).val - j) % 4096
          rw [hp]; omega)
      rw [e1, e2]
  · rw [if_neg h, if_pos (by omega), zcol_args m c _ _ _ _ hx]
    have e1 : Row.sq (row t ⟨(16 + r.val - j - 16) % 512, Nat.mod_lt _ (by decide)⟩) = Row.sq (row t r) :=
      Fin.ext (by show (t.val * 512 + (16 + r.val - j - 16) % 512) / 4096 = (t.val * 512 + r.val) / 4096; omega)
    have e2 : ps (row t ⟨(16 + r.val - j - 16) % 512, Nat.mod_lt _ (by decide)⟩)
        = ⟨((ps (row t r)).val - j) % 4096, Nat.mod_lt _ (by decide)⟩ :=
      Fin.ext (by
        show (t.val * 512 + (16 + r.val - j - 16) % 512) % 4096 = ((ps (row t r)).val - j) % 4096
        rw [hp]; omega)
    rw [e1, e2]

theorem pool_args (t : Fin cfg0.N) (r : Fin 512) (g : Fin 4) (l : Fin 128) :
    poolAt m c t r g l = (args m c).pool (row t r) g l := by
  unfold poolAt Args.pool
  refine pooled_congr (fun x => ?_) (fun x => ?_) (fun x => ?_) ?_
  · have hw : 2 ^ (g.val + 1) ≤ 16 := Nat.pow_le_pow_right (n := 2) (by decide) (show g.val + 1 ≤ 4 by omega)
    rw [back_rows m c t r _ _ hw, row_ps]
  · exact zcol_args m c t r _ _ (dif_pos (by dsimp only; omega))
  · exact blk7 m c t g x l
  · exact blk8 m c t _

/-- Result 1 of the call. -/
def res1 (i : S4x32768x128.Idx) : EReal := (args m c).heads (i 1) (512 + 128 * (i 0).val) (by have : (i 0).val < 4 := (i 0).isLt; omega) (i 2) * Ideal.ofBits .f32 0x3E38AA3B#32

theorem final10 : (dats m 0 c).arrAt 10 cfg0.N = (res1 m c : Vec Ideal S4x32768x128 .bf16) := by
  refine (dats m 0 c).arrAt_eq_of_covers 10 _ (by decide +kernel) fun t hf y => ?_
  blk_simp
  rw [after0_10]
  obtain ⟨p, r, l, rfl⟩ : ∃ (p : Fin 4) (r : Fin 512) (l : Fin 128), y = ix3 p r l := ⟨y 0, y 1, y 2, by funext a; fin_cases a <;> rfl⟩
  have he : (win0_10.blk t).view.emb (ix3 p r l) = (ix3 p (row t r) l : S4x32768x128.Idx) := by
    blk_ext [idx t]
  refine (out10_at m c t p r l).trans ?_
  refine Eq.trans ?_ (congrArg (res1 m c) he.symm)
  refine congrArg (· * Ideal.ofBits .f32 0x3E38AA3B#32) (turned_heads m c t r (512 + 128 * p.val) (512 + 128 * p.val) (by omega) (by omega) (fun e => ?_) l)
  unfold col
  dsimp only
  rw [dif_pos (by omega)]

/-- Result 2 of the call. -/
def res2 (i : S4x32768x128.Idx) : EReal := (args m c).heads (i 1) (1024 + 128 * (i 0).val) (by have : (i 0).val < 4 := (i 0).isLt; omega) (i 2)

theorem final11 : (dats m 0 c).arrAt 11 cfg0.N = (res2 m c : Vec Ideal S4x32768x128 .bf16) := by
  refine (dats m 0 c).arrAt_eq_of_covers 11 _ (by decide +kernel) fun t hf y => ?_
  blk_simp
  rw [after0_11]
  obtain ⟨p, r, l, rfl⟩ : ∃ (p : Fin 4) (r : Fin 512) (l : Fin 128), y = ix3 p r l := ⟨y 0, y 1, y 2, by funext a; fin_cases a <;> rfl⟩
  have he : (win0_11.blk t).view.emb (ix3 p r l) = (ix3 p (row t r) l : S4x32768x128.Idx) := by
    blk_ext [idx t]
  refine (out11_at m c t p r l).trans ?_
  refine Eq.trans ?_ (congrArg (res2 m c) he.symm)
  refine id (turned_heads m c t r (1024 + 128 * p.val) (1024 + 128 * p.val) (by omega) (by omega) (fun e => ?_) l)
  unfold col
  dsimp only
  rw [dif_pos (by omega)]

/-- Result 4 of the call. -/
def res4 (i : S4x32768x128.Idx) : EReal := (args m c).heads (i 1) (2048 + 128 * (i 0).val) (by have : (i 0).val < 4 := (i 0).isLt; omega) (i 2) * Ideal.ofBits .f32 0x3E000000#32

theorem final13 : (dats m 0 c).arrAt 13 cfg0.N = (res4 m c : Vec Ideal S4x32768x128 .bf16) := by
  refine (dats m 0 c).arrAt_eq_of_covers 13 _ (by decide +kernel) fun t hf y => ?_
  blk_simp
  rw [after0_13]
  obtain ⟨p, r, l, rfl⟩ : ∃ (p : Fin 4) (r : Fin 512) (l : Fin 128), y = ix3 p r l := ⟨y 0, y 1, y 2, by funext a; fin_cases a <;> rfl⟩
  have he : (win0_13.blk t).view.emb (ix3 p r l) = (ix3 p (row t r) l : S4x32768x128.Idx) := by
    blk_ext [idx t]
  refine (out13_at m c t p r l).trans ?_
  refine Eq.trans ?_ (congrArg (res4 m c) he.symm)
  refine congrArg (· * Ideal.ofBits .f32 0x3E000000#32) (turned_heads m c t r (1536 + 128 * p.val) (2048 + 128 * p.val) (by omega) (by omega) (fun e => ?_) l)
  unfold col
  dsimp only
  rw [dif_neg (by omega), dif_pos (by omega)]
  dsimp only
  omega

/-- Result 5 of the call. -/
def res5 (i : S32768x128.Idx) : EReal := (args m c).key (i 0) (i 1)

theorem final14 : (dats m 0 c).arrAt 14 cfg0.N = (res5 m c : Vec Ideal S32768x128 .bf16) := by
  refine (dats m 0 c).arrAt_eq_of_covers 14 _ (by decide +kernel) fun t hf y => ?_
  blk_simp
  rw [after0_14]
  obtain ⟨r, l, rfl⟩ : ∃ (r : Fin 512) (l : Fin 128), y = ix2 r l := ⟨y 0, y 1, by funext a; fin_cases a <;> rfl⟩
  have he : (win0_14.blk t).view.emb (ix2 r l) = (ix2 (row t r) l : S32768x128.Idx) := by
    blk_ext [idx t]
  refine (out14_at m c t r l).trans ?_
  exact (turned_key m c t r l).trans (congrArg (res5 m c) he.symm)

/-- Result 3 of the call. -/
def res3 (i : S64x512x512.Idx) : EReal := (args m c).value ⟨(i 0).val * 512 + (i 2).val, by have h0 : (i 0).val < 64 := (i 0).isLt; have h2 : (i 2).val < 512 := (i 2).isLt; omega⟩ (i 1)

theorem final12 : (dats m 0 c).arrAt 12 cfg0.N = (res3 m c : Vec Ideal S64x512x512 .bf16) := by
  refine (dats m 0 c).arrAt_eq_of_covers 12 _ (by decide +kernel) fun t hf y => ?_
  blk_simp
  rw [after0_12]
  obtain ⟨f, r, rfl⟩ : ∃ (f r : Fin 512), y = ix3 0 f r := ⟨y 1, y 2, by funext a; fin_cases a <;> first | rfl | exact Fin.ext (Nat.lt_one_iff.mp (y 0).isLt)⟩
  have he : (win0_12.blk t).view.emb (ix3 0 f r) = (ix3 ⟨t.val, t.isLt⟩ f r : S64x512x512.Idx) := by
    blk_ext [idx t]
  refine (out12_at m c t f r).trans ?_
  refine Eq.trans ?_ (congrArg (res3 m c) he.symm)
  rw [hrow_args]
  show _ = (args m c).lin (sq (row t r)) (ps (row t r)) ⟨1536 + f.val, _⟩
  unfold Args.lin
  refine Finset.sum_congr rfl fun k _ => ?_
  rw [blk3, mul_comm]

/-- Result 6 of the call. -/
def res6 (i : S16x32768.Idx) : EReal := (args m c).weight (i 0) (i 1)

theorem final15 : (dats m 0 c).arrAt 15 cfg0.N = (res6 m c : Vec Ideal S16x32768 .f32) := by
  refine (dats m 0 c).arrAt_eq_of_covers 15 _ (by decide +kernel) fun t hf y => ?_
  blk_simp
  rw [after0_15]
  obtain ⟨j, r, rfl⟩ : ∃ (j : Fin 16) (r : Fin 512), y = ix2 j r := ⟨y 0, y 1, by funext a; fin_cases a <;> rfl⟩
  have he : (win0_15.blk t).view.emb (ix2 j r) = (ix2 j (row t r) : S16x32768.Idx) := by
    blk_ext [idx t]
  refine (out15_at m c t j r).trans ?_
  refine Eq.trans ?_ (congrArg (res6 m c) he.symm)
  rw [hrow_args]
  show _ = (args m c).weight j (row t r)
  unfold Args.weight
  by_cases h : j.val < 8
  · rw [dif_pos h]
    unfold Args.lin
    congr 1
    refine Finset.sum_congr rfl fun k _ => ?_
    rw [blk4, dif_pos h, mul_comm]
  · rw [dif_neg h, Finset.sum_eq_zero fun k _ => by rw [blk4, dif_neg h, zero_mul], zero_mul]

/-- The pooled block as a whole: group and lane of a column. -/
def res0 (i : S32768x512.Idx) : EReal :=
  (args m c).pool (i 0) ⟨(i 1).val / 128, by have h : (i 1).val < 512 := (i 1).isLt; omega⟩ ⟨(i 1).val % 128, Nat.mod_lt _ (by decide)⟩

theorem final9 : (dats m 0 c).arrAt 9 cfg0.N = (res0 m c : Vec Ideal S32768x512 .bf16) := by
  refine (dats m 0 c).arrAt_eq_of_covers 9 _ (by decide +kernel) fun t hf y => ?_
  blk_simp
  rw [after0_9]
  obtain ⟨r, g, l, rfl⟩ : ∃ (r : Fin 512) (g : Fin 4) (l : Fin 128), y = ix2 r ⟨128 * g.val + l.val, by omega⟩ :=
    ⟨y 0, ⟨(y 1).val / 128, by have h : (y 1).val < 512 := (y 1).isLt; omega⟩, ⟨(y 1).val % 128, Nat.mod_lt _ (by decide)⟩, by
      funext a
      fin_cases a
      · rfl
      · exact Fin.ext (Nat.div_add_mod _ _).symm⟩
  have he : (win0_9.blk t).view.emb (ix2 r ⟨128 * g.val + l.val, by omega⟩) = (ix2 (row t r) ⟨128 * g.val + l.val, by omega⟩ : S32768x512.Idx) := by
    blk_ext [idx t]
  refine (out9_at m c t r g l).trans ((pool_args m c t r g l).trans ?_)
  refine Eq.trans ?_ (congrArg (res0 m c) he.symm)
  show _ = (args m c).pool (row t r) ⟨(128 * g.val + l.val) / 128, _⟩ ⟨(128 * g.val + l.val) % 128, _⟩
  congr 1
  · exact Fin.ext (by dsimp only; omega)
  · exact Fin.ext (by dsimp only; omega)

end Cert.ProjIdeal.Array

end
-- ==== Proof.ProjSums.lean ====
/-
  The running sum of a sequence, as the host writes it: one windowed sum whose window reaches past the sequence's start.
-/
module

public import proofs.«01_k».proof.Proof.ProjSpec

@[expose] public section

set_option maxRecDepth 16384

noncomputable section

namespace Cert.Row

open Idealize.ShloMosaic

theorem foldl_sum {N : ℕ} (G : Fin N → EReal) (v : EReal) :
    (List.finRange N).foldl (fun r n => r + G n) v = v + ∑ n, G n := by
  rw [← List.foldl_map (f := G) (g := fun r a => r + a), Finset.sum_eq_multiset_sum]
  rw [show (Finset.univ : Finset (Fin N)).val.map G = ((List.finRange N).map G : Multiset EReal) from rfl, Multiset.sum_coe]
  generalize (List.finRange N).map G = l
  induction l generalizing v with
  | nil => simp
  | cons a l ih => rw [List.foldl_cons, ih, List.sum_cons, add_assoc]

/-- The window of a running sum: one value of each other axis. -/
abbrev Win : Shape := ⟨4, ![1, 4096, 1, 1]⟩

/-- A place of that window is its place along the second axis. -/
def winEquiv : Fin 4096 ≃ Win.Idx where
  toFun k := ix4 0 k 0 0
  invFun y := y 1
  left_inv k := rfl
  right_inv y := by
    funext a
    fin_cases a
    · exact Fin.ext (Nat.lt_one_iff.mp (y 0).isLt).symm
    · rfl
    · exact Fin.ext (Nat.lt_one_iff.mp (y 2).isLt).symm
    · exact Fin.ext (Nat.lt_one_iff.mp (y 3).isLt).symm

/-- A sum over a window that ends at `s`, places before the start left out, is the sum up to `s`. -/
theorem window_sum (U : ℕ → EReal) (n s : ℕ) (hs : s ≤ n) :
    ∑ k : Fin (n + 1), (if n ≤ s + k.val then U (s + k.val - n) else 0) = ∑ i ∈ Finset.range (s + 1), U i := by
  rw [Fin.sum_univ_eq_sum_range (fun k => if n ≤ s + k then U (s + k - n) else 0) (n + 1),
    show n + 1 = (n - s) + (s + 1) by omega, Finset.sum_range_add, Finset.sum_eq_zero, zero_add]
  · refine Finset.sum_congr rfl fun j _ => ?_
    rw [if_pos (by omega)]
    congr 1
    omega
  · intro k hk
    have := Finset.mem_range.mp hk
    rw [if_neg (by omega)]

abbrev Seq4 : Shape := ⟨4, ![8, 4096, 4, 128]⟩

/-- The windowed sum at position `s` is the sum of the sequence up to `s`. -/
theorem running_at (x : FVec Ideal Seq4 .f32) (v : EReal) (hv : v = 0)
    (h : Seq4.ReduceWindows (![1, 4096, 1, 1] : Fin 4 → Nat) ![1, 1, 1, 1] ![0, 4095, 0, 0] ![0, 0, 0, 0] Seq4)
    (b : Fin 8) (s : Fin 4096) (g : Fin 4) (l : Fin 128) :
    Ideal.hostReduceWindowAdd (s := Seq4) (t := Seq4) ![1, 4096, 1, 1] ![1, 1, 1, 1] ![0, 4095, 0, 0] ![0, 0, 0, 0] h x v (ix4 b s g l)
      = ∑ i ∈ Finset.range (s.val + 1), (x (ix4 b ⟨i % 4096, Nat.mod_lt _ (by decide)⟩ g l) : EReal) := by
  subst hv
  unfold Ideal.hostReduceWindowAdd Host.reduceWindow
  dsimp only
  refine (foldl_sum (N := Win.numel) _ 0).trans ?_
  rw [zero_add, ← window_sum (fun i => (x (ix4 b ⟨i % 4096, Nat.mod_lt _ (by decide)⟩ g l) : EReal)) 4095 s.val (Nat.le_of_lt_succ s.isLt)]
  refine (Equiv.sum_comp (winEquiv.trans Win.rowMajor) _).symm.trans (Finset.sum_congr rfl fun k _ => ?_)
  have hk : ∀ a, (Win.rowMajor.symm ((winEquiv.trans Win.rowMajor) k)) a = (ix4 0 k 0 0 : Win.Idx) a := fun a =>
    congrFun (Win.rowMajor.symm_apply_apply _) a
  by_cases hle : 4095 ≤ s.val + k.val
  · rw [if_pos hle, dif_pos]
    · congr 1
      funext a
      refine Fin.ext ?_
      dsimp only
      rw [hk a]
      fin_cases a
      · show b.val * 1 + 0 - 0 = b.val
        omega
      · show s.val * 1 + k.val - 4095 = (s.val + k.val - 4095) % 4096
        omega
      · show g.val * 1 + 0 - 0 = g.val
        omega
      · show l.val * 1 + 0 - 0 = l.val
        omega
    · intro a
      rw [hk a]
      fin_cases a
      · show 0 ≤ b.val * 1 + 0 ∧ b.val * 1 + 0 - 0 < 8
        omega
      · show 4095 ≤ s.val * 1 + k.val ∧ s.val * 1 + k.val - 4095 < 4096
        omega
      · show 0 ≤ g.val * 1 + 0 ∧ g.val * 1 + 0 - 0 < 4
        omega
      · show 0 ≤ l.val * 1 + 0 ∧ l.val * 1 + 0 - 0 < 128
        omega
  · rw [if_neg hle, dif_neg]
    intro hin
    have h1 := (hin 1).1
    rw [hk 1] at h1
    have h2 : 4095 ≤ s.val * 1 + k.val := h1
    omega

end Cert.Row

end
-- ==== Proof.ProjRef.lean ====
/-
  The reference of the layer's first call, read at a row of the flattened sequences.
-/
module

public import proofs.«01_k».proof.Proof.Gen.ProjRefIdeal.Run
public import proofs.«01_k».proof.Proof.ProjSums

@[expose] public section

set_option maxRecDepth 16384
set_option maxHeartbeats 1000000

noncomputable section

namespace Cert.ProjRefIdeal.Rows

open Cert.ProjRefIdeal Cert.ProjRefIdeal.Gen Cert.ProjRefIdeal.Value Idealize.ShloMosaic Idealize.ShloMosaic.TcCoe Idealize.SL.Sem
open Cert.Row

/-- The normed rows against the whole of the weights, as the host writes them. -/
def hostLin (x : FVec Ideal S8x4096x1024 .f32) (g : FVec Ideal S1024 .f32) (w : FVec Ideal S1024x2632 .f32) : FVec Ideal S8x4096x2632 .f32 :=
  Host.dotGeneral dot_S8x4096x1024_S1024x2632_S8x4096x2632_2_0_01_1_n_n none (mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 g))) w

theorem hostLin_at (x : FVec Ideal S8x4096x1024 .f32) (g : FVec Ideal S1024 .f32) (w : FVec Ideal S1024x2632 .f32) (b : Fin 8) (s : Fin 4096) (n : Fin 2632) :
    hostLin x g w (ix3 b s n) = ∑ k, normRow (fun j => g (ix1 j)) (fun j => x (ix3 b s j)) k * w (ix2 k n) := by
  pointwise [hostLin]
  rfl

/-- The angles of the positions. -/
def hostAngle (p : IVec S8x4096 32) : FVec Ideal S8x4096x8 .f32 :=
  mulf (broadcastInDim S8x4096x8 ![0, 1, 2] bcast_S8x4096x1_S8x4096x8_0_1_2 (broadcastInDim S8x4096x1 ![0, 1] bcast_S8x4096_S8x4096x1_0_1 (sitofp .f32 p))) (broadcastInDim S8x4096x8 ![0, 1, 2] bcast_S1x1x8_S8x4096x8_0_1_2 (broadcastInDim S1x1x8 ![2] bcast_S8_S1x1x8_2 (Host.powf (broadcastInDim S8 ![] bcast_S_S8 (constant S_ .f32 0x48F42400#32)) (Host.divf (Host.negf (sitofp .f32 (iotaInDim S8 32 0))) (broadcastInDim S8 ![] bcast_S_S8 (constant S_ .f32 0x41000000#32))))))

theorem hostAngle_at (p : IVec S8x4096 32) (b : Fin 8) (s : Fin 4096) (e : Fin 8) : hostAngle p (ix3 b s e) = angle (p (ix2 b s)) e.val := by
  pointwise [hostAngle]
  rfl

/-- The rotary turn of eight heads. -/
def hostTurn (z : FVec Ideal S8x4096x8x64 .f32) (a : FVec Ideal S8x4096x8 .f32) : FVec Ideal S8x4096x8x64 .f32 :=
  concatenate S8x4096x8x64 3 [⟨S8x4096x8x16, (concatenate S8x4096x8x16 3 [⟨S8x4096x8x8,
      (subf (mulf (extractStridedSlice S8x4096x8x8 ![0, 0, 0, 0] z slices_S8x4096x8x64_S8x4096x8x8_0_0_0_0) (broadcastInDim S8x4096x8x8 ![0, 1, 2, 3] bcast_S8x4096x1x8_S8x4096x8x8_0_1_2_3 (broadcastInDim S8x4096x1x8 ![0, 1, 3] bcast_S8x4096x8_S8x4096x1x8_0_1_3 (Host.cos a))))
        (mulf (extractStridedSlice S8x4096x8x8 ![0, 0, 0, 8] z slices_S8x4096x8x64_S8x4096x8x8_0_0_0_8) (broadcastInDim S8x4096x8x8 ![0, 1, 2, 3] bcast_S8x4096x1x8_S8x4096x8x8_0_1_2_3 (broadcastInDim S8x4096x1x8 ![0, 1, 3] bcast_S8x4096x8_S8x4096x1x8_0_1_3 (Host.sin a)))))⟩,
      ⟨S8x4096x8x8,
      (addf (mulf (extractStridedSlice S8x4096x8x8 ![0, 0, 0, 8] z slices_S8x4096x8x64_S8x4096x8x8_0_0_0_8) (broadcastInDim S8x4096x8x8 ![0, 1, 2, 3] bcast_S8x4096x1x8_S8x4096x8x8_0_1_2_3 (broadcastInDim S8x4096x1x8 ![0, 1, 3] bcast_S8x4096x8_S8x4096x1x8_0_1_3 (Host.cos a))))
        (mulf (extractStridedSlice S8x4096x8x8 ![0, 0, 0, 0] z slices_S8x4096x8x64_S8x4096x8x8_0_0_0_0) (broadcastInDim S8x4096x8x8 ![0, 1, 2, 3] bcast_S8x4096x1x8_S8x4096x8x8_0_1_2_3 (broadcastInDim S8x4096x1x8 ![0, 1, 3] bcast_S8x4096x8_S8x4096x1x8_0_1_3 (Host.sin a)))))⟩]
      concatenates_S8x4096x8x8_S8x4096x8x8_S8x4096x8x16_d3)⟩,
    ⟨S8x4096x8x48, (extractStridedSlice S8x4096x8x48 ![0, 0, 0, 16] z slices_S8x4096x8x64_S8x4096x8x48_0_0_0_16)⟩]
    concatenates_S8x4096x8x16_S8x4096x8x48_S8x4096x8x64_d3

theorem hostTurn_at (z : FVec Ideal S8x4096x8x64 .f32) (a : FVec Ideal S8x4096x8 .f32) (p : BitVec 32) (b : Fin 8) (s : Fin 4096)
    (ha : ∀ e : Fin 8, a (ix3 b s e) = angle p e.val) (h : Fin 8) (d : Fin 64) :
    hostTurn z a (ix4 b s h d) = rope p (fun e => z (ix4 b s h e)) d := by
  pointwise [hostTurn]
  unfold rope
  simp only [ha]
  by_cases h0 : d.val < 8
  · rw [dif_pos (by omega), dif_pos h0, dif_pos h0]
    congr 4
    exact Fin.ext (Nat.add_comm _ _)
  · rw [dif_neg h0]
    by_cases h1 : d.val - 8 < 8
    · rw [if_pos h1, dif_pos (by omega), dif_neg h0]
      congr 4
      exact Fin.ext (by dsimp only; omega)
    · rw [if_neg h1, dif_neg (by omega)]
      congr 2
      exact Fin.ext (by dsimp only; omega)

/-- The rotary turn of one head. -/
def hostTurnOne (z : FVec Ideal S8x4096x1x64 .f32) (a : FVec Ideal S8x4096x8 .f32) : FVec Ideal S8x4096x1x64 .f32 :=
  concatenate S8x4096x1x64 3 [⟨S8x4096x1x16, (concatenate S8x4096x1x16 3 [⟨S8x4096x1x8,
      (subf (mulf (extractStridedSlice S8x4096x1x8 ![0, 0, 0, 0] z slices_S8x4096x1x64_S8x4096x1x8_0_0_0_0) (broadcastInDim S8x4096x1x8 ![0, 1, 3] bcast_S8x4096x8_S8x4096x1x8_0_1_3 (Host.cos a)))
        (mulf (extractStridedSlice S8x4096x1x8 ![0, 0, 0, 8] z slices_S8x4096x1x64_S8x4096x1x8_0_0_0_8) (broadcastInDim S8x4096x1x8 ![0, 1, 3] bcast_S8x4096x8_S8x4096x1x8_0_1_3 (Host.sin a))))⟩,
      ⟨S8x4096x1x8,
      (addf (mulf (extractStridedSlice S8x4096x1x8 ![0, 0, 0, 8] z slices_S8x4096x1x64_S8x4096x1x8_0_0_0_8) (broadcastInDim S8x4096x1x8 ![0, 1, 3] bcast_S8x4096x8_S8x4096x1x8_0_1_3 (Host.cos a)))
        (mulf (extractStridedSlice S8x4096x1x8 ![0, 0, 0, 0] z slices_S8x4096x1x64_S8x4096x1x8_0_0_0_0) (broadcastInDim S8x4096x1x8 ![0, 1, 3] bcast_S8x4096x8_S8x4096x1x8_0_1_3 (Host.sin a))))⟩]
      concatenates_S8x4096x1x8_S8x4096x1x8_S8x4096x1x16_d3)⟩,
    ⟨S8x4096x1x48, (extractStridedSlice S8x4096x1x48 ![0, 0, 0, 16] z slices_S8x4096x1x64_S8x4096x1x48_0_0_0_16)⟩]
    concatenates_S8x4096x1x16_S8x4096x1x48_S8x4096x1x64_d3

theorem hostTurnOne_at (z : FVec Ideal S8x4096x1x64 .f32) (a : FVec Ideal S8x4096x8 .f32) (p : BitVec 32) (b : Fin 8) (s : Fin 4096)
    (ha : ∀ e : Fin 8, a (ix3 b s e) = angle p e.val) (d : Fin 64) :
    hostTurnOne z a (ix4 b s 0 d) = rope p (fun e => z (ix4 b s 0 e)) d := by
  pointwise [hostTurnOne]
  unfold rope
  simp only [ha]
  by_cases h0 : d.val < 8
  · rw [dif_pos (by omega), dif_pos h0, dif_pos h0]
    congr 4
    exact Fin.ext (Nat.add_comm _ _)
  · rw [dif_neg h0]
    by_cases h1 : d.val - 8 < 8
    · rw [if_pos h1, dif_pos (by omega), dif_neg h0]
      congr 4
      exact Fin.ext (by dsimp only; omega)
    · rw [if_neg h1, dif_neg (by omega)]
      congr 2
      exact Fin.ext (by dsimp only; omega)

theorem sitofp_zero : (FloatOps.sitofp (F := Ideal) FTy.f32 0#32 : EReal) = 0 := by
  show (((0#32 : BitVec 32).toInt : ℝ) : EReal) = 0
  simp

/-- The mean over a window of 2 less the row's own value, from the running sums `k`. -/
def hostMean2 (k u : FVec Ideal S8x4096x128 .f32) : FVec Ideal S8x4096x128 .f32 :=
  subf (Host.divf (subf k (extractStridedSlice S8x4096x128 ![0, 0, 0] (pad S8x4098x128 ![0, 2, 0] ![0, 0, 0] ![0, 0, 0] k (sitofp .f32 (constantI S_ 32 0#32)) pads_S8x4096x128_S8x4098x128_000_200_000 h_S_) slices_S8x4098x128_S8x4096x128_0_0_0)) (broadcastInDim S8x4096x128 ![0, 1, 2] bcast_S1x4096x1_S8x4096x128_0_1_2 (broadcastInDim S1x4096x1 ![1] bcast_S4096_S1x4096x1_1 (sitofp .f32 (minsi (addi (iotaInDim S4096 32 0) (broadcastInDim S4096 ![] bcast_S_S4096 (constantI S_ 32 1#32))) (broadcastInDim S4096 ![] bcast_S_S4096 (constantI S_ 32 2#32))))))) u

theorem hostMean2_at (k u : FVec Ideal S8x4096x128 .f32) (b : Fin 8) (s : Fin 4096) (x : Fin 128) :
    hostMean2 k u (ix3 b s x) = Ideal.div (k (ix3 b s x) - (if h : 2 ≤ s.val then k (ix3 b ⟨s.val - 2, by omega⟩ x) else 0)) (held 2#32 s.val)
      - u (ix3 b s x) := by
  pointwise [hostMean2]
  by_cases h : 2 ≤ s.val
  · rw [dif_pos ⟨h, by omega⟩, dif_pos h]
    rfl
  · rw [dif_neg (fun h' => h h'.1), dif_neg h, sitofp_zero]
    rfl

/-- The mean over a window of 4 less the row's own value, from the running sums `k`. -/
def hostMean4 (k u : FVec Ideal S8x4096x128 .f32) : FVec Ideal S8x4096x128 .f32 :=
  subf (Host.divf (subf k (extractStridedSlice S8x4096x128 ![0, 0, 0] (pad S8x4100x128 ![0, 4, 0] ![0, 0, 0] ![0, 0, 0] k (sitofp .f32 (constantI S_ 32 0#32)) pads_S8x4096x128_S8x4100x128_000_400_000 h_S_) slices_S8x4100x128_S8x4096x128_0_0_0)) (broadcastInDim S8x4096x128 ![0, 1, 2] bcast_S1x4096x1_S8x4096x128_0_1_2 (broadcastInDim S1x4096x1 ![1] bcast_S4096_S1x4096x1_1 (sitofp .f32 (minsi (addi (iotaInDim S4096 32 0) (broadcastInDim S4096 ![] bcast_S_S4096 (constantI S_ 32 1#32))) (broadcastInDim S4096 ![] bcast_S_S4096 (constantI S_ 32 4#32))))))) u

theorem hostMean4_at (k u : FVec Ideal S8x4096x128 .f32) (b : Fin 8) (s : Fin 4096) (x : Fin 128) :
    hostMean4 k u (ix3 b s x) = Ideal.div (k (ix3 b s x) - (if h : 4 ≤ s.val then k (ix3 b ⟨s.val - 4, by omega⟩ x) else 0)) (held 4#32 s.val)
      - u (ix3 b s x) := by
  pointwise [hostMean4]
  by_cases h : 4 ≤ s.val
  · rw [dif_pos ⟨h, by omega⟩, dif_pos h]
    rfl
  · rw [dif_neg (fun h' => h h'.1), dif_neg h, sitofp_zero]
    rfl

/-- The mean over a window of 8 less the row's own value, from the running sums `k`. -/
def hostMean8 (k u : FVec Ideal S8x4096x128 .f32) : FVec Ideal S8x4096x128 .f32 :=
  subf (Host.divf (subf k (extractStridedSlice S8x4096x128 ![0, 0, 0] (pad S8x4104x128 ![0, 8, 0] ![0, 0, 0] ![0, 0, 0] k (sitofp .f32 (constantI S_ 32 0#32)) pads_S8x4096x128_S8x4104x128_000_800_000 h_S_) slices_S8x4104x128_S8x4096x128_0_0_0)) (broadcastInDim S8x4096x128 ![0, 1, 2] bcast_S1x4096x1_S8x4096x128_0_1_2 (broadcastInDim S1x4096x1 ![1] bcast_S4096_S1x4096x1_1 (sitofp .f32 (minsi (addi (iotaInDim S4096 32 0) (broadcastInDim S4096 ![] bcast_S_S4096 (constantI S_ 32 1#32))) (broadcastInDim S4096 ![] bcast_S_S4096 (constantI S_ 32 8#32))))))) u

theorem hostMean8_at (k u : FVec Ideal S8x4096x128 .f32) (b : Fin 8) (s : Fin 4096) (x : Fin 128) :
    hostMean8 k u (ix3 b s x) = Ideal.div (k (ix3 b s x) - (if h : 8 ≤ s.val then k (ix3 b ⟨s.val - 8, by omega⟩ x) else 0)) (held 8#32 s.val)
      - u (ix3 b s x) := by
  pointwise [hostMean8]
  by_cases h : 8 ≤ s.val
  · rw [dif_pos ⟨h, by omega⟩, dif_pos h]
    rfl
  · rw [dif_neg (fun h' => h h'.1), dif_neg h, sitofp_zero]
    rfl

/-- The mean over a window of 16 less the row's own value, from the running sums `k`. -/
def hostMean16 (k u : FVec Ideal S8x4096x128 .f32) : FVec Ideal S8x4096x128 .f32 :=
  subf (Host.divf (subf k (extractStridedSlice S8x4096x128 ![0, 0, 0] (pad S8x4112x128 ![0, 16, 0] ![0, 0, 0] ![0, 0, 0] k (sitofp .f32 (constantI S_ 32 0#32)) pads_S8x4096x128_S8x4112x128_000_1600_000 h_S_) slices_S8x4112x128_S8x4096x128_0_0_0)) (broadcastInDim S8x4096x128 ![0, 1, 2] bcast_S1x4096x1_S8x4096x128_0_1_2 (broadcastInDim S1x4096x1 ![1] bcast_S4096_S1x4096x1_1 (sitofp .f32 (minsi (addi (iotaInDim S4096 32 0) (broadcastInDim S4096 ![] bcast_S_S4096 (constantI S_ 32 1#32))) (broadcastInDim S4096 ![] bcast_S_S4096 (constantI S_ 32 16#32))))))) u

theorem hostMean16_at (k u : FVec Ideal S8x4096x128 .f32) (b : Fin 8) (s : Fin 4096) (x : Fin 128) :
    hostMean16 k u (ix3 b s x) = Ideal.div (k (ix3 b s x) - (if h : 16 ≤ s.val then k (ix3 b ⟨s.val - 16, by omega⟩ x) else 0)) (held 16#32 s.val)
      - u (ix3 b s x) := by
  pointwise [hostMean16]
  by_cases h : 16 ≤ s.val
  · rw [dif_pos ⟨h, by omega⟩, dif_pos h]
    rfl
  · rw [dif_neg (fun h' => h h'.1), dif_neg h, sitofp_zero]
    rfl

/-- The running sums of the pooling columns. -/
def hostRun (u : FVec Ideal S8x4096x4x128 .f32) : FVec Ideal S8x4096x4x128 .f32 :=
  Host.reduceWindowAdd ![1, 4096, 1, 1] ![1, 1, 1, 1] ![0, 4095, 0, 0] ![0, 0, 0, 0] u (broadcastInDim S_ ![] bcast_S_S_ (constant S_ .f32 0x00000000#32)) reduceWindows_S8x4096x4x128_S8x4096x4x128_w1s1p0_0_w4096s1p4095_0_w1s1p0_0_w1s1p0_0 h_S_

theorem hostRun_at (u : FVec Ideal S8x4096x4x128 .f32) (b : Fin 8) (s : Fin 4096) (g : Fin 4) (x : Fin 128) :
    hostRun u (ix4 b s g x) = ∑ i ∈ Finset.range (s.val + 1), (u (ix4 b ⟨i % 4096, Nat.mod_lt _ (by decide)⟩ g x) : EReal) := by
  have e : (broadcastInDim S_ ![] bcast_S_S_ (constant S_ .f32 0x00000000#32) : FVec Ideal S_ .f32) (Shape.Idx.first h_S_) = (0 : EReal) := by
    pointwise
  unfold hostRun Host.reduceWindowAdd
  rw [e]
  exact running_at u 0 rfl reduceWindows_S8x4096x4x128_S8x4096x4x128_w1s1p0_0_w4096s1p4095_0_w1s1p0_0_w1s1p0_0 b s g x

/-- The four groups' means less the rows' own values. -/
def hostDiff (u : FVec Ideal S8x4096x4x128 .f32) : FVec Ideal S8x4096x4x128 .f32 :=
  concatenate S8x4096x4x128 2 [⟨S8x4096x1x128, ((broadcastInDim S8x4096x1x128 ![0, 1, 3] bcast_S8x4096x128_S8x4096x1x128_0_1_3
      (hostMean2 (shapeCast _ (extractStridedSlice S8x4096x1x128 ![0, 0, 0, 0] (hostRun u) slices_S8x4096x4x128_S8x4096x1x128_0_0_0_0) shapeCasts_S8x4096x1x128_S8x4096x128)
        (shapeCast _ (extractStridedSlice S8x4096x1x128 ![0, 0, 0, 0] u slices_S8x4096x4x128_S8x4096x1x128_0_0_0_0) shapeCasts_S8x4096x1x128_S8x4096x128))) : (⟨S8x4096x1x128, .f32⟩ : BufTy).Contents (Elt Ideal))⟩, ⟨S8x4096x1x128, ((broadcastInDim S8x4096x1x128 ![0, 1, 3] bcast_S8x4096x128_S8x4096x1x128_0_1_3
      (hostMean4 (shapeCast _ (extractStridedSlice S8x4096x1x128 ![0, 0, 1, 0] (hostRun u) slices_S8x4096x4x128_S8x4096x1x128_0_0_1_0) shapeCasts_S8x4096x1x128_S8x4096x128)
        (shapeCast _ (extractStridedSlice S8x4096x1x128 ![0, 0, 1, 0] u slices_S8x4096x4x128_S8x4096x1x128_0_0_1_0) shapeCasts_S8x4096x1x128_S8x4096x128))) : (⟨S8x4096x1x128, .f32⟩ : BufTy).Contents (Elt Ideal))⟩, ⟨S8x4096x1x128, ((broadcastInDim S8x4096x1x128 ![0, 1, 3] bcast_S8x4096x128_S8x4096x1x128_0_1_3
      (hostMean8 (shapeCast _ (extractStridedSlice S8x4096x1x128 ![0, 0, 2, 0] (hostRun u) slices_S8x4096x4x128_S8x4096x1x128_0_0_2_0) shapeCasts_S8x4096x1x128_S8x4096x128)
        (shapeCast _ (extractStridedSlice S8x4096x1x128 ![0, 0, 2, 0] u slices_S8x4096x4x128_S8x4096x1x128_0_0_2_0) shapeCasts_S8x4096x1x128_S8x4096x128))) : (⟨S8x4096x1x128, .f32⟩ : BufTy).Contents (Elt Ideal))⟩, ⟨S8x4096x1x128, ((broadcastInDim S8x4096x1x128 ![0, 1, 3] bcast_S8x4096x128_S8x4096x1x128_0_1_3
      (hostMean16 (shapeCast _ (extractStridedSlice S8x4096x1x128 ![0, 0, 3, 0] (hostRun u) slices_S8x4096x4x128_S8x4096x1x128_0_0_3_0) shapeCasts_S8x4096x1x128_S8x4096x128)
        (shapeCast _ (extractStridedSlice S8x4096x1x128 ![0, 0, 3, 0] u slices_S8x4096x4x128_S8x4096x1x128_0_0_3_0) shapeCasts_S8x4096x1x128_S8x4096x128))) : (⟨S8x4096x1x128, .f32⟩ : BufTy).Contents (Elt Ideal))⟩] concatenates_S8x4096x1x128_S8x4096x1x128_S8x4096x1x128_S8x4096x1x128_S8x4096x4x128_d2

/-- A difference of running sums over finite values is the window between. -/
theorem lagged (u : FVec Ideal S8x4096x4x128 .f32) (b : Fin 8) (s : Fin 4096) (g : Fin 4) (x : Fin 128) (w : ℕ)
    (hu : ∀ i : Fin 4096, ∃ r : ℝ, (u (ix4 b i g x) : EReal) = r) :
    (hostRun u (ix4 b s g x) : EReal) - (if h : w ≤ s.val then hostRun u (ix4 b ⟨s.val - w, by omega⟩ g x) else 0)
      = win (fun i => u (ix4 b ⟨i % 4096, Nat.mod_lt _ (by decide)⟩ g x)) w s.val := by
  choose r hr using hu
  rw [← win_eq_sub _ w s.val (fun i => r ⟨i % 4096, Nat.mod_lt _ (by decide)⟩) (fun i _ => hr _), hostRun_at]
  by_cases h : w ≤ s.val
  · rw [dif_pos h, hostRun_at]
    dsimp only
    rw [show s.val - w + 1 = s.val + 1 - w by omega]
  · rw [dif_neg h, show s.val + 1 - w = 0 by omega, Finset.sum_range_zero]

theorem hostDiff_0 (u : FVec Ideal S8x4096x4x128 .f32) (b : Fin 8) (s : Fin 4096) (x : Fin 128)
    (hu : ∀ i : Fin 4096, ∃ r : ℝ, (u (ix4 b i 0 x) : EReal) = r) :
    hostDiff u (ix4 b s 0 x) = Ideal.div (win (fun i => u (ix4 b ⟨i % 4096, Nat.mod_lt _ (by decide)⟩ 0 x)) 2 s.val) (held 2#32 s.val)
      - u (ix4 b s 0 x) := by
  rw [← lagged u b s 0 x 2 hu]
  pointwise [hostDiff]
  rw [hostMean2_at]
  have e : ∀ (z : FVec Ideal S8x4096x4x128 .f32) (i : Fin 4096),
      (shapeCast S8x4096x128 (extractStridedSlice S8x4096x1x128 ![0, 0, 0, 0] z slices_S8x4096x4x128_S8x4096x1x128_0_0_0_0) shapeCasts_S8x4096x1x128_S8x4096x128) (ix3 b i x) = z (ix4 b i 0 x) := by
    intro z i
    pointwise
  simp only [e]

theorem hostDiff_1 (u : FVec Ideal S8x4096x4x128 .f32) (b : Fin 8) (s : Fin 4096) (x : Fin 128)
    (hu : ∀ i : Fin 4096, ∃ r : ℝ, (u (ix4 b i 1 x) : EReal) = r) :
    hostDiff u (ix4 b s 1 x) = Ideal.div (win (fun i => u (ix4 b ⟨i % 4096, Nat.mod_lt _ (by decide)⟩ 1 x)) 4 s.val) (held 4#32 s.val)
      - u (ix4 b s 1 x) := by
  rw [← lagged u b s 1 x 4 hu]
  pointwise [hostDiff]
  rw [hostMean4_at]
  have e : ∀ (z : FVec Ideal S8x4096x4x128 .f32) (i : Fin 4096),
      (shapeCast S8x4096x128 (extractStridedSlice S8x4096x1x128 ![0, 0, 1, 0] z slices_S8x4096x4x128_S8x4096x1x128_0_0_1_0) shapeCasts_S8x4096x1x128_S8x4096x128) (ix3 b i x) = z (ix4 b i 1 x) := by
    intro z i
    pointwise
  simp only [e]

theorem hostDiff_2 (u : FVec Ideal S8x4096x4x128 .f32) (b : Fin 8) (s : Fin 4096) (x : Fin 128)
    (hu : ∀ i : Fin 4096, ∃ r : ℝ, (u (ix4 b i 2 x) : EReal) = r) :
    hostDiff u (ix4 b s 2 x) = Ideal.div (win (fun i => u (ix4 b ⟨i % 4096, Nat.mod_lt _ (by decide)⟩ 2 x)) 8 s.val) (held 8#32 s.val)
      - u (ix4 b s 2 x) := by
  rw [← lagged u b s 2 x 8 hu]
  pointwise [hostDiff]
  rw [hostMean8_at]
  have e : ∀ (z : FVec Ideal S8x4096x4x128 .f32) (i : Fin 4096),
      (shapeCast S8x4096x128 (extractStridedSlice S8x4096x1x128 ![0, 0, 2, 0] z slices_S8x4096x4x128_S8x4096x1x128_0_0_2_0) shapeCasts_S8x4096x1x128_S8x4096x128) (ix3 b i x) = z (ix4 b i 2 x) := by
    intro z i
    pointwise
  simp only [e]

theorem hostDiff_3 (u : FVec Ideal S8x4096x4x128 .f32) (b : Fin 8) (s : Fin 4096) (x : Fin 128)
    (hu : ∀ i : Fin 4096, ∃ r : ℝ, (u (ix4 b i 3 x) : EReal) = r) :
    hostDiff u (ix4 b s 3 x) = Ideal.div (win (fun i => u (ix4 b ⟨i % 4096, Nat.mod_lt _ (by decide)⟩ 3 x)) 16 s.val) (held 16#32 s.val)
      - u (ix4 b s 3 x) := by
  rw [← lagged u b s 3 x 16 hu]
  pointwise [hostDiff]
  rw [hostMean16_at]
  have e : ∀ (z : FVec Ideal S8x4096x4x128 .f32) (i : Fin 4096),
      (shapeCast S8x4096x128 (extractStridedSlice S8x4096x1x128 ![0, 0, 3, 0] z slices_S8x4096x4x128_S8x4096x1x128_0_0_3_0) shapeCasts_S8x4096x1x128_S8x4096x128) (ix3 b i x) = z (ix4 b i 3 x) := by
    intro z i
    pointwise
  simp only [e]

end Cert.ProjRefIdeal.Rows

end
-- ==== Proof.ProjRefResult.lean ====
/-
  The reference's seven results as functions of the call's arguments.
-/
module

public import proofs.«01_k».proof.Proof.ProjRef

@[expose] public section

set_option maxRecDepth 16384
set_option maxHeartbeats 1000000

noncomputable section

namespace Cert.ProjRefIdeal.Rows

open Cert.ProjRefIdeal Cert.ProjRefIdeal.Gen Cert.ProjRefIdeal.Value Idealize.ShloMosaic Idealize.ShloMosaic.TcCoe Idealize.SL.Sem
open Cert.Row

variable (m : (ℓ : Loc nD τ sig) → Buf (Elt Ideal) ℓ) (c : Dev nD)

/-- The arguments of the reference. -/
def args : Args where
  x b s j := m ((c.tc : Thread nD τ).loc main_arg0) (ix3 b s j)
  p b s := m ((c.tc : Thread nD τ).loc main_arg1) (ix2 b s)
  g j := m ((c.tc : Thread nD τ).loc main_arg2) (ix1 j)
  w k n := m ((c.tc : Thread nD τ).loc main_arg3) (ix2 k n)
  wp g k l := m ((c.tc : Thread nD τ).loc main_arg4) (ix3 g k l)
  sc l := m ((c.tc : Thread nD τ).loc main_arg5) (ix1 l)

/-- The rows against the weights. -/
def rl : FVec Ideal S8x4096x2632 .f32 :=
  hostLin (m ((c.tc : Thread nD τ).loc main_arg0)) (m ((c.tc : Thread nD τ).loc main_arg2)) (m ((c.tc : Thread nD τ).loc main_arg3))

/-- The angles. -/
def ra : FVec Ideal S8x4096x8 .f32 := hostAngle (m ((c.tc : Thread nD τ).loc main_arg1))

theorem rl_at (b : Fin 8) (s : Fin 4096) (n : Fin 2632) : rl m c (ix3 b s n) = (args m c).lin b s n := hostLin_at _ _ _ b s n

theorem ra_at (b : Fin 8) (s : Fin 4096) (e : Fin 8) : ra m c (ix3 b s e) = angle ((args m c).p b s) e.val := hostAngle_at _ b s e

/-- A pair of heads, its columns counted from the head's own number. -/
theorem heads_eq (A : Args) (i : Fin 32768) (n p : ℕ) (h : n + 128 * p + 128 ≤ 2632) (l : Fin 128) (h' : ∀ e : Fin 64, n + ((p * 2 + l.val / 64) * 64 + e.val) < 2632) :
    A.heads i (n + 128 * p) h l
      = rope (A.p ⟨i.val / 4096, by omega⟩ ⟨i.val % 4096, by omega⟩)
          (fun e : Fin 64 => A.lin ⟨i.val / 4096, by omega⟩ ⟨i.val % 4096, by omega⟩ ⟨n + ((p * 2 + l.val / 64) * 64 + e.val), h' e⟩) ⟨l.val % 64, by omega⟩ := by
  unfold Args.heads
  congr 1
  funext e
  congr 1
  apply Fin.ext
  show n + 128 * p + (64 * (l.val / 64) + e.val) = _
  dsimp only
  ring

/-- The eight heads of result 1, before and after the turn. -/
def rz1 : FVec Ideal S8x4096x8x64 .f32 :=
  shapeCast S8x4096x8x64 (extractStridedSlice S8x4096x512 ![0, 0, 512] (rl m c) slices_S8x4096x2632_S8x4096x512_0_0_512) shapeCasts_S8x4096x512_S8x4096x8x64

theorem rz1_at (b : Fin 8) (s : Fin 4096) (h : Fin 8) (e : Fin 64) :
    rz1 m c (ix4 b s h e) = (args m c).lin b s ⟨512 + (h.val * 64 + e.val), by omega⟩ := by
  refine Eq.trans ?_ (rl_at m c b s _)
  pointwise [rz1]

def ref1 : FVec Ideal S4x32768x128 .bf16 :=
  truncf .bf16 (transpose S4x32768x128 [1, 0, 2] (shapeCast S32768x4x128 (mulf (hostTurn (rz1 m c) (ra m c)) (broadcastInDim S8x4096x8x64 ![] bcast_S_S8x4096x8x64 (constant S_ .f32 0x3E38AA3B#32))) shapeCasts_S8x4096x8x64_S32768x4x128) transposes_S32768x4x128_S4x32768x128_1_0_2) bitsLt_bf16_f32

theorem ref1_at (p : Fin 4) (i : Fin 32768) (l : Fin 128) :
    ref1 m c (ix3 p i l) = (args m c).heads i (512 + 128 * p.val) (by omega) l * Ideal.ofBits .f32 0x3E38AA3B#32 := by
  pointwise [ref1]
  rw [hostTurn_at _ _ _ _ _ (fun e => ra_at m c _ _ e)]
  simp only [rz1_at]
  rw [heads_eq]

/-- The eight heads of result 2, before and after the turn. -/
def rz2 : FVec Ideal S8x4096x8x64 .f32 :=
  shapeCast S8x4096x8x64 (extractStridedSlice S8x4096x512 ![0, 0, 1024] (rl m c) slices_S8x4096x2632_S8x4096x512_0_0_1024) shapeCasts_S8x4096x512_S8x4096x8x64

theorem rz2_at (b : Fin 8) (s : Fin 4096) (h : Fin 8) (e : Fin 64) :
    rz2 m c (ix4 b s h e) = (args m c).lin b s ⟨1024 + (h.val * 64 + e.val), by omega⟩ := by
  refine Eq.trans ?_ (rl_at m c b s _)
  pointwise [rz2]

def ref2 : FVec Ideal S4x32768x128 .bf16 :=
  truncf .bf16 (transpose S4x32768x128 [1, 0, 2] (shapeCast S32768x4x128 (hostTurn (rz2 m c) (ra m c)) shapeCasts_S8x4096x8x64_S32768x4x128) transposes_S32768x4x128_S4x32768x128_1_0_2) bitsLt_bf16_f32

theorem ref2_at (p : Fin 4) (i : Fin 32768) (l : Fin 128) :
    ref2 m c (ix3 p i l) = (args m c).heads i (1024 + 128 * p.val) (by omega) l := by
  pointwise [ref2]
  rw [hostTurn_at _ _ _ _ _ (fun e => ra_at m c _ _ e)]
  simp only [rz2_at]
  rw [heads_eq]

/-- The eight heads of result 4, before and after the turn. -/
def rz4 : FVec Ideal S8x4096x8x64 .f32 :=
  shapeCast S8x4096x8x64 (extractStridedSlice S8x4096x512 ![0, 0, 2048] (rl m c) slices_S8x4096x2632_S8x4096x512_0_0_2048) shapeCasts_S8x4096x512_S8x4096x8x64

theorem rz4_at (b : Fin 8) (s : Fin 4096) (h : Fin 8) (e : Fin 64) :
    rz4 m c (ix4 b s h e) = (args m c).lin b s ⟨2048 + (h.val * 64 + e.val), by omega⟩ := by
  refine Eq.trans ?_ (rl_at m c b s _)
  pointwise [rz4]

def ref4 : FVec Ideal S4x32768x128 .bf16 :=
  truncf .bf16 (transpose S4x32768x128 [1, 0, 2] (shapeCast S32768x4x128 (mulf (hostTurn (rz4 m c) (ra m c)) (broadcastInDim S8x4096x8x64 ![] bcast_S_S8x4096x8x64 (constant S_ .f32 0x3E000000#32))) shapeCasts_S8x4096x8x64_S32768x4x128) transposes_S32768x4x128_S4x32768x128_1_0_2) bitsLt_bf16_f32

theorem ref4_at (p : Fin 4) (i : Fin 32768) (l : Fin 128) :
    ref4 m c (ix3 p i l) = (args m c).heads i (2048 + 128 * p.val) (by omega) l * Ideal.ofBits .f32 0x3E000000#32 := by
  pointwise [ref4]
  rw [hostTurn_at _ _ _ _ _ (fun e => ra_at m c _ _ e)]
  simp only [rz4_at]
  rw [heads_eq]

/-- The index key of the reference. -/
def rz5 : FVec Ideal S8x4096x1x64 .f32 :=
  broadcastInDim S8x4096x1x64 ![0, 1, 3] bcast_S8x4096x64_S8x4096x1x64_0_1_3 (extractStridedSlice S8x4096x64 ![0, 0, 2560] (rl m c) slices_S8x4096x2632_S8x4096x64_0_0_2560)

theorem rz5_at (b : Fin 8) (s : Fin 4096) (e : Fin 64) :
    rz5 m c (ix4 b s 0 e) = (args m c).lin b s ⟨2560 + e.val, by omega⟩ := by
  refine Eq.trans ?_ (rl_at m c b s _)
  pointwise [rz5]

def rk : FVec Ideal S32768x64 .f32 :=
  shapeCast S32768x64 (shapeCast S8x4096x64 (hostTurnOne (rz5 m c) (ra m c)) shapeCasts_S8x4096x1x64_S8x4096x64) shapeCasts_S8x4096x64_S32768x64

def ref5 : FVec Ideal S32768x128 .bf16 :=
  truncf .bf16 (concatenate S32768x128 1 [⟨S32768x64, (rk m c)⟩, ⟨S32768x64, (rk m c)⟩] concatenates_S32768x64_S32768x64_S32768x128_d1) bitsLt_bf16_f32

theorem rk_at (i : Fin 32768) (d : Fin 64) : rk m c (ix2 i d)
    = rope ((args m c).p (Row.sq i) (ps i)) (fun e => (args m c).lin (Row.sq i) (ps i) ⟨2560 + e.val, by omega⟩) d := by
  pointwise [rk]
  rw [hostTurnOne_at _ _ _ _ _ (fun e => ra_at m c _ _ e)]
  simp only [rz5_at]

theorem ref5_at (i : Fin 32768) (l : Fin 128) : ref5 m c (ix2 i l) = (args m c).key i l := by
  pointwise [ref5]
  unfold Args.key
  by_cases h : l.val < 64
  · rw [dif_pos h, rk_at]
    congr 1
    apply Fin.ext
    dsimp only
    omega
  · rw [dif_neg h, rk_at]
    congr 1
    apply Fin.ext
    dsimp only
    omega

def ref3 : FVec Ideal S64x512x512 .bf16 :=
  truncf .bf16 (transpose S64x512x512 [0, 2, 1] (shapeCast S64x512x512 (extractStridedSlice S8x4096x512 ![0, 0, 1536] (rl m c) slices_S8x4096x2632_S8x4096x512_0_0_1536) shapeCasts_S8x4096x512_S64x512x512) transposes_S64x512x512_S64x512x512_0_2_1) bitsLt_bf16_f32

theorem ref3_at (t : Fin 64) (f r : Fin 512) : ref3 m c (ix3 t f r) = (args m c).value ⟨t.val * 512 + r.val, by omega⟩ f := by
  refine Eq.trans ?_ (rl_at m c _ _ _)
  pointwise [ref3]
  congr 2 <;> apply Fin.ext <;> dsimp only [Row.sq, ps] <;> omega

def ref6 : FVec Ideal S16x32768 .f32 :=
  pad S16x32768 ![0, 0] ![8, 0] ![0, 0] (transpose S8x32768 [1, 0] (shapeCast S32768x8 (mulf (extractStridedSlice S8x4096x8 ![0, 0, 2624] (rl m c) slices_S8x4096x2632_S8x4096x8_0_0_2624) (broadcastInDim S8x4096x8 ![] bcast_S_S8x4096x8 (constant S_ .f32 0x3EB504F3#32))) shapeCasts_S8x4096x8_S32768x8) transposes_S32768x8_S8x32768_1_0) (sitofp .f32 (constantI S_ 32 0#32)) pads_S8x32768_S16x32768_080_000 h_S_

theorem ref6_at (j : Fin 16) (i : Fin 32768) : ref6 m c (ix2 j i) = (args m c).weight j i := by
  pointwise [ref6]
  unfold Args.weight
  by_cases h : j.val < 8
  · rw [dif_pos h, dif_pos h, rl_at]
  · rw [dif_neg h, dif_neg h]
    exact sitofp_zero

def ru : FVec Ideal S8x4096x4x128 .f32 :=
  shapeCast S8x4096x4x128 (extractStridedSlice S8x4096x512 ![0, 0, 0] (rl m c) slices_S8x4096x2632_S8x4096x512_0_0_0) shapeCasts_S8x4096x512_S8x4096x4x128

theorem ru_at (b : Fin 8) (s : Fin 4096) (g : Fin 4) (x : Fin 128) :
    ru m c (ix4 b s g x) = (args m c).lin b s ⟨128 * g.val + x.val, by omega⟩ := by
  refine Eq.trans ?_ (rl_at m c b s _)
  pointwise [ru]
  congr 2
  apply Fin.ext
  dsimp only
  omega

def ref0 : FVec Ideal S32768x512 .bf16 :=
  truncf .bf16 (shapeCast S32768x512 (mulf (shapeCast S8x4096x512 (transpose S8x4096x4x128 [2, 3, 0, 1] (Host.dotGeneral dot_S4x128x128_S8x4096x4x128_S4x128x8x4096_1_3_2_01_0_2 (φ₁ := .f32) none (m ((c.tc : Thread nD τ).loc main_arg4)) (hostDiff (ru m c))) transposes_S4x128x8x4096_S8x4096x4x128_2_3_0_1) shapeCasts_S8x4096x4x128_S8x4096x512) (broadcastInDim S8x4096x512 ![0, 1, 2] bcast_S1x1x512_S8x4096x512_0_1_2 (broadcastInDim S1x1x512 ![2] bcast_S512_S1x1x512_2 (m ((c.tc : Thread nD τ).loc main_arg5) : FVec Ideal S512 .f32)))) shapeCasts_S8x4096x512_S32768x512) bitsLt_bf16_f32

/-- The four groups' means in one form. -/
theorem hostDiff_at (u : FVec Ideal S8x4096x4x128 .f32) (b : Fin 8) (s : Fin 4096) (g : Fin 4) (x : Fin 128)
    (hu : ∀ i : Fin 4096, ∃ r : ℝ, (u (ix4 b i g x) : EReal) = r) :
    hostDiff u (ix4 b s g x)
      = Ideal.div (win (fun i => u (ix4 b ⟨i % 4096, Nat.mod_lt _ (by decide)⟩ g x)) (2 ^ (g.val + 1)) s.val) (held (BitVec.ofNat 32 (2 ^ (g.val + 1))) s.val)
        - u (ix4 b s g x) := by
  rcases (by decide : ∀ g : Fin 4, g = 0 ∨ g = 1 ∨ g = 2 ∨ g = 3) g with rfl | rfl | rfl | rfl
  · have e : (2 : ℕ) ^ ((0 : Fin 4).val + 1) = 2 := by decide
    rw [e]
    exact hostDiff_0 u b s x hu
  · have e : (2 : ℕ) ^ ((1 : Fin 4).val + 1) = 4 := by decide
    rw [e]
    exact hostDiff_1 u b s x hu
  · have e : (2 : ℕ) ^ ((2 : Fin 4).val + 1) = 8 := by decide
    rw [e]
    exact hostDiff_2 u b s x hu
  · have e : (2 : ℕ) ^ ((3 : Fin 4).val + 1) = 16 := by decide
    rw [e]
    exact hostDiff_3 u b s x hu

/-- The mean over the window less the row's own value, for each group. -/
theorem diff_at (b : Fin 8) (s : Fin 4096) (g : Fin 4) (x : Fin 128)
    (hr : ∀ (s : Fin 4096) (n : Fin 512), ∃ r : ℝ, (args m c).lin b s ⟨n.val, by omega⟩ = r) :
    hostDiff (ru m c) (ix4 b s g x)
      = Ideal.div (win ((args m c).along b ⟨128 * g.val + x.val, by omega⟩) (2 ^ (g.val + 1)) s.val) (held (BitVec.ofNat 32 (2 ^ (g.val + 1))) s.val)
        - (args m c).lin b s ⟨128 * g.val + x.val, by omega⟩ := by
  have hu : ∀ i : Fin 4096, ∃ r : ℝ, (ru m c (ix4 b i g x) : EReal) = r := fun i => by
    rw [ru_at]
    exact hr i ⟨128 * g.val + x.val, by omega⟩
  have ew : (fun i : ℕ => (ru m c (ix4 b ⟨i % 4096, Nat.mod_lt _ (by decide)⟩ g x) : EReal))
      = (args m c).along b ⟨128 * g.val + x.val, by omega⟩ := funext fun i => ru_at m c b _ g x
  rw [← ew, ← ru_at]
  exact hostDiff_at (ru m c) b s g x hu

theorem ref0_at (hr : ∀ (b : Fin 8) (s : Fin 4096) (n : Fin 512), ∃ r : ℝ, (args m c).lin b s ⟨n.val, by omega⟩ = r) (i : Fin 32768) (n : Fin 512) :
    ref0 m c (ix2 i n) = (args m c).pool i ⟨n.val / 128, by omega⟩ ⟨n.val % 128, Nat.mod_lt _ (by decide)⟩ := by
  pointwise [ref0]
  unfold Args.pool pooled
  congr 1
  · refine Finset.sum_congr rfl fun x _ => ?_
    rw [diff_at m c _ _ _ _ (hr _), mul_comm]
    rfl
  · refine congrArg (m ((c.tc : Thread nD τ).loc main_arg5)) (congrArg ix1 (Fin.ext ?_))
    dsimp only
    omega

/-! ## The run's own names for these arrays -/

open Idealize.ShloMosaic.StableHlo in
theorem v226_eq : res_main_v226 (launchContents m c) = rk m c := rfl

open Idealize.ShloMosaic.StableHlo in
theorem v222_eq : res_main_v222 (launchContents m c)
    = shapeCast S8x4096x512 (transpose S8x4096x4x128 [2, 3, 0, 1] (Host.dotGeneral dot_S4x128x128_S8x4096x4x128_S4x128x8x4096_1_3_2_01_0_2 (φ₁ := .f32) none (m ((c.tc : Thread nD τ).loc main_arg4)) (hostDiff (ru m c))) transposes_S4x128x8x4096_S8x4096x4x128_2_3_0_1) shapeCasts_S8x4096x4x128_S8x4096x512 := rfl

end Cert.ProjRefIdeal.Rows

end
-- ==== Proof.ProjReal.lean ====
/-
  Where the rows, the gains and the pooling columns of the weights are finite, the rows against those columns are too.
-/
module

public import proofs.«01_k».proof.Pre_finite_pool_inputs
public import proofs.«01_k».proof.Proof.ProjSpec
public import Idealize.ShloMosaic.Lib.ReduceAll
public import Idealize.ShloMosaic.Lib.IdealHost

@[expose] public section

noncomputable section

namespace Cert.Row

open Idealize.ShloMosaic

/-- The norm's small constant is a positive real. -/
theorem eps_real : ∃ r : ℝ, 0 < r ∧ Ideal.ofBits .f32 0x358637BD#32 = (r : EReal) := by
  refine ⟨8796093 * (2 : ℝ) ^ (-43 : ℤ), by positivity, ?_⟩
  simp [Ideal.ofBits, Ideal.ieee, -EReal.coe_mul]

/-- The number of entries of a row. -/
theorem width_real : Ideal.ofBits .f32 0x44800000#32 = ((1024 : ℝ) : EReal) := by
  simp [Ideal.ofBits, Ideal.ieee, -EReal.coe_mul]; norm_num

/-- The factor of a row with finite squares is a real number. -/
theorem scale_real (s : ℝ) (hs : 0 ≤ s) : ∃ r : ℝ, scale (s : EReal) = r := by
  obtain ⟨e, he, h⟩ := eps_real
  unfold scale
  rw [width_real, h, Ideal.div_coe (by norm_num), ← EReal.coe_mul, ← EReal.coe_add, Ideal.rsqrt_coe]
  have hp : 0 < s * (1 / 1024) + e := by positivity
  rw [if_neg (not_lt.mpr hp.le), if_neg hp.ne']
  exact ⟨_, rfl⟩

/-- A row's norm is real where the row and the gains are. -/
theorem normRow_real (g v : Fin 1024 → EReal) (hg : ∀ k, ∃ r : ℝ, g k = r) (hv : ∀ k, ∃ r : ℝ, v k = r) (j : Fin 1024) :
    ∃ r : ℝ, normRow g v j = r := by
  choose a ha using hg
  choose b hb using hv
  have e : ∑ k, v k * v k = ((∑ k, b k * b k : ℝ) : EReal) := by
    rw [coe_sum]
    exact Finset.sum_congr rfl fun k _ => by rw [hb, ← EReal.coe_mul]
  obtain ⟨q, hq⟩ := scale_real (∑ k, b k * b k) (Finset.sum_nonneg fun k _ => mul_self_nonneg _)
  exact ⟨b j * q * a j, by unfold normRow; rw [e, hq, ha, hb, ← EReal.coe_mul, ← EReal.coe_mul]⟩

/-- A row against a column of the weights is real where both and the gains are. -/
theorem Args.lin_real (A : Args) (b : Fin 8) (s : Fin 4096) (n : Fin 2632) (hx : ∀ k, ∃ r : ℝ, A.x b s k = r)
    (hg : ∀ k, ∃ r : ℝ, A.g k = r) (hw : ∀ k, ∃ r : ℝ, A.w k n = r) : ∃ r : ℝ, A.lin b s n = r := by
  choose q hq using normRow_real A.g (A.x b s) hg hx
  choose w hw using hw
  refine ⟨∑ k, q k * w k, ?_⟩
  unfold Args.lin
  rw [coe_sum]
  exact Finset.sum_congr rfl fun k _ => by rw [hq, hw, ← EReal.coe_mul]

/-- A magnitude below positive infinity is that of a real number. -/
theorem real_of_lt (z : EReal) (h : Ideal.cmp .olt (max z (-z)) (Ideal.ofBits .f32 0x7F800000#32) = 1#1) : ∃ r : ℝ, z = r := by
  have htop : Ideal.ofBits .f32 0x7F800000#32 = ⊤ := by simp [Ideal.ofBits, Ideal.ieee]
  rw [htop] at h
  have hz : max z (-z) < ⊤ := (Ideal.cmp_olt_eq_one _ _).1 h
  rw [max_lt_iff] at hz
  induction z using EReal.rec with
  | bot => simp at hz
  | coe r => exact ⟨r, rfl⟩
  | top => simp at hz

open Cert.Pre_finite_pool_inputs in
/-- The precondition, entry by entry. -/
theorem entries_real [Cert.Pre_finite_pool_inputs.Facts] (x : FVec Ideal S8x4096x1024 .f32) (p : IVec S8x4096 32) (g : FVec Ideal S1024 .f32)
    (w : FVec Ideal S1024x2632 .f32) (wp : FVec Ideal S4x128x128 .f32) (sc : FVec Ideal S512 .f32)
    (h : Cert.Pre_finite_pool_inputs.fn (F := Ideal) x p g w wp sc = fun _ => 1#1) :
    (∀ b s k, ∃ r : ℝ, (x (ix3 b s k) : EReal) = r) ∧ (∀ k, ∃ r : ℝ, (g (ix1 k) : EReal) = r)
      ∧ (∀ (k : Fin 1024) (n : Fin 512), ∃ r : ℝ, (w (ix2 k ⟨n.val, by omega⟩) : EReal) = r) := by
  have : Subsingleton S_.Idx := ⟨fun a b => funext fun i => i.elim0⟩
  have h0 := congrFun h (fun i => i.elim0)
  obtain ⟨hx, hgw⟩ := IntOp.andi_eq_one.1 h0
  obtain ⟨hg, hw⟩ := IntOp.andi_eq_one.1 hgw
  refine ⟨fun b s k => real_of_lt _ (Host.reduce_andi_all _ _ _ _ _ hx (ix3 b s k)),
    fun k => real_of_lt _ (Host.reduce_andi_all _ _ _ _ _ hg (ix1 k)), fun k n => real_of_lt _ ?_⟩
  have := Host.reduce_andi_all _ _ _ _ _ hw (ix2 k n)
  have e : (extractStridedSlice S1024x512 ![0, 0] w Facts.slices_S1024x2632_S1024x512_0_0) (ix2 k n) = w (ix2 k ⟨n.val, by omega⟩) := by
    pointwise []
  rw [← e]
  exact this

end Cert.Row

end
-- ==== Proof.ProjClaim.lean ====
/-
  The layer's first half: under the precondition the tiled run and the whole-array reference leave the same seven results.
-/
module

public import proofs.«01_k».proof.Defs
public import proofs.«01_k».proof.Proof.ProjResult
public import proofs.«01_k».proof.Proof.ProjRefResult
public import proofs.«01_k».proof.Proof.ProjReal

@[expose] public section

set_option maxRecDepth 16384

noncomputable section

namespace Cert.ProjClaim

open Idealize.ShloMosaic Idealize.ShloMosaic.TcCoe Idealize.SL.Sem
open Cert.Row Cert.ProjRefIdeal.Rows

/-- Under equal arguments the two sides are functions of the same six arrays. -/
theorem args_eq (m : (ℓ : Loc Cert.ProjIdeal.nD Cert.ProjIdeal.τ Cert.ProjIdeal.sig) → Buf (Elt Ideal) ℓ)
    (m' : (ℓ : Loc Cert.ProjRefIdeal.nD Cert.ProjRefIdeal.τ Cert.ProjRefIdeal.sig) → Buf (Elt Ideal) ℓ)
    (c : Dev Cert.ProjIdeal.nD)
    (h0 : m' ((c : Thread Cert.ProjRefIdeal.nD Cert.ProjRefIdeal.τ).loc Cert.ProjRefIdeal.main_arg0)
      = m ((c : Thread Cert.ProjIdeal.nD Cert.ProjIdeal.τ).loc Cert.ProjIdeal.main_arg0))
    (h1 : m' ((c : Thread Cert.ProjRefIdeal.nD Cert.ProjRefIdeal.τ).loc Cert.ProjRefIdeal.main_arg1)
      = m ((c : Thread Cert.ProjIdeal.nD Cert.ProjIdeal.τ).loc Cert.ProjIdeal.main_arg1))
    (h2 : m' ((c : Thread Cert.ProjRefIdeal.nD Cert.ProjRefIdeal.τ).loc Cert.ProjRefIdeal.main_arg2)
      = m ((c : Thread Cert.ProjIdeal.nD Cert.ProjIdeal.τ).loc Cert.ProjIdeal.main_arg2))
    (h3 : m' ((c : Thread Cert.ProjRefIdeal.nD Cert.ProjRefIdeal.τ).loc Cert.ProjRefIdeal.main_arg3)
      = m ((c : Thread Cert.ProjIdeal.nD Cert.ProjIdeal.τ).loc Cert.ProjIdeal.main_arg3))
    (h4 : m' ((c : Thread Cert.ProjRefIdeal.nD Cert.ProjRefIdeal.τ).loc Cert.ProjRefIdeal.main_arg4)
      = m ((c : Thread Cert.ProjIdeal.nD Cert.ProjIdeal.τ).loc Cert.ProjIdeal.main_arg4))
    (h5 : m' ((c : Thread Cert.ProjRefIdeal.nD Cert.ProjRefIdeal.τ).loc Cert.ProjRefIdeal.main_arg5)
      = m ((c : Thread Cert.ProjIdeal.nD Cert.ProjIdeal.τ).loc Cert.ProjIdeal.main_arg5)) :
    args m' c = Cert.ProjIdeal.Array.args m c := by
  unfold args Cert.ProjIdeal.Array.args
  rw [h0, h1, h2, h3, h4, h5]

variable (m : (ℓ : Loc Cert.ProjIdeal.nD Cert.ProjIdeal.τ Cert.ProjIdeal.sig) → Buf (Elt Ideal) ℓ)
  (m' : (ℓ : Loc Cert.ProjRefIdeal.nD Cert.ProjRefIdeal.τ Cert.ProjRefIdeal.sig) → Buf (Elt Ideal) ℓ)
  (c : Dev Cert.ProjIdeal.nD) (ha : args m' c = Cert.ProjIdeal.Array.args m c)

theorem eta3 {a b d : ℕ} (i : (⟨3, ![a, b, d]⟩ : Shape).Idx) : i = ix3 (i 0) (i 1) (i 2) := by funext k; fin_cases k <;> rfl

theorem eta2 {a b : ℕ} (i : (⟨2, ![a, b]⟩ : Shape).Idx) : i = ix2 (i 0) (i 1) := by funext k; fin_cases k <;> rfl

include ha

theorem agree0 (hr : ∀ (b : Fin 8) (s : Fin 4096) (n : Fin 512), ∃ r : ℝ, (args m' c).lin b s ⟨n.val, by omega⟩ = r) :
    ref0 m' c = Cert.ProjIdeal.Array.res0 m c := by
  funext i
  rw [eta2 i]
  exact (ref0_at m' c hr _ _).trans (by rw [ha]; rfl)

theorem agree1 : ref1 m' c = Cert.ProjIdeal.Array.res1 m c := by
  funext i
  rw [eta3 i]
  exact (ref1_at m' c _ _ _).trans (by rw [ha]; rfl)

theorem agree2 : ref2 m' c = Cert.ProjIdeal.Array.res2 m c := by
  funext i
  rw [eta3 i]
  exact (ref2_at m' c _ _ _).trans (by rw [ha]; rfl)

theorem agree3 : ref3 m' c = Cert.ProjIdeal.Array.res3 m c := by
  funext i
  rw [eta3 i]
  exact (ref3_at m' c _ _ _).trans (by rw [ha]; rfl)

theorem agree4 : ref4 m' c = Cert.ProjIdeal.Array.res4 m c := by
  funext i
  rw [eta3 i]
  exact (ref4_at m' c _ _ _).trans (by rw [ha]; rfl)

theorem agree5 : ref5 m' c = Cert.ProjIdeal.Array.res5 m c := by
  funext i
  rw [eta2 i]
  exact (ref5_at m' c _ _).trans (by rw [ha]; rfl)

theorem agree6 : ref6 m' c = Cert.ProjIdeal.Array.res6 m c := by
  funext i
  rw [eta2 i]
  exact (ref6_at m' c _ _).trans (by rw [ha]; rfl)

omit ha

open Cert.ProjIdeal.Array in
theorem algebraic [Cert.Pre_finite_pool_inputs.Facts] : Cert.algebraic_ProjIdeal_ProjRefIdeal_pre_finite_pool_inputs := by
  intro m g m' g' hpre hargs
  refine ⟨res0 m, res1 m, res2 m, res3 m, res4 m, res5 m, res6 m, ?_, ?_⟩
  · refine (θ_run Cert.ProjIdeal.defs _ _).mono (fun r h c => ?_) (Cert.ProjIdeal.Value.run_blocks m g)
    obtain ⟨q0, q1, q2, q3, q4, q5, q6, hk⟩ := h c
    exact ⟨q0.trans (final9 m c), q1.trans (final10 m c), q2.trans (final11 m c), q3.trans (final12 m c), q4.trans (final13 m c),
      q5.trans (final14 m c), q6.trans (final15 m c), hk⟩
  · refine (θ_run Cert.ProjRefIdeal.defs _ _).mono (fun r h c => ?_) (Cert.ProjRefIdeal.Value.run m' g')
    obtain ⟨h0, h1, h2, h3, h4, h5⟩ := hargs c
    have ha := args_eq m m' c h0 h1 h2 h3 h4 h5
    obtain ⟨hx, hg, hw⟩ := entries_real _ _ _ _ _ _ (hpre c)
    have hr : ∀ (b : Fin 8) (s : Fin 4096) (n : Fin 512), ∃ r : ℝ, (Cert.ProjRefIdeal.Rows.args m' c).lin b s ⟨n.val, by omega⟩ = r := fun b s n => by
      rw [ha]
      exact Args.lin_real _ b s _ (hx b s) hg (fun k => hw k n)
    obtain ⟨q0, q1, q2, q3, q4, q5, q6, hk⟩ := h c
    refine ⟨q0.trans (Eq.trans ?_ (agree0 m m' c ha hr)), q1.trans (Eq.trans ?_ (agree1 m m' c ha)),
      q2.trans (Eq.trans ?_ (agree2 m m' c ha)), q3.trans (Eq.trans ?_ (agree3 m m' c ha)), q4.trans (Eq.trans ?_ (agree4 m m' c ha)),
      q5.trans (Eq.trans ?_ (agree5 m m' c ha)), q6.trans (Eq.trans ?_ (agree6 m m' c ha)), hk⟩
    · rw [v222_eq]; rfl
    · rfl
    · rfl
    · rfl
    · rfl
    · rw [v226_eq]; rfl
    · rfl

theorem frame_ref_pre [Cert.Pre_finite_pool_inputs.Facts] : Cert.quiescent_ProjRefIdeal_pre_finite_pool_inputs := fun m ρ _ =>
  (θ_run Cert.ProjRefIdeal.defs _ _).mono (fun r h => ⟨fun c => (h c).2.2.2.2.2.2.2, sem_eq_zero_of_no_sems (by decide) r.2⟩)
    (Cert.ProjRefIdeal.Value.run (F := Ideal) m ρ)

theorem frame_ref : Cert.quiescent_ProjRefIdeal := fun m ρ _ =>
  (θ_run Cert.ProjRefIdeal.defs _ _).mono (fun r h => ⟨fun c => (h c).2.2.2.2.2.2.2, sem_eq_zero_of_no_sems (by decide) r.2⟩)
    (Cert.ProjRefIdeal.Value.run (F := Ideal) m ρ)

end Cert.ProjClaim

end
-- ==== Proof.PostBlock.lean ====
/-
  One block of the layer's second half: each of the body's values at a row and a column, and the stored row.
-/
module

public import proofs.«01_k».proof.Proof.Gen.PostIdeal.Value
public import proofs.«01_k».proof.Proof.RowFns

@[expose] public section

noncomputable section

namespace Cert.PostIdeal.Block

open Cert.PostIdeal Cert.PostIdeal.Gen Idealize.ShloMosaic Idealize.SL.Sem
open Cert.Row

/-- The first residual sum of a row, read off the block. -/
theorem pay2_at (v0 : Vec Ideal S512x512 .bf16) (v1 : Vec Ideal S512x1024 .bf16) (v4 : Vec Ideal S512x512 .bf16)
    (v5 : Vec Ideal S512x1024 .bf16) (v9 : Vec Ideal S512x1024 .f32) (v11 : Vec Ideal S1x1024 .f32) (r : Fin 512) (l : Fin 1024) :
    k0_pay2 v0 v1 v4 v5 v9 v11 (ix2 r l)
      = mid (fun j => v9 (ix2 r j)) (fun j => v11 (ix2 0 j)) (mix (fun k => v0 (ix2 r k)) (fun k => v4 (ix2 r k)) (fun k j => v1 (ix2 k j)) (fun k j => v5 (ix2 k j))) l := by
  pointwise [k0_pay2]
  unfold mid normRow mix scale
  rfl

theorem pay4_at (v0 : Vec Ideal S512x512 .bf16) (v1 : Vec Ideal S512x1024 .bf16) (v4 : Vec Ideal S512x512 .bf16)
    (v5 : Vec Ideal S512x1024 .bf16) (v9 : Vec Ideal S512x1024 .f32) (v11 : Vec Ideal S1x1024 .f32) (r : Fin 512) (l : Fin 1024) :
    k0_pay4 v0 v1 v4 v5 v9 v11 (ix2 r l)
      = scale (∑ k : Fin 1024, k0_pay2 v0 v1 v4 v5 v9 v11 (ix2 r k) * k0_pay2 v0 v1 v4 v5 v9 v11 (ix2 r k)) := by
  unfold k0_pay4
  generalize k0_pay2 v0 v1 v4 v5 v9 v11 = y
  pointwise
  unfold scale
  rfl

theorem pay5_at (v25 : FVec Ideal S512x1024 .f32) (v27 : FVec Ideal S1x1024 .f32) (v36 : FVec Ideal S512x1024 .f32) (r : Fin 512) (l : Fin 1024) :
    k0_pay5 v25 v27 v36 (ix2 r l) = v25 (ix2 r l) * v36 (ix2 r l) * v27 (ix2 0 l) := by
  pointwise [k0_pay5]

/-- Three of the four chunks of the hid values. -/
theorem pay6_at (v25 : FVec Ideal S512x1024 .f32) (v27 : FVec Ideal S1x1024 .f32) (v36 : FVec Ideal S512x1024 .f32)
    (v41 v48 v51 v58 v62 v69 : Vec Ideal S1024x1024 .bf16) (r : Fin 512) (l : Fin 1024) :
    k0_pay6 v25 v27 v36 v41 v48 v51 v58 v62 v69 (ix2 r l)
      = (∑ n : Fin 1024, hid (fun k => k0_pay5 v25 v27 v36 (ix2 r k)) (fun k => v41 (ix2 k n)) * v48 (ix2 n l))
        + (∑ n : Fin 1024, hid (fun k => k0_pay5 v25 v27 v36 (ix2 r k)) (fun k => v51 (ix2 k n)) * v58 (ix2 n l))
        + (∑ n : Fin 1024, hid (fun k => k0_pay5 v25 v27 v36 (ix2 r k)) (fun k => v62 (ix2 k n)) * v69 (ix2 n l)) := by
  unfold k0_pay6
  generalize k0_pay5 v25 v27 v36 = h
  pointwise
  unfold hid
  rfl

theorem pay1_at (v25 : FVec Ideal S512x1024 .f32) (v40 : FVec Ideal S512x1024 .bf16) (v72 : FVec Ideal S512x1024 .f32)
    (v73 v80 : Vec Ideal S1024x1024 .bf16) (v84 : Vec Ideal S1x1024 .f32) (r : Fin 512) (l : Fin 1024) :
    k0_pay1 v25 v40 v72 v73 v80 v84 (ix2 r l)
      = v25 (ix2 r l) + normRow (fun j => v84 (ix2 0 j))
          (fun j => v72 (ix2 r j) + ∑ n : Fin 1024, hid (fun k => v40 (ix2 r k)) (fun k => v73 (ix2 k n)) * v80 (ix2 n j)) l := by
  pointwise [k0_pay1]
  unfold normRow hid scale
  rfl

theorem hz : (![0, 0] : Fin 2 → Nat) = fun _ => 0 := funext fun a => by fin_cases a <;> rfl

/-- What the body leaves in the output's buffer, at row `r` and column `l`: the row function of the blocks' rows. -/
theorem out_at (x0 : Vec Ideal S512x1024 .f32) (x1 x2 : Vec Ideal S512x512 .bf16) (x3 x4 : Vec Ideal S512x1024 .bf16)
    (x5 x6 : Vec Ideal S1x1024 .f32) (x7 : Vec Ideal S1024x4096 .bf16) (x8 : Vec Ideal S4096x1024 .bf16)
    (x9 : Vec Ideal S1x1024 .f32) (r : Fin 512) (l : Fin 1024) :
    out0_10 x0 x1 x2 x3 x4 x5 x6 x7 x8 x9 (ix2 r l)
      = postRow (fun j => x0 (ix2 r j))
          (mix (fun k => x1 (ix2 r k)) (fun k => x2 (ix2 r k)) (fun k j => x3 (ix2 k j)) (fun k j => x4 (ix2 k j)))
          (fun j => x5 (ix2 0 j)) (fun j => x6 (ix2 0 j)) (fun j => x9 (ix2 0 j))
          (fun k n => x7 (ix2 k n)) (fun n j => x8 (ix2 n j)) l := by
  unfold out0_10
  rw [View.canon_unit_zero hz, View.ld_unit_zero (S := S1x1024) hz _ x9, pay1_at]
  simp only [pay6_at, pay5_at]
  unfold k0_pay7 k0_pay8 k0_pay9 k0_pay3
  simp only [pay2_at, pay4_at, View.ld_unit_zero (S := S512x1024) hz, View.ld_unit_zero (S := S512x512) hz,
    View.ld_unit_zero (S := S1x1024) hz, shapeCast_self]
  unfold postRow ffn
  have key : ∀ (h : Fin 1024 → EReal) (j : Fin 1024),
      (∑ n : Fin 1024, hid h (fun k => View.ld x7 r0_3 (ix2 k n)) * View.ld x8 r0_4 (ix2 n j)
        + ∑ n : Fin 1024, hid h (fun k => View.ld x7 r0_5 (ix2 k n)) * View.ld x8 r0_6 (ix2 n j)
        + ∑ n : Fin 1024, hid h (fun k => View.ld x7 r0_7 (ix2 k n)) * View.ld x8 r0_8 (ix2 n j)
        + ∑ n : Fin 1024, hid h (fun k => View.ld x7 r0_9 (ix2 k n)) * View.ld x8 r0_10 (ix2 n j))
      = ∑ n : Fin 4096, hid h (fun k => x7 (ix2 k n)) * x8 (ix2 n j) := by
    intro h j
    rw [Idealize.ShloMosaic.Fin.sum_univ_tiles 4 1024 rfl]
    rw [Fin.sum_univ_four]
    pointwise
  simp only [key]
  rfl

end Cert.PostIdeal.Block

end
-- ==== Proof.PostArray.lean ====
/-
  The result array of the layer's second half, read element by element off the blocks that the points write back.
-/
module

public import proofs.«01_k».proof.Proof.PostBlock
public import Idealize.ShloMosaic.Lib.Pipeline.ValueKit
public import Idealize.ShloMosaic.Lib.StableHlo.ReadAt

@[expose] public section

set_option maxRecDepth 16384

noncomputable section

namespace Cert.PostIdeal.Array

open Cert.PostIdeal Cert.PostIdeal.Gen Idealize.ShloMosaic Idealize.ShloMosaic.TcCoe Idealize.SL.Sem
open Cert.Row

variable (m : (ℓ : Loc nD τ sig) → Buf (Elt Ideal) ℓ) (c : Dev nD)

/-- Where each window's block stands at each point: the rows move with the point, the rest stays. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0] :=
  (by decide +kernel : ∀ t : Fin grid0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0])

/-- The row of the flat arrays that row `r` of point `t`'s block is. -/
abbrev row (t : Fin cfg0.N) (r : Fin 512) : Fin 32768 := ⟨t.val * 512 + r.val, by
  have h : t.val < 64 := t.isLt
  omega⟩

theorem entry0 (i : Fin 32768) (l : Fin 1024) : (V m c main_v0 : Vec Ideal S32768x1024 .f32) (ix2 i l)
    = m ((c : Thread nD τ).loc main_arg0) (ix3 ⟨i.val / 4096, by omega⟩ ⟨i.val % 4096, by omega⟩ l) := by
  unfold V
  after_reads_at

theorem entry2 (k : Fin 512) (l : Fin 1024) : (V m c main_v2 : Vec Ideal S512x1024 .bf16) (ix2 k l)
    = m ((c : Thread nD τ).loc main_arg3) (ix2 ⟨k.val, by omega⟩ l) := by
  unfold V
  after_reads_at

theorem entry3 (k : Fin 512) (l : Fin 1024) : (V m c main_v3 : Vec Ideal S512x1024 .bf16) (ix2 k l)
    = m ((c : Thread nD τ).loc main_arg3) (ix2 ⟨512 + k.val, by omega⟩ l) := by
  unfold V
  after_reads_at

theorem entry4 (l : Fin 1024) : (V m c main_v4 : Vec Ideal S1x1024 .f32) (ix2 0 l)
    = m ((c : Thread nD τ).loc main_arg4) (ix1 l) := by
  unfold V
  after_reads_at

theorem entry5 (l : Fin 1024) : (V m c main_v5 : Vec Ideal S1x1024 .f32) (ix2 0 l)
    = m ((c : Thread nD τ).loc main_arg5) (ix1 l) := by
  unfold V
  after_reads_at

theorem entry8 (l : Fin 1024) : (V m c main_v8 : Vec Ideal S1x1024 .f32) (ix2 0 l)
    = m ((c : Thread nD τ).loc main_arg8) (ix1 l) := by
  unfold V
  after_reads_at

theorem entry6 (k : Fin 1024) (l : Fin 4096) : (V m c main_v6 : Vec Ideal S1024x4096 .bf16) (ix2 k l)
    = m ((c : Thread nD τ).loc main_arg6) (ix2 k l) := by
  unfold V
  after_reads_at

theorem entry7 (k : Fin 4096) (l : Fin 1024) : (V m c main_v7 : Vec Ideal S4096x1024 .bf16) (ix2 k l)
    = m ((c : Thread nD τ).loc main_arg7) (ix2 k l) := by
  unfold V
  after_reads_at

theorem blk0 (t : Fin cfg0.N) (r : Fin 512) (l : Fin 1024) : (iblk m c 0 t : Vec Ideal S512x1024 .f32) (ix2 r l)
    = m ((c : Thread nD τ).loc main_arg0) (ix3 ⟨(row t r).val / 4096, by have := (row t r).isLt; omega⟩ ⟨(row t r).val % 4096, by omega⟩ l) := by
  refine Eq.trans (b := (V m c main_v0 : Vec Ideal S32768x1024 .f32) (ix2 (row t r) l)) ?_ (entry0 m c (row t r) l)
  blk_ext [iblk, idx t]

theorem blk1 (t : Fin cfg0.N) (r : Fin 512) (l : Fin 512) : (iblk m c 1 t : Vec Ideal S512x512 .bf16) (ix2 r l)
    = m ((c : Thread nD τ).loc main_arg1) (ix2 (row t r) l) := by
  refine Eq.trans (b := (V m c main_arg1 : Vec Ideal S32768x512 .bf16) (ix2 (row t r) l)) ?_ (congrFun (V_main_arg1 m c) _)
  blk_ext [iblk, idx t]

theorem blk2 (t : Fin cfg0.N) (r : Fin 512) (l : Fin 512) : (iblk m c 2 t : Vec Ideal S512x512 .bf16) (ix2 r l)
    = m ((c : Thread nD τ).loc main_arg2) (ix2 (row t r) l) := by
  refine Eq.trans (b := (V m c main_arg2 : Vec Ideal S32768x512 .bf16) (ix2 (row t r) l)) ?_ (congrFun (V_main_arg2 m c) _)
  blk_ext [iblk, idx t]

theorem blk3 (t : Fin cfg0.N) (r : Fin 512) (l : Fin 1024) : (iblk m c 3 t : Vec Ideal S512x1024 .bf16) (ix2 r l)
    = m ((c : Thread nD τ).loc main_arg3) (ix2 ⟨r.val, by omega⟩ l) := by
  refine Eq.trans (b := (V m c main_v2 : Vec Ideal S512x1024 .bf16) (ix2 r l)) ?_ (entry2 m c r l)
  blk_ext [iblk, idx t]

theorem blk4 (t : Fin cfg0.N) (r : Fin 512) (l : Fin 1024) : (iblk m c 4 t : Vec Ideal S512x1024 .bf16) (ix2 r l)
    = m ((c : Thread nD τ).loc main_arg3) (ix2 ⟨512 + r.val, by omega⟩ l) := by
  refine Eq.trans (b := (V m c main_v3 : Vec Ideal S512x1024 .bf16) (ix2 r l)) ?_ (entry3 m c r l)
  blk_ext [iblk, idx t]

theorem blk5 (t : Fin cfg0.N) (l : Fin 1024) : (iblk m c 5 t : Vec Ideal S1x1024 .f32) (ix2 0 l)
    = m ((c : Thread nD τ).loc main_arg4) (ix1 l) := by
  refine Eq.trans (b := (V m c main_v4 : Vec Ideal S1x1024 .f32) (ix2 0 l)) ?_ (entry4 m c l)
  blk_ext [iblk, idx t]

theorem blk6 (t : Fin cfg0.N) (l : Fin 1024) : (iblk m c 6 t : Vec Ideal S1x1024 .f32) (ix2 0 l)
    = m ((c : Thread nD τ).loc main_arg5) (ix1 l) := by
  refine Eq.trans (b := (V m c main_v5 : Vec Ideal S1x1024 .f32) (ix2 0 l)) ?_ (entry5 m c l)
  blk_ext [iblk, idx t]

theorem blk7 (t : Fin cfg0.N) (k : Fin 1024) (l : Fin 4096) : (iblk m c 7 t : Vec Ideal S1024x4096 .bf16) (ix2 k l)
    = m ((c : Thread nD τ).loc main_arg6) (ix2 k l) := by
  refine Eq.trans (b := (V m c main_v6 : Vec Ideal S1024x4096 .bf16) (ix2 k l)) ?_ (entry6 m c k l)
  blk_ext [iblk, idx t]

theorem blk8 (t : Fin cfg0.N) (k : Fin 4096) (l : Fin 1024) : (iblk m c 8 t : Vec Ideal S4096x1024 .bf16) (ix2 k l)
    = m ((c : Thread nD τ).loc main_arg7) (ix2 k l) := by
  refine Eq.trans (b := (V m c main_v7 : Vec Ideal S4096x1024 .bf16) (ix2 k l)) ?_ (entry7 m c k l)
  blk_ext [iblk, idx t]

theorem blk9 (t : Fin cfg0.N) (l : Fin 1024) : (iblk m c 9 t : Vec Ideal S1x1024 .f32) (ix2 0 l)
    = m ((c : Thread nD τ).loc main_arg8) (ix1 l) := by
  refine Eq.trans (b := (V m c main_v8 : Vec Ideal S1x1024 .f32) (ix2 0 l)) ?_ (entry8 m c l)
  blk_ext [iblk, idx t]

/-- The result, element by element, from the arguments. -/
def result (i : S32768x1024.Idx) : EReal :=
  postRow (fun j => m ((c : Thread nD τ).loc main_arg0) (ix3 ⟨(i 0).val / 4096, by have := (i 0).isLt; dsimp at this; omega⟩ ⟨(i 0).val % 4096, by omega⟩ j))
    (mix (fun k => m ((c : Thread nD τ).loc main_arg1) (ix2 (i 0) k)) (fun k => m ((c : Thread nD τ).loc main_arg2) (ix2 (i 0) k))
      (fun k j => m ((c : Thread nD τ).loc main_arg3) (ix2 ⟨k.val, by omega⟩ j)) (fun k j => m ((c : Thread nD τ).loc main_arg3) (ix2 ⟨512 + k.val, by omega⟩ j)))
    (fun j => m ((c : Thread nD τ).loc main_arg4) (ix1 j)) (fun j => m ((c : Thread nD τ).loc main_arg5) (ix1 j))
    (fun j => m ((c : Thread nD τ).loc main_arg8) (ix1 j))
    (fun k n => m ((c : Thread nD τ).loc main_arg6) (ix2 k n)) (fun n j => m ((c : Thread nD τ).loc main_arg7) (ix2 n j)) (i 1)

theorem final : (dats m 0 c).arrAt 10 cfg0.N = (result m c : Vec Ideal S32768x1024 .f32) := by
  refine (dats m 0 c).arrAt_eq_of_covers 10 _ (by decide +kernel) fun t hf y => ?_
  blk_simp
  rw [after0_10]
  obtain ⟨r, l, rfl⟩ : ∃ (r : Fin 512) (l : Fin 1024), y = ix2 r l := ⟨y 0, y 1, by funext a; fin_cases a <;> rfl⟩
  have he : (win0_10.blk t).view.emb (ix2 r l) = (ix2 (row t r) l : S32768x1024.Idx) := by
    blk_ext [idx t]
  refine (Block.out_at (iblk m c 0 t) (iblk m c 1 t) (iblk m c 2 t) (iblk m c 3 t) (iblk m c 4 t) (iblk m c 5 t)
    (iblk m c 6 t) (iblk m c 7 t) (iblk m c 8 t) (iblk m c 9 t) r l).trans ?_
  refine Eq.trans ?_ (congrArg (result m c) he.symm)
  simp only [blk0, blk1, blk2, blk3, blk4, blk5, blk6, blk7, blk8, blk9]
  rfl

/-- The run, read: the result array at the row function of the arguments, the arguments unchanged. -/
theorem out_eq (r : PUnit × MemSt nD τ sig (Elt Ideal)) (h : r.2.mem ((c : Thread nD τ).loc main_v9) = (dats m 0 c).arrAt 10 cfg0.N) :
    r.2.mem ((c : Thread nD τ).loc main_v9) = (result m c : Vec Ideal S32768x1024 .f32) :=
  h.trans (final m c)

end Cert.PostIdeal.Array

end
-- ==== Proof.PostRef.lean ====
/-
  The reference of the layer's second half, read at one row of one sequence.
-/
module

public import proofs.«01_k».proof.Proof.Gen.PostRefIdeal.Run
public import proofs.«01_k».proof.Proof.RowFns

@[expose] public section

noncomputable section

namespace Cert.PostRefIdeal.Rows

open Cert.PostRefIdeal Cert.PostRefIdeal.Gen Cert.PostRefIdeal.Value Idealize.ShloMosaic Idealize.ShloMosaic.TcCoe Idealize.SL.Sem
open Cert.Row

/-- The rows' mean-square norm, as the host writes it over the whole array. -/
def hostNorm (g : FVec Ideal S1024 .f32) (v : FVec Ideal S8x4096x1024 .f32) : FVec Ideal S8x4096x1024 .f32 :=
  mulf (mulf v (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf v v) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 g))

theorem hostNorm_at (g : FVec Ideal S1024 .f32) (v : FVec Ideal S8x4096x1024 .f32) (b : Fin 8) (s : Fin 4096) (l : Fin 1024) :
    hostNorm g v (ix3 b s l) = normRow (fun j => g (ix1 j)) (fun j => v (ix3 b s j)) l := by
  pointwise [hostNorm]
  unfold normRow scale
  rfl

/-- The out-projection of the two halves side by side. -/
def hostMix (a b : FVec Ideal S32768x512 .bf16) (w : FVec Ideal S1024x1024 .f32) : FVec Ideal S8x4096x1024 .f32 :=
  Host.dotGeneral dot_S8x4096x1024_S1024x1024_S8x4096x1024_2_0_01_1_n_n none (concatenate S8x4096x1024 2 [⟨S8x4096x512, (shapeCast _ (extf .f32 a bitsLt_bf16_f32) shapeCasts_S32768x512_S8x4096x512)⟩, ⟨S8x4096x512, (shapeCast _ (extf .f32 b bitsLt_bf16_f32) shapeCasts_S32768x512_S8x4096x512)⟩] concatenates_S8x4096x512_S8x4096x512_S8x4096x1024_d2) w

/-- The row of the flat arrays that row `s` of sequence `b` is. -/
abbrev flat (b : Fin 8) (s : Fin 4096) : Fin 32768 := ⟨b.val * 4096 + s.val, by omega⟩

theorem hostMix_at (a b : FVec Ideal S32768x512 .bf16) (w : FVec Ideal S1024x1024 .f32) (p : Fin 8) (s : Fin 4096) (l : Fin 1024) :
    hostMix a b w (ix3 p s l) = mix (fun k => a (ix2 (flat p s) k)) (fun k => b (ix2 (flat p s) k))
      (fun k j => w (ix2 ⟨k.val, by omega⟩ j)) (fun k j => w (ix2 ⟨512 + k.val, by omega⟩ j)) l := by
  pointwise [hostMix]
  rfl

/-- The squared-ReLU block over the whole array. -/
def hostFfn (h : FVec Ideal S8x4096x1024 .f32) (w1 : FVec Ideal S1024x4096 .f32) (w2 : FVec Ideal S4096x1024 .f32) : FVec Ideal S8x4096x1024 .f32 :=
  Host.dotGeneral dot_S8x4096x4096_S4096x1024_S8x4096x1024_2_0_01_1_n_n none
    (mulf (maximumf (Host.dotGeneral dot_S8x4096x1024_S1024x4096_S8x4096x4096_2_0_01_1_n_n none h w1) (broadcastInDim S8x4096x4096 ![] bcast_S_S8x4096x4096 (constant S_ .f32 0x00000000#32)))
      (maximumf (Host.dotGeneral dot_S8x4096x1024_S1024x4096_S8x4096x4096_2_0_01_1_n_n none h w1) (broadcastInDim S8x4096x4096 ![] bcast_S_S8x4096x4096 (constant S_ .f32 0x00000000#32)))) w2

theorem hostFfn_at (h : FVec Ideal S8x4096x1024 .f32) (w1 : FVec Ideal S1024x4096 .f32) (w2 : FVec Ideal S4096x1024 .f32)
    (p : Fin 8) (s : Fin 4096) (l : Fin 1024) :
    hostFfn h w1 w2 (ix3 p s l) = ffn (fun k => h (ix3 p s k)) (fun k n => w1 (ix2 k n)) (fun n j => w2 (ix2 n j)) l := by
  pointwise [hostFfn]
  rfl

/-- The reference over the whole array. -/
def hostPost (x : FVec Ideal S8x4096x1024 .f32) (v : FVec Ideal S8x4096x1024 .f32) (g1 g2 g3 : FVec Ideal S1024 .f32)
    (w1 : FVec Ideal S1024x4096 .f32) (w2 : FVec Ideal S4096x1024 .f32) : FVec Ideal S8x4096x1024 .f32 :=
  addf (addf x (hostNorm g1 v)) (hostNorm g3 (hostFfn (hostNorm g2 (addf x (hostNorm g1 v))) w1 w2))

theorem hostPost_at (x : FVec Ideal S8x4096x1024 .f32) (v : FVec Ideal S8x4096x1024 .f32) (g1 g2 g3 : FVec Ideal S1024 .f32)
    (w1 : FVec Ideal S1024x4096 .f32) (w2 : FVec Ideal S4096x1024 .f32) (p : Fin 8) (s : Fin 4096) (l : Fin 1024) :
    hostPost x v g1 g2 g3 w1 w2 (ix3 p s l)
      = postRow (fun j => x (ix3 p s j)) (fun j => v (ix3 p s j)) (fun j => g1 (ix1 j)) (fun j => g2 (ix1 j)) (fun j => g3 (ix1 j))
          (fun k n => w1 (ix2 k n)) (fun n j => w2 (ix2 n j)) l := by
  have hm : ∀ j, addf x (hostNorm g1 v) (ix3 p s j) = mid (fun j => x (ix3 p s j)) (fun j => g1 (ix1 j)) (fun j => v (ix3 p s j)) j := by
    intro j
    show x (ix3 p s j) + hostNorm g1 v (ix3 p s j) = _
    rw [hostNorm_at]; rfl
  show addf x (hostNorm g1 v) (ix3 p s l) + hostNorm g3 _ (ix3 p s l) = _
  rw [hostNorm_at, hm]
  simp only [hostFfn_at, hostNorm_at, hm]
  rfl

variable (m : (ℓ : Loc nD τ sig) → Buf (Elt Ideal) ℓ) (c : Dev nD)

/-- The reference's result is that array, its rows flattened. -/
theorem res_eq : res_out0 m c = shapeCast S32768x1024 (hostPost (m ((c.tc : Thread nD τ).loc main_arg0))
    (hostMix (m ((c.tc : Thread nD τ).loc main_arg1)) (m ((c.tc : Thread nD τ).loc main_arg2)) (m ((c.tc : Thread nD τ).loc main_arg3)))
    (m ((c.tc : Thread nD τ).loc main_arg4)) (m ((c.tc : Thread nD τ).loc main_arg5)) (m ((c.tc : Thread nD τ).loc main_arg8))
    (m ((c.tc : Thread nD τ).loc main_arg6)) (m ((c.tc : Thread nD τ).loc main_arg7))) shapeCasts_S8x4096x1024_S32768x1024 := by
  unfold res_out0 res_main_v51 hostPost hostFfn hostNorm hostMix
  rfl

end Cert.PostRefIdeal.Rows

end
-- ==== Proof.PostClaim.lean ====
/-
  The layer's second half: the tiled run and the whole-array reference leave one result, and neither writes its arguments.
-/
module

public import proofs.«01_k».proof.Defs
public import proofs.«01_k».proof.Proof.PostArray
public import proofs.«01_k».proof.Proof.PostRef

@[expose] public section

noncomputable section

namespace Cert.PostClaim

open Idealize.ShloMosaic Idealize.ShloMosaic.TcCoe Idealize.SL.Sem
open Cert.Row

/-- The rows of the flattened result, read back in the array of sequences. -/
theorem flat_at (z : FVec Ideal Cert.PostRefIdeal.S8x4096x1024 .f32) (r : Fin 32768) (l : Fin 1024) :
    shapeCast Cert.PostRefIdeal.S32768x1024 z Cert.PostRefIdeal.Gen.shapeCasts_S8x4096x1024_S32768x1024 (ix2 r l)
      = z (ix3 ⟨r.val / 4096, by omega⟩ ⟨r.val % 4096, by omega⟩ l) := by
  pointwise []

/-- Under equal arguments the reference's array is the kernel's. -/
theorem agree (m : (ℓ : Loc Cert.PostIdeal.nD Cert.PostIdeal.τ Cert.PostIdeal.sig) → Buf (Elt Ideal) ℓ)
    (m' : (ℓ : Loc Cert.PostRefIdeal.nD Cert.PostRefIdeal.τ Cert.PostRefIdeal.sig) → Buf (Elt Ideal) ℓ)
    (c : Dev Cert.PostIdeal.nD)
    (h0 : m' ((c : Thread Cert.PostRefIdeal.nD Cert.PostRefIdeal.τ).loc Cert.PostRefIdeal.main_arg0)
      = m ((c : Thread Cert.PostIdeal.nD Cert.PostIdeal.τ).loc Cert.PostIdeal.main_arg0))
    (h1 : m' ((c : Thread Cert.PostRefIdeal.nD Cert.PostRefIdeal.τ).loc Cert.PostRefIdeal.main_arg1)
      = m ((c : Thread Cert.PostIdeal.nD Cert.PostIdeal.τ).loc Cert.PostIdeal.main_arg1))
    (h2 : m' ((c : Thread Cert.PostRefIdeal.nD Cert.PostRefIdeal.τ).loc Cert.PostRefIdeal.main_arg2)
      = m ((c : Thread Cert.PostIdeal.nD Cert.PostIdeal.τ).loc Cert.PostIdeal.main_arg2))
    (h3 : m' ((c : Thread Cert.PostRefIdeal.nD Cert.PostRefIdeal.τ).loc Cert.PostRefIdeal.main_arg3)
      = m ((c : Thread Cert.PostIdeal.nD Cert.PostIdeal.τ).loc Cert.PostIdeal.main_arg3))
    (h4 : m' ((c : Thread Cert.PostRefIdeal.nD Cert.PostRefIdeal.τ).loc Cert.PostRefIdeal.main_arg4)
      = m ((c : Thread Cert.PostIdeal.nD Cert.PostIdeal.τ).loc Cert.PostIdeal.main_arg4))
    (h5 : m' ((c : Thread Cert.PostRefIdeal.nD Cert.PostRefIdeal.τ).loc Cert.PostRefIdeal.main_arg5)
      = m ((c : Thread Cert.PostIdeal.nD Cert.PostIdeal.τ).loc Cert.PostIdeal.main_arg5))
    (h6 : m' ((c : Thread Cert.PostRefIdeal.nD Cert.PostRefIdeal.τ).loc Cert.PostRefIdeal.main_arg6)
      = m ((c : Thread Cert.PostIdeal.nD Cert.PostIdeal.τ).loc Cert.PostIdeal.main_arg6))
    (h7 : m' ((c : Thread Cert.PostRefIdeal.nD Cert.PostRefIdeal.τ).loc Cert.PostRefIdeal.main_arg7)
      = m ((c : Thread Cert.PostIdeal.nD Cert.PostIdeal.τ).loc Cert.PostIdeal.main_arg7))
    (h8 : m' ((c : Thread Cert.PostRefIdeal.nD Cert.PostRefIdeal.τ).loc Cert.PostRefIdeal.main_arg8)
      = m ((c : Thread Cert.PostIdeal.nD Cert.PostIdeal.τ).loc Cert.PostIdeal.main_arg8)) :
    (Cert.PostRefIdeal.Value.res_out0 m' c : FVec Ideal Cert.PostRefIdeal.S32768x1024 .f32) = Cert.PostIdeal.Array.result m c := by
  rw [Cert.PostRefIdeal.Rows.res_eq, h0, h1, h2, h3, h4, h5, h6, h7, h8]
  funext i
  obtain ⟨r, l, rfl⟩ : ∃ (r : Fin 32768) (l : Fin 1024), i = ix2 r l := ⟨i 0, i 1, by funext a; fin_cases a <;> rfl⟩
  rw [flat_at, Cert.PostRefIdeal.Rows.hostPost_at]
  have hf : Cert.PostRefIdeal.Rows.flat ⟨r.val / 4096, by omega⟩ ⟨r.val % 4096, by omega⟩ = r := Fin.ext (by dsimp; omega)
  simp only [Cert.PostRefIdeal.Rows.hostMix_at, hf]
  rfl

theorem algebraic : Cert.algebraic_PostIdeal_PostRefIdeal := by
  intro m g m' g' _ hargs
  refine ⟨fun c => Cert.PostIdeal.Array.result m c, ?_, ?_⟩
  · refine (θ_run Cert.PostIdeal.defs _ _).mono (fun r h c => ⟨(h c).1.trans (Cert.PostIdeal.Array.final m c), (h c).2⟩)
      (Cert.PostIdeal.Value.run_blocks m g)
  · refine (θ_run Cert.PostRefIdeal.defs _ _).mono (fun r h c => ⟨(h c).1.trans ?_, (h c).2⟩) (Cert.PostRefIdeal.Value.run m' g')
    obtain ⟨h0, h1, h2, h3, h4, h5, h6, h7, h8⟩ := hargs c
    exact agree m m' c h0 h1 h2 h3 h4 h5 h6 h7 h8

theorem frame_ref : Cert.quiescent_PostRefIdeal := fun m ρ _ =>
  (θ_run Cert.PostRefIdeal.defs _ _).mono (fun r h => ⟨fun c => (h c).2, sem_eq_zero_of_no_sems (by decide) r.2⟩)
    (Cert.PostRefIdeal.Value.run (F := Ideal) m ρ)

end Cert.PostClaim

end
-- ==== Proof.AttnKeeps.lean ====
/-
  Programs that hand back what they are given: a stretch of the attention's body is run from a resource `R` and gives `R` back,
  whatever values its loads bring and whatever its stores put down. `R` lends the memrefs the body touches, one at a time.
-/
module

public import proofs.«01_k».proof.Proof.Gen.Attn
public import Idealize.ShloMosaic.Lib.Pipeline.Frame
public import Idealize.ShloMosaic.Lib.Tactic

@[expose] public section

noncomputable section

namespace Cert.Attn.Keep

open Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

/-! ## What a resource lends -/

/-- `R` lends the memref at some contents, and is restored when the memref comes back at those. -/
class Reads (c : Dev nD) (R : sProp 𝕄) {cs : CoreSpace} {s : Shape} {e : EltTy} (a : Memref sig .tc cs s e) : Prop where
  lend : R ⊢ iprop(∃ f : Buf (Elt F) (a.view.loc (c : Thread nD τ)), (a.view.loc (c : Thread nD τ) ↦[a.view.set]{fullShare} f)
    ∗ ((a.view.loc (c : Thread nD τ) ↦[a.view.set]{fullShare} f) -∗ R))

/-- `R` lends the memref at some contents, and is restored when the memref comes back at any. -/
class Writes (c : Dev nD) (R : sProp 𝕄) {cs : CoreSpace} {s : Shape} {e : EltTy} (a : Memref sig .tc cs s e) : Prop where
  lend : R ⊢ iprop(∃ f : Buf (Elt F) (a.view.loc (c : Thread nD τ)), (a.view.loc (c : Thread nD τ) ↦[a.view.set]{fullShare} f)
    ∗ (∀ f' : Buf (Elt F) (a.view.loc (c : Thread nD τ)), (a.view.loc (c : Thread nD τ) ↦[a.view.set]{fullShare} f') -∗ R))

/-- What may be written may be read. -/
instance Writes.reads {c : Dev nD} {R : sProp 𝕄} {cs : CoreSpace} {s : Shape} {e : EltTy} {a : Memref sig .tc cs s e}
    [h : Writes c R a] : Reads c R a where
  lend := by
    refine h.lend.trans ?_
    iintro ⟨%f, H, HR⟩
    iexists f
    isplitl [H]; · iexact H
    iintro H
    iapply HR; iexact H

/-- A chain lends its first memref, owned at contents that a reader does not change. -/
instance Reads.here {c : Dev nD} {R : sProp 𝕄} {cs : CoreSpace} {s : Shape} {e : EltTy} {a : Memref sig .tc cs s e} {X : s.Idx → Elt F e} :
    Reads c iprop(owns (c : Thread nD τ) a fullShare X ∗ R) a where
  lend := by
    unfold owns
    iintro ⟨⟨%f, ⟨%hf, H⟩⟩, HR⟩
    iexists f
    isplitl [H]; · iexact H
    iintro H
    isplitl [H]
    · iexists f
      isplitr; · ipureintro; exact hf
      iexact H
    iexact HR

/-- A chain lends what its tail lends to a reader. -/
instance Reads.there {c : Dev nD} {P R : sProp 𝕄} {cs : CoreSpace} {s : Shape} {e : EltTy} {a : Memref sig .tc cs s e} [h : Reads c R a] :
    Reads c iprop(P ∗ R) a where
  lend := by
    iintro ⟨HP, HR⟩
    ihave H := h.lend $$ HR
    icases H with ⟨%f, H, HR⟩
    iexists f
    isplitl [H]; · iexact H
    iintro H
    isplitl [HP]; · iexact HP
    iapply HR; iexact H

/-- The memref owned at some contents. -/
def held (c : Dev nD) {cs : CoreSpace} {s : Shape} {e : EltTy} (a : Memref sig .tc cs s e) : sProp 𝕄 :=
  iprop(∃ X, owns (c : Thread nD τ) a fullShare X)

/-- A chain lends its first memref, owned at contents that a writer may change. -/
instance Writes.here {c : Dev nD} {R : sProp 𝕄} {cs : CoreSpace} {s : Shape} {e : EltTy} {a : Memref sig .tc cs s e} :
    Writes c iprop(held c a ∗ R) a where
  lend := by
    unfold held owns
    iintro ⟨⟨%X, %f, ⟨%hf, H⟩⟩, HR⟩
    iexists f
    isplitl [H]; · iexact H
    iintro %f' H
    isplitl [H]
    · iexists _, f'
      isplitr; · ipureintro; rfl
      iexact H
    iexact HR

/-- A chain lends what its tail lends to a writer. -/
instance Writes.there {c : Dev nD} {P R : sProp 𝕄} {cs : CoreSpace} {s : Shape} {e : EltTy} {a : Memref sig .tc cs s e} [h : Writes c R a] :
    Writes c iprop(P ∗ R) a where
  lend := by
    iintro ⟨HP, HR⟩
    ihave H := h.lend $$ HR
    icases H with ⟨%f, H, HR⟩
    iexists f
    isplitl [H]; · iexact H
    iintro %f' H
    isplitl [HP]; · iexact HP
    iapply HR; iexact H

/-! ## Programs that keep a resource -/

/-- Run from `R`, the program terminates and gives `R` back, whatever it returns. -/
def Restores (c : Dev nD) (R : sProp 𝕄) {α : Type} (p : Prog (TpuEff nD τ sig (Elt F) Λ₀ .tc) α) : Prop :=
  R ⊢ wp frame (wpE (defs₀ (F := F)) Variants.none (c : Thread nD τ) none) Set.univ p (fun _ => R)

theorem keeps_pure {c : Dev nD} {R : sProp 𝕄} {α : Type} (a : α) : Restores c R (pure a : Prog (TpuEff nD τ sig (Elt F) Λ₀ .tc) α) := by
  unfold Restores
  rw [wp_pure]
  exact BI.fupd_intro

theorem wp_done {c : Dev nD} {R : sProp 𝕄} {α : Type} (a : α) :
    R ⊢ wp frame (wpE' (defs₀ (F := F)) Variants.none (c : Thread nD τ) none []) Set.univ
      (Prog.ret a : Prog (TpuEff nD τ sig (Elt F) Λ₀ .tc) α) (fun _ => R) :=
  keeps_pure a

theorem keeps_bind {c : Dev nD} {R : sProp 𝕄} {α β : Type} {p : Prog (TpuEff nD τ sig (Elt F) Λ₀ .tc) α} {k : α → Prog (TpuEff nD τ sig (Elt F) Λ₀ .tc) β}
    (hp : Restores c R p) (hk : ∀ a, Restores c R (k a)) : Restores c R (p >>= k) := by
  unfold Restores
  rw [wp_bind]
  exact hp.trans (wp_mono _ _ _ hk)

theorem keeps_load {c : Dev nD} {R : sProp 𝕄} {cs : CoreSpace} {s : Shape} {e : EltTy} {a : Memref sig .tc cs s e} [h : Reads c R a] {r : LoadRect s}
    {hl : a.view.LoadsAt r} : Restores c R (Prog.lift (.load a r hl) : Prog (TpuEff nD τ sig (Elt F) Λ₀ .tc) _) := by
  unfold Restores
  refine h.lend.trans ?_
  iintro ⟨%f, H, HR⟩
  iapply (wp_load (defs := defs₀ (F := F)) Variants.none (c : Thread nD τ) none (Γ := []) Set.univ (m := a) (r := r) (hl := hl) (k := Prog.ret)
    (S := a.view.set) (q := fullShare) (f := f) (a.view.setOn_subset_set _)) $$ H
  iintro H
  iapply (wp_done _)
  iapply HR; iexact H

theorem keeps_store {c : Dev nD} {R : sProp 𝕄} {cs : CoreSpace} {s : Shape} {e : EltTy} {a : Memref sig .tc cs s e} [h : Writes c R a] {r : Rect s}
    {w : r.shape.Idx → Elt F e} {M : Finset r.shape.Idx} {hx : (a.access r).Stores M} {hm : M = Finset.univ ∨ ∀ a, r.stride a = 1} :
    Restores c R (Prog.lift (.store a r w M hx hm) : Prog (TpuEff nD τ sig (Elt F) Λ₀ .tc) _) := by
  unfold Restores
  refine h.lend.trans ?_
  iintro ⟨%f, H, HR⟩
  iapply (wp_store (defs := defs₀ (F := F)) Variants.none (c : Thread nD τ) none (Γ := []) Set.univ (m := a) (r := r) (w := w) (Mk := M) (hx := hx) (hm := hm)
    (k := Prog.ret) (S := a.view.set) (f := f) (((a.access r).setOn_subset_set M).trans (a.view.set_slice_subset r))) $$ H
  iintro H
  iapply (wp_done _)
  iapply HR; iexact H

theorem keeps_for {c : Dev nD} {R : sProp 𝕄} {α : Type} {w : Nat} {l : Scf.Loop w} {ok : l.OK} {init : α}
    {body : Fin l.trips → α → Prog (TpuEff nD τ sig (Elt F) Λ₀ .tc) α} (hb : ∀ k a, Restores c R (body k a)) :
    Restores c R (Scf.Loop.for l ok init body) := by
  unfold Restores
  refine BIBase.Entails.trans ?_ (Scf.wp_for _ _ _ l.lb l.ub l.st ok init body (fun _ _ => R) hb)
  iintro H
  isplitl [H]; · iexact H
  iintro %_ H; iexact H

theorem keeps_ite {c : Dev nD} {R : sProp 𝕄} {α : Type} {P : Prop} [Decidable P] {p q : Prog (TpuEff nD τ sig (Elt F) Λ₀ .tc) α} (hp : Restores c R p) (hq : Restores c R q) :
    Restores c R (if P then p else q) := by
  split
  · exact hp
  · exact hq

end Cert.Attn.Keep

end
-- ==== Proof.AttnPartsA.lean ====
/-
  Stretches of the attention's body, those of its first loops: each one gives back what it is run from.
-/
module

public import proofs.«01_k».proof.Proof.AttnKeeps

@[expose] public section

noncomputable section

namespace Cert.Attn.Keep

open Cert.Attn
open Idealize.ShloMosaic Idealize.ShloMosaic.TcCoe Idealize.ShloMosaic.Tactic
open Idealize.SL Idealize.SL.RA Idealize.SL.BI
open scoped Idealize.SL.BI
open Idealize.SL.Sem
open Idealize.ShloMosaic.Rounds

variable {F : FTy → Type} [BitOps F]

variable {c : Dev nD} {R : sProp (MT nD τ sig Unit (Elt F) ℕ (UR sig nD τ) ℕ)}
variable {i : grid0.Coords}
  {arg2 : Memref sig .tc .vmem S4x256x128 .bf16} {harg2 : arg2.IsWhole}
  {arg3 : Memref sig .tc .vmem S4x4096x128 .bf16} {harg3 : arg3.IsWhole}
  {arg4 : Memref sig .tc .vmem S8x512x512 .bf16} {harg4 : arg4.IsWhole}
  {arg5 : Memref sig .tc .vmem S4x256x128 .bf16} {harg5 : arg5.IsWhole}
  {arg6 : Memref sig .tc .vmem S4096x128 .bf16} {harg6 : arg6.IsWhole}
  {arg7 : Memref sig .tc .vmem S16x256 .f32} {harg7 : arg7.IsWhole}
  {arg8 : Memref sig .tc .vmem S256x512 .bf16} {harg8 : arg8.IsWhole}
  {arg9 : Memref sig .tc .vmem S8x256x128 .bf16} {harg9 : arg9.IsWhole}
  {arg10 : Memref sig .tc .vmem S2048x128 .bf16} {harg10 : arg10.IsWhole}
  {arg11 : Memref sig .tc .vmem S4096x256 .f32} {harg11 : arg11.IsWhole}
  {arg12 : Memref sig .tc .vmem S4096x256 .i16} {harg12 : arg12.IsWhole}
  {arg13 : Memref sig .tc .vmem S4096x256 .i16} {harg13 : arg13.IsWhole}
  {arg14 : Memref sig .tc .vmem S512x2048 .f32} {harg14 : arg14.IsWhole}
  {arg15 : Memref sig .tc .vmem S8x1x256 .f32} {harg15 : arg15.IsWhole}
  {arg16 : Memref sig .tc .vmem S8x1x256 .f32} {harg16 : arg16.IsWhole}
  {arg17 : Memref sig .tc .vmem S512x256 .f32} {harg17 : arg17.IsWhole}
  {arg18 : Memref sig .tc .vmem S8x512x256 .f32} {harg18 : arg18.IsWhole}
  {arg19 : Memref sig .tc .vmem S8x512x256 .f32} {harg19 : arg19.IsWhole}
  {arg20 : Memref sig .tc .vmem S8x512x256 .bf16} {harg20 : arg20.IsWhole}
variable [Reads c R arg2] [Reads c R arg3] [Reads c R arg4] [Reads c R arg5] [Reads c R arg6] [Reads c R arg7]
  [Writes c R arg8] [Writes c R arg9] [Writes c R arg10] [Writes c R arg11] [Writes c R arg12] [Writes c R arg13] [Writes c R arg14]
  [Writes c R arg15] [Writes c R arg16] [Writes c R arg17] [Writes c R arg18] [Writes c R arg19] [Writes c R arg20]

theorem part1 (c0_i32_73 : BitVec 32) (c1_i32_75 : BitVec 32) (k0_t1 : Fin (k0_t1_loop i).trips) :
    Restores c R (k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_73 c1_i32_75 k0_t1) := by
  unfold k0_part1
  repeat first
    | with_reducible exact keeps_load
    | with_reducible exact keeps_store
    | with_reducible exact keeps_pure _
    | refine keeps_bind ?_ fun _ => ?_

theorem part2 (k0_t1 : Fin (k0_t1_loop i).trips) (v1095 : BitVec 32) (v1122 : FVec F S64x256 .f32) (v1123 : Vec F S1x256 .f32) (v1124 : Vec F S64x256 .f32) (cst_691 : F .f32) :
    Restores c R (k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_t1 v1095 v1122 v1123 v1124 cst_691) := by
  unfold k0_part2
  repeat first
    | with_reducible exact keeps_load
    | with_reducible exact keeps_pure _
    | refine keeps_bind ?_ fun _ => ?_

theorem part3 (k0_t1 : Fin (k0_t1_loop i).trips) (v1157 : FVec F S64x256 .f32) (v1158 : BitVec 32) (v1162 : FVec F S64x256 .f32) :
    Restores c R (k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_t1 v1157 v1158 v1162) := by
  unfold k0_part3
  repeat first
    | with_reducible exact keeps_load
    | with_reducible exact keeps_store
    | with_reducible exact keeps_pure _
    | refine keeps_bind ?_ fun _ => ?_

theorem part4 (v1196 : FVec F S64x256 .f32) (v1197 : Vec F S1x256 .f32) (v1198 : Vec F S64x256 .f32) (cst_734 : F .f32) :
    Restores c R (k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1196 v1197 v1198 cst_734) := by
  unfold k0_part4
  repeat first
    | with_reducible exact keeps_load
    | with_reducible exact keeps_pure _
    | refine keeps_bind ?_ fun _ => ?_

theorem part5 (k0_t1 : Fin (k0_t1_loop i).trips) (v1095 : BitVec 32) (v1231 : FVec F S64x256 .f32) (v1232 : Vec F S1x256 .f32) (v1233 : Vec F S64x256 .f32) (cst_759 : F .f32) :
    Restores c R (k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_t1 v1095 v1231 v1232 v1233 cst_759) := by
  unfold k0_part5
  repeat first
    | with_reducible exact keeps_load
    | with_reducible exact keeps_store
    | with_reducible exact keeps_pure _
    | refine keeps_bind ?_ fun _ => ?_

theorem part6 (v1270 : FVec F S64x256 .f32) (v1271 : Vec F S1x256 .f32) (v1272 : Vec F S64x256 .f32) (cst_777 : F .f32) :
    Restores c R (k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1270 v1271 v1272 cst_777) := by
  unfold k0_part6
  repeat first
    | with_reducible exact keeps_load
    | with_reducible exact keeps_pure _
    | refine keeps_bind ?_ fun _ => ?_

theorem part7 (k0_t1 : Fin (k0_t1_loop i).trips) (v1095 : BitVec 32) (v1305 : FVec F S64x256 .f32) (v1306 : Vec F S1x256 .f32) (v1307 : Vec F S64x256 .f32) (cst_802 : F .f32) :
    Restores c R (k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_t1 v1095 v1305 v1306 v1307 cst_802) := by
  unfold k0_part7
  repeat first
    | with_reducible exact keeps_load
    | with_reducible exact keeps_store
    | with_reducible exact keeps_pure _
    | refine keeps_bind ?_ fun _ => ?_

theorem part8 (v1346 : Vec F S1x256 .f32) (v1347 : Vec F S64x256 .f32) :
    Restores c R (k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1346 v1347) := by
  unfold k0_part8
  repeat first
    | with_reducible exact keeps_load
    | with_reducible exact keeps_pure _
    | refine keeps_bind ?_ fun _ => ?_

theorem part9 (k0_t1 : Fin (k0_t1_loop i).trips) (v1095 : BitVec 32) (v1379 : FVec F S64x256 .f32) (v1380 : Vec F S1x256 .f32) (v1381 : Vec F S64x256 .f32) (cst_845 : F .f32) :
    Restores c R (k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_t1 v1095 v1379 v1380 v1381 cst_845) := by
  unfold k0_part9
  repeat first
    | with_reducible exact keeps_load
    | with_reducible exact keeps_store
    | with_reducible exact keeps_pure _
    | refine keeps_bind ?_ fun _ => ?_

theorem part10 (k0_t1 : Fin (k0_t1_loop i).trips) (v1401 : BitVec 32) (v1422 : IVec S64x256 16) :
    Restores c R (k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_t1 v1401 v1422) := by
  unfold k0_part10
  repeat first
    | with_reducible exact keeps_load
    | with_reducible exact keeps_store
    | with_reducible exact keeps_pure _
    | refine keeps_bind ?_ fun _ => ?_

theorem part11 (k0_t1 : Fin (k0_t1_loop i).trips) (v1095 : BitVec 32) (v1453 : FVec F S64x256 .f32) (v1454 : Vec F S1x256 .f32) (v1455 : Vec F S64x256 .f32) (cst_888 : F .f32) :
    Restores c R (k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_t1 v1095 v1453 v1454 v1455 cst_888) := by
  unfold k0_part11
  repeat first
    | with_reducible exact keeps_load
    | with_reducible exact keeps_store
    | with_reducible exact keeps_pure _
    | refine keeps_bind ?_ fun _ => ?_

theorem part12 (k0_t1 : Fin (k0_t1_loop i).trips) (v1482 : BitVec 32) (v1493 : IVec S64x256 32) (v1494 : IVec S64x256 32) :
    Restores c R (k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_t1 v1482 v1493 v1494) := by
  unfold k0_part12
  repeat first
    | with_reducible exact keeps_load
    | with_reducible exact keeps_store
    | with_reducible exact keeps_pure _
    | refine keeps_bind ?_ fun _ => ?_

theorem part13 (k0_t1 : Fin (k0_t1_loop i).trips) (v1095 : BitVec 32) (v1527 : FVec F S64x256 .f32) (v1528 : Vec F S1x256 .f32) (v1529 : Vec F S64x256 .f32) (cst_931 : F .f32) :
    Restores c R (k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_t1 v1095 v1527 v1528 v1529 cst_931) := by
  unfold k0_part13
  repeat first
    | with_reducible exact keeps_load
    | with_reducible exact keeps_pure _
    | refine keeps_bind ?_ fun _ => ?_

theorem part14 (k0_t1 : Fin (k0_t1_loop i).trips) (v1562 : FVec F S64x256 .f32) (v1563 : BitVec 32) (v1567 : FVec F S64x256 .f32) :
    Restores c R (k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_t1 v1562 v1563 v1567) := by
  unfold k0_part14
  repeat first
    | with_reducible exact keeps_load
    | with_reducible exact keeps_store
    | with_reducible exact keeps_pure _
    | refine keeps_bind ?_ fun _ => ?_

theorem part15 (v1601 : FVec F S64x256 .f32) (v1602 : Vec F S1x256 .f32) (v1603 : Vec F S64x256 .f32) (cst_974 : F .f32) :
    Restores c R (k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1601 v1602 v1603 cst_974) := by
  unfold k0_part15
  repeat first
    | with_reducible exact keeps_load
    | with_reducible exact keeps_pure _
    | refine keeps_bind ?_ fun _ => ?_

theorem part16 (k0_t1 : Fin (k0_t1_loop i).trips) (v1095 : BitVec 32) (v1636 : FVec F S64x256 .f32) (v1637 : Vec F S1x256 .f32) (v1638 : Vec F S64x256 .f32) (cst_999 : F .f32) :
    Restores c R (k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_t1 v1095 v1636 v1637 v1638 cst_999) := by
  unfold k0_part16
  repeat first
    | with_reducible exact keeps_load
    | with_reducible exact keeps_store
    | with_reducible exact keeps_pure _
    | refine keeps_bind ?_ fun _ => ?_

theorem part17 (v1675 : FVec F S64x256 .f32) (v1676 : Vec F S1x256 .f32) (v1677 : Vec F S64x256 .f32) (cst_1017 : F .f32) :
    Restores c R (k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1675 v1676 v1677 cst_1017) := by
  unfold k0_part17
  repeat first
    | with_reducible exact keeps_load
    | with_reducible exact keeps_pure _
    | refine keeps_bind ?_ fun _ => ?_

theorem part18 (c0_i32_73 : BitVec 32) (c1_i32_75 : BitVec 32) (k0_t1 : Fin (k0_t1_loop i).trips) :
    Restores c R (k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_73 c1_i32_75 k0_t1) := by
  unfold k0_part18
  repeat first
    | with_reducible exact part1 _ _ _
    | with_reducible exact part2 _ _ _ _ _ _
    | with_reducible exact part3 _ _ _ _
    | with_reducible exact part4 _ _ _ _
    | with_reducible exact part5 _ _ _ _ _ _
    | with_reducible exact part6 _ _ _ _
    | with_reducible exact part7 _ _ _ _ _ _
    | with_reducible exact part8 _ _
    | with_reducible exact part9 _ _ _ _ _ _
    | with_reducible exact part10 _ _ _
    | with_reducible exact part11 _ _ _ _ _ _
    | with_reducible exact part12 _ _ _ _
    | with_reducible exact part13 _ _ _ _ _ _
    | with_reducible exact part14 _ _ _ _
    | with_reducible exact part15 _ _ _ _
    | with_reducible exact part16 _ _ _ _ _ _
    | with_reducible exact part17 _ _ _ _
    | with_reducible exact keeps_load
    | with_reducible exact keeps_store
    | with_reducible exact keeps_pure _
    | refine keeps_bind ?_ fun _ => ?_

theorem part19 (v154 : BitVec 32) (c1_i32_76 : BitVec 32) (k0_t2 : Fin (k0_t2_loop i).trips) :
    Restores c R (k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v154 c1_i32_76 k0_t2) := by
  unfold k0_part19
  repeat first
    | with_reducible exact keeps_load
    | with_reducible exact keeps_store
    | with_reducible exact keeps_pure _
    | refine keeps_bind ?_ fun _ => ?_

theorem part20 (k0_t2 : Fin (k0_t2_loop i).trips) (v1095 : BitVec 32) (v1122 : FVec F S64x256 .f32) (v1123 : Vec F S1x256 .f32) (v1124 : Vec F S64x256 .f32) (cst_691 : F .f32) :
    Restores c R (k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_t2 v1095 v1122 v1123 v1124 cst_691) := by
  unfold k0_part20
  repeat first
    | with_reducible exact keeps_load
    | with_reducible exact keeps_pure _
    | refine keeps_bind ?_ fun _ => ?_

theorem part21 (k0_t2 : Fin (k0_t2_loop i).trips) (v1157 : FVec F S64x256 .f32) (v1158 : BitVec 32) (v1162 : FVec F S64x256 .f32) :
    Restores c R (k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_t2 v1157 v1158 v1162) := by
  unfold k0_part21
  repeat first
    | with_reducible exact keeps_load
    | with_reducible exact keeps_store
    | with_reducible exact keeps_pure _
    | refine keeps_bind ?_ fun _ => ?_

theorem part22 (v1196 : FVec F S64x256 .f32) (v1197 : Vec F S1x256 .f32) (v1198 : Vec F S64x256 .f32) (cst_734 : F .f32) :
    Restores c R (k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1196 v1197 v1198 cst_734) := by
  unfold k0_part22
  repeat first
    | with_reducible exact keeps_load
    | with_reducible exact keeps_pure _
    | refine keeps_bind ?_ fun _ => ?_

theorem part23 (k0_t2 : Fin (k0_t2_loop i).trips) (v1095 : BitVec 32) (v1231 : FVec F S64x256 .f32) (v1232 : Vec F S1x256 .f32) (v1233 : Vec F S64x256 .f32) (cst_759 : F .f32) :
    Restores c R (k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_t2 v1095 v1231 v1232 v1233 cst_759) := by
  unfold k0_part23
  repeat first
    | with_reducible exact keeps_load
    | with_reducible exact keeps_store
    | with_reducible exact keeps_pure _
    | refine keeps_bind ?_ fun _ => ?_

theorem part24 (v1270 : FVec F S64x256 .f32) (v1271 : Vec F S1x256 .f32) (v1272 : Vec F S64x256 .f32) (cst_777 : F .f32) :
    Restores c R (k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1270 v1271 v1272 cst_777) := by
  unfold k0_part24
  repeat first
    | with_reducible exact keeps_load
    | with_reducible exact keeps_pure _
    | refine keeps_bind ?_ fun _ => ?_

theorem part25 (k0_t2 : Fin (k0_t2_loop i).trips) (v1095 : BitVec 32) (v1305 : FVec F S64x256 .f32) (v1306 : Vec F S1x256 .f32) (v1307 : Vec F S64x256 .f32) (cst_802 : F .f32) :
    Restores c R (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_t2 v1095 v1305 v1306 v1307 cst_802) := by
  unfold k0_part25
  repeat first
    | with_reducible exact keeps_load
    | with_reducible exact keeps_store
    | with_reducible exact keeps_pure _
    | refine keeps_bind ?_ fun _ => ?_

theorem part26 (v1346 : Vec F S1x256 .f32) (v1347 : Vec F S64x256 .f32) :
    Restores c R (k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1346 v1347) := by
  unfold k0_part26
  repeat first
    | with_reducible exact keeps_load
    | with_reducible exact keeps_pure _
    | refine keeps_bind ?_ fun _ => ?_

theorem part27 (k0_t2 : Fin (k0_t2_loop i).trips) (v1095 : BitVec 32) (v1379 : FVec F S64x256 .f32) (v1380 : Vec F S1x256 .f32) (v1381 : Vec F S64x256 .f32) (cst_845 : F .f32) :
    Restores c R (k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_t2 v1095 v1379 v1380 v1381 cst_845) := by
  unfold k0_part27
  repeat first
    | with_reducible exact keeps_load
    | with_reducible exact keeps_store
    | with_reducible exact keeps_pure _
    | refine keeps_bind ?_ fun _ => ?_

theorem part28 (k0_t2 : Fin (k0_t2_loop i).trips) (v1401 : BitVec 32) (v1422 : IVec S64x256 16) :
    Restores c R (k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_t2 v1401 v1422) := by
  unfold k0_part28
  repeat first
    | with_reducible exact keeps_load
    | with_reducible exact keeps_store
    | with_reducible exact keeps_pure _
    | refine keeps_bind ?_ fun _ => ?_

theorem part29 (k0_t2 : Fin (k0_t2_loop i).trips) (v1095 : BitVec 32) (v1453 : FVec F S64x256 .f32) (v1454 : Vec F S1x256 .f32) (v1455 : Vec F S64x256 .f32) (cst_888 : F .f32) :
    Restores c R (k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_t2 v1095 v1453 v1454 v1455 cst_888) := by
  unfold k0_part29
  repeat first
    | with_reducible exact keeps_load
    | with_reducible exact keeps_store
    | with_reducible exact keeps_pure _
    | refine keeps_bind ?_ fun _ => ?_

theorem part30 (k0_t2 : Fin (k0_t2_loop i).trips) (v1482 : BitVec 32) (v1493 : IVec S64x256 32) (v1494 : IVec S64x256 32) :
    Restores c R (k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_t2 v1482 v1493 v1494) := by
  unfold k0_part30
  repeat first
    | with_reducible exact keeps_load
    | with_reducible exact keeps_store
    | with_reducible exact keeps_pure _
    | refine keeps_bind ?_ fun _ => ?_

theorem part31 (k0_t2 : Fin (k0_t2_loop i).trips) (v1095 : BitVec 32) (v1527 : FVec F S64x256 .f32) (v1528 : Vec F S1x256 .f32) (v1529 : Vec F S64x256 .f32) (cst_931 : F .f32) :
    Restores c R (k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_t2 v1095 v1527 v1528 v1529 cst_931) := by
  unfold k0_part31
  repeat first
    | with_reducible exact keeps_load
    | with_reducible exact keeps_pure _
    | refine keeps_bind ?_ fun _ => ?_

theorem part32 (k0_t2 : Fin (k0_t2_loop i).trips) (v1562 : FVec F S64x256 .f32) (v1563 : BitVec 32) (v1567 : FVec F S64x256 .f32) :
    Restores c R (k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_t2 v1562 v1563 v1567) := by
  unfold k0_part32
  repeat first
    | with_reducible exact keeps_load
    | with_reducible exact keeps_store
    | with_reducible exact keeps_pure _
    | refine keeps_bind ?_ fun _ => ?_

theorem part33 (v1601 : FVec F S64x256 .f32) (v1602 : Vec F S1x256 .f32) (v1603 : Vec F S64x256 .f32) (cst_974 : F .f32) :
    Restores c R (k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1601 v1602 v1603 cst_974) := by
  unfold k0_part33
  repeat first
    | with_reducible exact keeps_load
    | with_reducible exact keeps_pure _
    | refine keeps_bind ?_ fun _ => ?_

theorem part34 (k0_t2 : Fin (k0_t2_loop i).trips) (v1095 : BitVec 32) (v1636 : FVec F S64x256 .f32) (v1637 : Vec F S1x256 .f32) (v1638 : Vec F S64x256 .f32) (cst_999 : F .f32) :
    Restores c R (k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_t2 v1095 v1636 v1637 v1638 cst_999) := by
  unfold k0_part34
  repeat first
    | with_reducible exact keeps_load
    | with_reducible exact keeps_store
    | with_reducible exact keeps_pure _
    | refine keeps_bind ?_ fun _ => ?_

theorem part35 (v1675 : FVec F S64x256 .f32) (v1676 : Vec F S1x256 .f32) (v1677 : Vec F S64x256 .f32) (cst_1017 : F .f32) :
    Restores c R (k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1675 v1676 v1677 cst_1017) := by
  unfold k0_part35
  repeat first
    | with_reducible exact keeps_load
    | with_reducible exact keeps_pure _
    | refine keeps_bind ?_ fun _ => ?_

theorem part36 (v154 : BitVec 32) (c1_i32_76 : BitVec 32) (k0_t2 : Fin (k0_t2_loop i).trips) :
    Restores c R (k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v154 c1_i32_76 k0_t2) := by
  unfold k0_part36
  repeat first
    | with_reducible exact part19 _ _ _
    | with_reducible exact part20 _ _ _ _ _ _
    | with_reducible exact part21 _ _ _ _
    | with_reducible exact part22 _ _ _ _
    | with_reducible exact part23 _ _ _ _ _ _
    | with_reducible exact part24 _ _ _ _
    | with_reducible exact part25 _ _ _ _ _ _
    | with_reducible exact part26 _ _
    | with_reducible exact part27 _ _ _ _ _ _
    | with_reducible exact part28 _ _ _
    | with_reducible exact part29 _ _ _ _ _ _
    | with_reducible exact part30 _ _ _ _
    | with_reducible exact part31 _ _ _ _ _ _
    | with_reducible exact part32 _ _ _ _
    | with_reducible exact part33 _ _ _ _
    | with_reducible exact part34 _ _ _ _ _ _
    | with_reducible exact part35 _ _ _ _
    | with_reducible exact keeps_load
    | with_reducible exact keeps_store
    | with_reducible exact keeps_pure _
    | refine keeps_bind ?_ fun _ => ?_

theorem part37 (v1098 : IVec S1x256 16) (c0_i32_666 : BitVec 32) (c1_i32_668 : BitVec 32) (k0_t4 : Fin (k0_t4_loop i).trips) (arg25 : IVec S16x256 16) :
    Restores c R (k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1098 c0_i32_666 c1_i32_668 k0_t4 arg25) := by
  unfold k0_part37
  repeat first
    | with_reducible exact keeps_load
    | with_reducible exact keeps_pure _
    | refine keeps_bind ?_ fun _ => ?_

theorem part38 (v1098 : IVec S1x256 16) (v1104 : BitVec 32) (c1_i32_669 : BitVec 32) (k0_t5 : Fin (k0_t5_loop i).trips) (arg25 : IVec S16x256 16) :
    Restores c R (k0_part38 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1098 v1104 c1_i32_669 k0_t5 arg25) := by
  unfold k0_part38
  repeat first
    | with_reducible exact keeps_load
    | with_reducible exact keeps_pure _
    | refine keeps_bind ?_ fun _ => ?_

theorem part39 (v1100 : IVec S1x256 16) (c0_i32_667 : BitVec 32) (c1_i32_669 : BitVec 32) (k0_t9 : Fin (k0_t9_loop i).trips) (arg25 : IVec S16x256 16) :
    Restores c R (k0_part39 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1100 c0_i32_667 c1_i32_669 k0_t9 arg25) := by
  unfold k0_part39
  repeat first
    | with_reducible exact keeps_load
    | with_reducible exact keeps_pure _
    | refine keeps_bind ?_ fun _ => ?_

theorem part40 (v1100 : IVec S1x256 16) (v1106 : BitVec 32) (c1_i32_670 : BitVec 32) (k0_t10 : Fin (k0_t10_loop i).trips) (arg25 : IVec S16x256 16) :
    Restores c R (k0_part40 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1100 v1106 c1_i32_670 k0_t10 arg25) := by
  unfold k0_part40
  repeat first
    | with_reducible exact keeps_load
    | with_reducible exact keeps_pure _
    | refine keeps_bind ?_ fun _ => ?_

theorem part41 (v992 : FVec F S1x256 .f32) (c0_i32_666 : BitVec 32) (c1_i32_668 : BitVec 32) (k0_t11 : Fin (k0_t11_loop i).trips) :
    Restores c R (k0_part41 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v992 c0_i32_666 c1_i32_668 k0_t11) := by
  unfold k0_part41
  repeat first
    | with_reducible exact keeps_load
    | with_reducible exact keeps_pure _
    | refine keeps_bind ?_ fun _ => ?_

theorem part42 (v1129 : FVec F S512x256 .f32) (v1130 : FVec F S8x256 .f32) (v1131 : FVec F S8x256 .f32) (v1132 : FVec F S8x256 .f32) (v1133 : FVec F S8x256 .f32) (v1134 : FVec F S8x256 .f32) (v1135 : FVec F S8x256 .f32) (v1136 : FVec F S8x256 .f32) (v1137 : FVec F S8x256 .f32) (v1138 : FVec F S8x256 .f32) (v1139 : FVec F S8x256 .f32) (v1140 : FVec F S8x256 .f32) (v1141 : FVec F S8x256 .f32) (v1142 : FVec F S8x256 .f32) (v1143 : FVec F S8x256 .f32) (v1144 : FVec F S8x256 .f32) (v1145 : FVec F S8x256 .f32) (v1146 : FVec F S8x256 .f32) (v1147 : FVec F S8x256 .f32) (v1148 : FVec F S8x256 .f32) (v1149 : FVec F S8x256 .f32) (v1150 : FVec F S8x256 .f32) (v1151 : FVec F S8x256 .f32) (v1152 : FVec F S8x256 .f32) (v1153 : FVec F S8x256 .f32) (v1154 : FVec F S8x256 .f32) (v1155 : FVec F S8x256 .f32) (v1156 : FVec F S8x256 .f32) (v1157 : FVec F S8x256 .f32) (v1158 : FVec F S8x256 .f32) (v1159 : FVec F S8x256 .f32) (v1160 : FVec F S8x256 .f32) (v1161 : FVec F S8x256 .f32) (v1162 : FVec F S8x256 .f32) (v1163 : FVec F S8x256 .f32) (v1164 : FVec F S8x256 .f32) (v1165 : FVec F S8x256 .f32) (v1166 : FVec F S8x256 .f32) (v1167 : FVec F S8x256 .f32) (v1168 : FVec F S8x256 .f32) (v1169 : FVec F S8x256 .f32) (v1170 : FVec F S8x256 .f32) (v1171 : FVec F S8x256 .f32) (v1172 : FVec F S8x256 .f32) (v1173 : FVec F S8x256 .f32) (v1174 : FVec F S8x256 .f32) (v1175 : FVec F S8x256 .f32) :
    Restores c R (k0_part42 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1129 v1130 v1131 v1132 v1133 v1134 v1135 v1136 v1137 v1138 v1139 v1140 v1141 v1142 v1143 v1144 v1145 v1146 v1147 v1148 v1149 v1150 v1151 v1152 v1153 v1154 v1155 v1156 v1157 v1158 v1159 v1160 v1161 v1162 v1163 v1164 v1165 v1166 v1167 v1168 v1169 v1170 v1171 v1172 v1173 v1174 v1175) := by
  unfold k0_part42
  repeat first
    | with_reducible exact keeps_pure _
    | refine keeps_bind ?_ fun _ => ?_

theorem part43 (v992 : FVec F S1x256 .f32) (v1099 : BitVec 32) (c1_i32_669 : BitVec 32) (k0_t12 : Fin (k0_t12_loop i).trips) :
    Restores c R (k0_part43 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v992 v1099 c1_i32_669 k0_t12) := by
  unfold k0_part43
  repeat first
    | with_reducible exact keeps_load
    | with_reducible exact keeps_pure _
    | refine keeps_bind ?_ fun _ => ?_

theorem part44 (v1129 : FVec F S512x256 .f32) (v1130 : FVec F S8x256 .f32) (v1131 : FVec F S8x256 .f32) (v1132 : FVec F S8x256 .f32) (v1133 : FVec F S8x256 .f32) (v1134 : FVec F S8x256 .f32) (v1135 : FVec F S8x256 .f32) (v1136 : FVec F S8x256 .f32) (v1137 : FVec F S8x256 .f32) (v1138 : FVec F S8x256 .f32) (v1139 : FVec F S8x256 .f32) (v1140 : FVec F S8x256 .f32) (v1141 : FVec F S8x256 .f32) (v1142 : FVec F S8x256 .f32) (v1143 : FVec F S8x256 .f32) (v1144 : FVec F S8x256 .f32) (v1145 : FVec F S8x256 .f32) (v1146 : FVec F S8x256 .f32) (v1147 : FVec F S8x256 .f32) (v1148 : FVec F S8x256 .f32) (v1149 : FVec F S8x256 .f32) (v1150 : FVec F S8x256 .f32) (v1151 : FVec F S8x256 .f32) (v1152 : FVec F S8x256 .f32) (v1153 : FVec F S8x256 .f32) (v1154 : FVec F S8x256 .f32) (v1155 : FVec F S8x256 .f32) (v1156 : FVec F S8x256 .f32) (v1157 : FVec F S8x256 .f32) (v1158 : FVec F S8x256 .f32) (v1159 : FVec F S8x256 .f32) (v1160 : FVec F S8x256 .f32) (v1161 : FVec F S8x256 .f32) (v1162 : FVec F S8x256 .f32) (v1163 : FVec F S8x256 .f32) (v1164 : FVec F S8x256 .f32) (v1165 : FVec F S8x256 .f32) (v1166 : FVec F S8x256 .f32) (v1167 : FVec F S8x256 .f32) (v1168 : FVec F S8x256 .f32) (v1169 : FVec F S8x256 .f32) (v1170 : FVec F S8x256 .f32) (v1171 : FVec F S8x256 .f32) (v1172 : FVec F S8x256 .f32) (v1173 : FVec F S8x256 .f32) (v1174 : FVec F S8x256 .f32) (v1175 : FVec F S8x256 .f32) :
    Restores c R (k0_part44 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1129 v1130 v1131 v1132 v1133 v1134 v1135 v1136 v1137 v1138 v1139 v1140 v1141 v1142 v1143 v1144 v1145 v1146 v1147 v1148 v1149 v1150 v1151 v1152 v1153 v1154 v1155 v1156 v1157 v1158 v1159 v1160 v1161 v1162 v1163 v1164 v1165 v1166 v1167 v1168 v1169 v1170 v1171 v1172 v1173 v1174 v1175) := by
  unfold k0_part44
  repeat first
    | with_reducible exact keeps_pure _
    | refine keeps_bind ?_ fun _ => ?_

end Cert.Attn.Keep

end
-- ==== Proof.AttnPartsB.lean ====
/-
  Stretches of the attention's body, those of its sum over the selected keys, first half: each one gives back what it is run from.
-/
module

public import proofs.«01_k».proof.Proof.AttnKeeps

@[expose] public section

noncomputable section

namespace Cert.Attn.Keep

open Cert.Attn
open Idealize.ShloMosaic Idealize.ShloMosaic.TcCoe Idealize.ShloMosaic.Tactic
open Idealize.SL Idealize.SL.RA Idealize.SL.BI
open scoped Idealize.SL.BI
open Idealize.SL.Sem
open Idealize.ShloMosaic.Rounds

variable {F : FTy → Type} [BitOps F]

variable {c : Dev nD} {R : sProp (MT nD τ sig Unit (Elt F) ℕ (UR sig nD τ) ℕ)}
variable {i : grid0.Coords}
  {arg2 : Memref sig .tc .vmem S4x256x128 .bf16} {harg2 : arg2.IsWhole}
  {arg3 : Memref sig .tc .vmem S4x4096x128 .bf16} {harg3 : arg3.IsWhole}
  {arg4 : Memref sig .tc .vmem S8x512x512 .bf16} {harg4 : arg4.IsWhole}
  {arg5 : Memref sig .tc .vmem S4x256x128 .bf16} {harg5 : arg5.IsWhole}
  {arg6 : Memref sig .tc .vmem S4096x128 .bf16} {harg6 : arg6.IsWhole}
  {arg7 : Memref sig .tc .vmem S16x256 .f32} {harg7 : arg7.IsWhole}
  {arg8 : Memref sig .tc .vmem S256x512 .bf16} {harg8 : arg8.IsWhole}
  {arg9 : Memref sig .tc .vmem S8x256x128 .bf16} {harg9 : arg9.IsWhole}
  {arg10 : Memref sig .tc .vmem S2048x128 .bf16} {harg10 : arg10.IsWhole}
  {arg11 : Memref sig .tc .vmem S4096x256 .f32} {harg11 : arg11.IsWhole}
  {arg12 : Memref sig .tc .vmem S4096x256 .i16} {harg12 : arg12.IsWhole}
  {arg13 : Memref sig .tc .vmem S4096x256 .i16} {harg13 : arg13.IsWhole}
  {arg14 : Memref sig .tc .vmem S512x2048 .f32} {harg14 : arg14.IsWhole}
  {arg15 : Memref sig .tc .vmem S8x1x256 .f32} {harg15 : arg15.IsWhole}
  {arg16 : Memref sig .tc .vmem S8x1x256 .f32} {harg16 : arg16.IsWhole}
  {arg17 : Memref sig .tc .vmem S512x256 .f32} {harg17 : arg17.IsWhole}
  {arg18 : Memref sig .tc .vmem S8x512x256 .f32} {harg18 : arg18.IsWhole}
  {arg19 : Memref sig .tc .vmem S8x512x256 .f32} {harg19 : arg19.IsWhole}
  {arg20 : Memref sig .tc .vmem S8x512x256 .bf16} {harg20 : arg20.IsWhole}
variable [Reads c R arg2] [Reads c R arg3] [Reads c R arg4] [Reads c R arg5] [Reads c R arg6] [Reads c R arg7]
  [Writes c R arg8] [Writes c R arg9] [Writes c R arg10] [Writes c R arg11] [Writes c R arg12] [Writes c R arg13] [Writes c R arg14]
  [Writes c R arg15] [Writes c R arg16] [Writes c R arg17] [Writes c R arg18] [Writes c R arg19] [Writes c R arg20]

theorem part45 (v20 : BitVec 32) (v992 : FVec F S1x256 .f32) (c0_i32_601 : BitVec 32) (c1_i32_603 : BitVec 32) (k0_t15 : Fin (k0_t15_loop i).trips) :
    Restores c R (k0_part45 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v20 v992 c0_i32_601 c1_i32_603 k0_t15) := by
  unfold k0_part45
  repeat first
    | with_reducible exact keeps_load
    | with_reducible exact keeps_store
    | with_reducible exact keeps_pure _
    | refine keeps_bind ?_ fun _ => ?_

theorem part46 (v1106 : FVec F S64x256 .f32) (v1130 : FVec F S64x256 .f32) :
    Restores c R (k0_part46 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1106 v1130) := by
  unfold k0_part46
  repeat first
    | with_reducible exact keeps_load
    | with_reducible exact keeps_store
    | with_reducible exact keeps_pure _
    | refine keeps_bind ?_ fun _ => ?_

theorem part47 (v1106 : FVec F S64x256 .f32) (v1172 : FVec F S64x256 .f32) (v1176 : FVec F S8x256 .f32) (v1177 : FVec F S8x256 .f32) :
    Restores c R (k0_part47 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1106 v1172 v1176 v1177) := by
  unfold k0_part47
  repeat first
    | with_reducible exact keeps_load
    | with_reducible exact keeps_store
    | with_reducible exact keeps_pure _
    | refine keeps_bind ?_ fun _ => ?_

theorem part48 (v1106 : FVec F S64x256 .f32) (v1214 : FVec F S64x256 .f32) (v1218 : FVec F S8x256 .f32) (v1219 : FVec F S8x256 .f32) (v1220 : FVec F S8x256 .f32) (v1221 : FVec F S8x256 .f32) (v1222 : FVec F S8x256 .f32) (v1223 : FVec F S8x256 .f32) :
    Restores c R (k0_part48 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1106 v1214 v1218 v1219 v1220 v1221 v1222 v1223) := by
  unfold k0_part48
  repeat first
    | with_reducible exact keeps_load
    | with_reducible exact keeps_store
    | with_reducible exact keeps_pure _
    | refine keeps_bind ?_ fun _ => ?_

theorem part49 (v992 : FVec F S1x256 .f32) (k0_t15 : Fin (k0_t15_loop i).trips) (v1095 : BitVec 32) (v1127 : FVec F S8x256 .f32) (v1264 : FVec F S8x256 .f32) (v1265 : FVec F S8x256 .f32) (v1266 : FVec F S8x256 .f32) (v1267 : FVec F S8x256 .f32) (v1268 : FVec F S8x256 .f32) (v1269 : FVec F S8x256 .f32) :
    Restores c R (k0_part49 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v992 k0_t15 v1095 v1127 v1264 v1265 v1266 v1267 v1268 v1269) := by
  unfold k0_part49
  repeat first
    | with_reducible exact keeps_load
    | with_reducible exact keeps_store
    | with_reducible exact keeps_pure _
    | refine keeps_bind ?_ fun _ => ?_

theorem part50 (v1148 : FVec F S8x256 .f32) (v1169 : FVec F S8x256 .f32) (v1282 : FVec F S64x256 .f32) (v1307 : FVec F S64x256 .f32) (v1311 : FVec F S8x256 .f32) :
    Restores c R (k0_part50 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1148 v1169 v1282 v1307 v1311) := by
  unfold k0_part50
  repeat first
    | with_reducible exact keeps_load
    | with_reducible exact keeps_store
    | with_reducible exact keeps_pure _
    | refine keeps_bind ?_ fun _ => ?_

theorem part51 (v1190 : FVec F S8x256 .f32) (v1211 : FVec F S8x256 .f32) (v1282 : FVec F S64x256 .f32) (v1351 : FVec F S64x256 .f32) (v1355 : FVec F S8x256 .f32) (v1356 : FVec F S8x256 .f32) (v1357 : FVec F S8x256 .f32) :
    Restores c R (k0_part51 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1190 v1211 v1282 v1351 v1355 v1356 v1357) := by
  unfold k0_part51
  repeat first
    | with_reducible exact keeps_load
    | with_reducible exact keeps_store
    | with_reducible exact keeps_pure _
    | refine keeps_bind ?_ fun _ => ?_

theorem part52 (v1232 : FVec F S8x256 .f32) (v1253 : FVec F S8x256 .f32) (v1282 : FVec F S64x256 .f32) (v1395 : FVec F S64x256 .f32) (v1399 : FVec F S8x256 .f32) (v1400 : FVec F S8x256 .f32) (v1401 : FVec F S8x256 .f32) (v1402 : FVec F S8x256 .f32) (v1403 : FVec F S8x256 .f32) :
    Restores c R (k0_part52 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1232 v1253 v1282 v1395 v1399 v1400 v1401 v1402 v1403) := by
  unfold k0_part52
  repeat first
    | with_reducible exact keeps_load
    | with_reducible exact keeps_store
    | with_reducible exact keeps_pure _
    | refine keeps_bind ?_ fun _ => ?_

theorem part53 (v992 : FVec F S1x256 .f32) (k0_t15 : Fin (k0_t15_loop i).trips) (v1095 : BitVec 32) (v1274 : FVec F S8x256 .f32) (v1304 : FVec F S8x256 .f32) (v1439 : FVec F S64x256 .f32) (v1443 : FVec F S8x256 .f32) (v1444 : FVec F S8x256 .f32) (v1445 : FVec F S8x256 .f32) (v1446 : FVec F S8x256 .f32) (v1447 : FVec F S8x256 .f32) (v1448 : FVec F S8x256 .f32) (v1449 : FVec F S8x256 .f32) :
    Restores c R (k0_part53 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v992 k0_t15 v1095 v1274 v1304 v1439 v1443 v1444 v1445 v1446 v1447 v1448 v1449) := by
  unfold k0_part53
  repeat first
    | with_reducible exact keeps_load
    | with_reducible exact keeps_store
    | with_reducible exact keeps_pure _
    | refine keeps_bind ?_ fun _ => ?_

theorem part54 (v1326 : FVec F S8x256 .f32) (v1348 : FVec F S8x256 .f32) (v1466 : FVec F S64x256 .f32) (v1491 : FVec F S64x256 .f32) (v1492 : Vec F S1x64x256 .f32) :
    Restores c R (k0_part54 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1326 v1348 v1466 v1491 v1492) := by
  unfold k0_part54
  repeat first
    | with_reducible exact keeps_load
    | with_reducible exact keeps_store
    | with_reducible exact keeps_pure _
    | refine keeps_bind ?_ fun _ => ?_

theorem part55 (v1370 : FVec F S8x256 .f32) (v1392 : FVec F S8x256 .f32) (v1466 : FVec F S64x256 .f32) (v1535 : FVec F S64x256 .f32) (v1538 : FVec F S1x64x256 .f32) :
    Restores c R (k0_part55 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1370 v1392 v1466 v1535 v1538) := by
  unfold k0_part55
  repeat first
    | with_reducible exact keeps_load
    | with_reducible exact keeps_store
    | with_reducible exact keeps_pure _
    | refine keeps_bind ?_ fun _ => ?_

theorem part56 (v1414 : FVec F S8x256 .f32) (v1436 : FVec F S8x256 .f32) (v1466 : FVec F S64x256 .f32) (v1579 : FVec F S64x256 .f32) (v1583 : FVec F S8x256 .f32) :
    Restores c R (k0_part56 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1414 v1436 v1466 v1579 v1583) := by
  unfold k0_part56
  repeat first
    | with_reducible exact keeps_load
    | with_reducible exact keeps_store
    | with_reducible exact keeps_pure _
    | refine keeps_bind ?_ fun _ => ?_

theorem part57 (v992 : FVec F S1x256 .f32) (k0_t15 : Fin (k0_t15_loop i).trips) (v1095 : BitVec 32) (v1458 : FVec F S8x256 .f32) (v1488 : FVec F S8x256 .f32) (v1623 : FVec F S64x256 .f32) (v1627 : FVec F S8x256 .f32) (v1628 : FVec F S8x256 .f32) (v1629 : FVec F S8x256 .f32) :
    Restores c R (k0_part57 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v992 k0_t15 v1095 v1458 v1488 v1623 v1627 v1628 v1629) := by
  unfold k0_part57
  repeat first
    | with_reducible exact keeps_load
    | with_reducible exact keeps_store
    | with_reducible exact keeps_pure _
    | refine keeps_bind ?_ fun _ => ?_

theorem part58 (v1510 : FVec F S8x256 .f32) (v1532 : FVec F S8x256 .f32) (v1650 : FVec F S64x256 .f32) (v1675 : FVec F S64x256 .f32) :
    Restores c R (k0_part58 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1510 v1532 v1650 v1675) := by
  unfold k0_part58
  repeat first
    | with_reducible exact keeps_load
    | with_reducible exact keeps_store
    | with_reducible exact keeps_pure _
    | refine keeps_bind ?_ fun _ => ?_

theorem part59 (v1554 : FVec F S8x256 .f32) (v1576 : FVec F S8x256 .f32) (v1650 : FVec F S64x256 .f32) (v1719 : FVec F S64x256 .f32) :
    Restores c R (k0_part59 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1554 v1576 v1650 v1719) := by
  unfold k0_part59
  repeat first
    | with_reducible exact keeps_load
    | with_reducible exact keeps_store
    | with_reducible exact keeps_pure _
    | refine keeps_bind ?_ fun _ => ?_

theorem part60 (v1598 : FVec F S8x256 .f32) (v1620 : FVec F S8x256 .f32) (v1650 : FVec F S64x256 .f32) (v1763 : FVec F S64x256 .f32) (v1764 : Vec F S1x64x256 .f32) :
    Restores c R (k0_part60 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1598 v1620 v1650 v1763 v1764) := by
  unfold k0_part60
  repeat first
    | with_reducible exact keeps_load
    | with_reducible exact keeps_store
    | with_reducible exact keeps_pure _
    | refine keeps_bind ?_ fun _ => ?_

theorem part61 (v992 : FVec F S1x256 .f32) (k0_t15 : Fin (k0_t15_loop i).trips) (v1095 : BitVec 32) (v1642 : FVec F S8x256 .f32) (v1672 : FVec F S8x256 .f32) (v1807 : FVec F S64x256 .f32) (v1810 : FVec F S1x64x256 .f32) :
    Restores c R (k0_part61 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v992 k0_t15 v1095 v1642 v1672 v1807 v1810) := by
  unfold k0_part61
  repeat first
    | with_reducible exact keeps_load
    | with_reducible exact keeps_store
    | with_reducible exact keeps_pure _
    | refine keeps_bind ?_ fun _ => ?_

theorem part62 (v1694 : FVec F S8x256 .f32) (v1716 : FVec F S8x256 .f32) (v1834 : FVec F S64x256 .f32) :
    Restores c R (k0_part62 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1694 v1716 v1834) := by
  unfold k0_part62
  repeat first
    | with_reducible exact keeps_load
    | with_reducible exact keeps_store
    | with_reducible exact keeps_pure _
    | refine keeps_bind ?_ fun _ => ?_

theorem part63 (v1738 : FVec F S8x256 .f32) (v1760 : FVec F S8x256 .f32) (v1834 : FVec F S64x256 .f32) (v1901 : Vec F S1x64x256 .f32) :
    Restores c R (k0_part63 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1738 v1760 v1834 v1901) := by
  unfold k0_part63
  repeat first
    | with_reducible exact keeps_load
    | with_reducible exact keeps_store
    | with_reducible exact keeps_pure _
    | refine keeps_bind ?_ fun _ => ?_

theorem part64 (v1782 : FVec F S8x256 .f32) (v1804 : FVec F S8x256 .f32) (v1834 : FVec F S64x256 .f32) (v1947 : FVec F S64x256 .f32) :
    Restores c R (k0_part64 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1782 v1804 v1834 v1947) := by
  unfold k0_part64
  repeat first
    | with_reducible exact keeps_load
    | with_reducible exact keeps_store
    | with_reducible exact keeps_pure _
    | refine keeps_bind ?_ fun _ => ?_

theorem part65 (v992 : FVec F S1x256 .f32) (k0_t15 : Fin (k0_t15_loop i).trips) (v1095 : BitVec 32) (v1826 : FVec F S8x256 .f32) (v1991 : FVec F S64x256 .f32) :
    Restores c R (k0_part65 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v992 k0_t15 v1095 v1826 v1991) := by
  unfold k0_part65
  repeat first
    | with_reducible exact keeps_load
    | with_reducible exact keeps_store
    | with_reducible exact keeps_pure _
    | refine keeps_bind ?_ fun _ => ?_

theorem part66 (v1856 : FVec F S8x256 .f32) (v1878 : FVec F S8x256 .f32) (v1900 : FVec F S8x256 .f32) (v2018 : FVec F S64x256 .f32) (v2037 : FVec F S8x256 .f32) (v2038 : FVec F S8x256 .f32) :
    Restores c R (k0_part66 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1856 v1878 v1900 v2018 v2037 v2038) := by
  unfold k0_part66
  repeat first
    | with_reducible exact keeps_load
    | with_reducible exact keeps_store
    | with_reducible exact keeps_pure _
    | refine keeps_bind ?_ fun _ => ?_

theorem part67 (v1922 : FVec F S8x256 .f32) (v1944 : FVec F S8x256 .f32) (v2018 : FVec F S64x256 .f32) :
    Restores c R (k0_part67 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1922 v1944 v2018) := by
  unfold k0_part67
  repeat first
    | with_reducible exact keeps_load
    | with_reducible exact keeps_store
    | with_reducible exact keeps_pure _
    | refine keeps_bind ?_ fun _ => ?_

theorem part68 (v1966 : FVec F S8x256 .f32) (v1988 : FVec F S8x256 .f32) (v2018 : FVec F S64x256 .f32) :
    Restores c R (k0_part68 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1966 v1988 v2018) := by
  unfold k0_part68
  repeat first
    | with_reducible exact keeps_load
    | with_reducible exact keeps_store
    | with_reducible exact keeps_pure _
    | refine keeps_bind ?_ fun _ => ?_

theorem part69 (v992 : FVec F S1x256 .f32) (k0_t15 : Fin (k0_t15_loop i).trips) (v1095 : BitVec 32) (v2010 : FVec F S8x256 .f32) (v2018 : FVec F S64x256 .f32) (v2173 : Vec F S1x64x256 .f32) :
    Restores c R (k0_part69 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v992 k0_t15 v1095 v2010 v2018 v2173) := by
  unfold k0_part69
  repeat first
    | with_reducible exact keeps_load
    | with_reducible exact keeps_store
    | with_reducible exact keeps_pure _
    | refine keeps_bind ?_ fun _ => ?_

theorem part70 (v2040 : FVec F S8x256 .f32) (v2062 : FVec F S8x256 .f32) (v2202 : FVec F S64x256 .f32) (v2213 : FVec F S8x256 .f32) (v2214 : FVec F S8x256 .f32) (v2215 : FVec F S8x256 .f32) (v2216 : FVec F S8x256 .f32) (v2217 : FVec F S8x256 .f32) (v2218 : FVec F S8x256 .f32) :
    Restores c R (k0_part70 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v2040 v2062 v2202 v2213 v2214 v2215 v2216 v2217 v2218) := by
  unfold k0_part70
  repeat first
    | with_reducible exact keeps_load
    | with_reducible exact keeps_store
    | with_reducible exact keeps_pure _
    | refine keeps_bind ?_ fun _ => ?_

theorem part71 (v2084 : FVec F S8x256 .f32) (v2106 : FVec F S8x256 .f32) (v2202 : FVec F S64x256 .f32) (v2261 : FVec F S8x256 .f32) (v2262 : FVec F S8x256 .f32) (v2263 : FVec F S8x256 .f32) (v2264 : FVec F S8x256 .f32) :
    Restores c R (k0_part71 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v2084 v2106 v2202 v2261 v2262 v2263 v2264) := by
  unfold k0_part71
  repeat first
    | with_reducible exact keeps_load
    | with_reducible exact keeps_store
    | with_reducible exact keeps_pure _
    | refine keeps_bind ?_ fun _ => ?_

theorem part72 (v2128 : FVec F S8x256 .f32) (v2150 : FVec F S8x256 .f32) (v2172 : FVec F S8x256 .f32) (v2202 : FVec F S64x256 .f32) (v2309 : FVec F S8x256 .f32) (v2310 : FVec F S8x256 .f32) :
    Restores c R (k0_part72 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v2128 v2150 v2172 v2202 v2309 v2310) := by
  unfold k0_part72
  repeat first
    | with_reducible exact keeps_load
    | with_reducible exact keeps_store
    | with_reducible exact keeps_pure _
    | refine keeps_bind ?_ fun _ => ?_

theorem part73 (v992 : FVec F S1x256 .f32) (k0_t15 : Fin (k0_t15_loop i).trips) (v1095 : BitVec 32) (v2194 : FVec F S8x256 .f32) (v2202 : FVec F S64x256 .f32) :
    Restores c R (k0_part73 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v992 k0_t15 v1095 v2194 v2202) := by
  unfold k0_part73
  repeat first
    | with_reducible exact keeps_load
    | with_reducible exact keeps_store
    | with_reducible exact keeps_pure _
    | refine keeps_bind ?_ fun _ => ?_

theorem part74 (v2224 : FVec F S8x256 .f32) (v2246 : FVec F S8x256 .f32) (v2386 : FVec F S64x256 .f32) (v2389 : FVec F S64x256 .f32) (v2393 : FVec F S8x256 .f32) (v2394 : FVec F S8x256 .f32) (v2395 : FVec F S8x256 .f32) (v2396 : FVec F S8x256 .f32) (v2397 : FVec F S8x256 .f32) (v2398 : FVec F S8x256 .f32) :
    Restores c R (k0_part74 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v2224 v2246 v2386 v2389 v2393 v2394 v2395 v2396 v2397 v2398) := by
  unfold k0_part74
  repeat first
    | with_reducible exact keeps_load
    | with_reducible exact keeps_store
    | with_reducible exact keeps_pure _
    | refine keeps_bind ?_ fun _ => ?_

theorem part75 (v2268 : FVec F S8x256 .f32) (v2290 : FVec F S8x256 .f32) (v2386 : FVec F S64x256 .f32) (v2437 : FVec F S8x256 .f32) (v2438 : FVec F S8x256 .f32) (v2439 : FVec F S8x256 .f32) (v2440 : FVec F S8x256 .f32) (v2441 : FVec F S8x256 .f32) (v2442 : FVec F S8x256 .f32) (v2443 : FVec F S8x256 .f32) (v2444 : FVec F S8x256 .f32) :
    Restores c R (k0_part75 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v2268 v2290 v2386 v2437 v2438 v2439 v2440 v2441 v2442 v2443 v2444) := by
  unfold k0_part75
  repeat first
    | with_reducible exact keeps_load
    | with_reducible exact keeps_store
    | with_reducible exact keeps_pure _
    | refine keeps_bind ?_ fun _ => ?_

theorem part76 (v2312 : FVec F S8x256 .f32) (v2334 : FVec F S8x256 .f32) (v2386 : FVec F S64x256 .f32) (v2485 : FVec F S8x256 .f32) (v2486 : FVec F S8x256 .f32) (v2487 : FVec F S8x256 .f32) (v2488 : FVec F S8x256 .f32) (v2489 : FVec F S8x256 .f32) (v2490 : FVec F S8x256 .f32) :
    Restores c R (k0_part76 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v2312 v2334 v2386 v2485 v2486 v2487 v2488 v2489 v2490) := by
  unfold k0_part76
  repeat first
    | with_reducible exact keeps_load
    | with_reducible exact keeps_store
    | with_reducible exact keeps_pure _
    | refine keeps_bind ?_ fun _ => ?_

theorem part77 (k0_t15 : Fin (k0_t15_loop i).trips) (v1098 : BitVec 32) (v2356 : FVec F S8x256 .f32) (v2378 : FVec F S8x256 .f32) (v2386 : FVec F S64x256 .f32) (v2533 : FVec F S8x256 .f32) (v2534 : FVec F S8x256 .f32) (v2535 : FVec F S8x256 .f32) (v2536 : FVec F S8x256 .f32) :
    Restores c R (k0_part77 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_t15 v1098 v2356 v2378 v2386 v2533 v2534 v2535 v2536) := by
  unfold k0_part77
  repeat first
    | with_reducible exact keeps_load
    | with_reducible exact keeps_store
    | with_reducible exact keeps_pure _
    | refine keeps_bind ?_ fun _ => ?_

theorem part78 (k0_t15 : Fin (k0_t15_loop i).trips) (v2408 : FVec F S8x256 .f32) :
    Restores c R (k0_part78 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_t15 v2408) := by
  unfold k0_part78
  repeat first
    | with_reducible exact keeps_load
    | with_reducible exact keeps_store
    | with_reducible exact keeps_pure _
    | refine keeps_bind ?_ fun _ => ?_

theorem part79 (v2589 : FVec F S1x256 .f32) (v2609 : FVec F S64x256 .bf16) :
    Restores c R (k0_part79 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v2589 v2609) := by
  unfold k0_part79
  repeat first
    | with_reducible exact keeps_load
    | with_reducible exact keeps_store
    | with_reducible exact keeps_pure _
    | refine keeps_bind ?_ fun _ => ?_

theorem part80 (v1020 : FVec F S16x512 .bf16) (k0_t15 : Fin (k0_t15_loop i).trips) (arg21 : BitVec 32) (v2589 : FVec F S1x256 .f32) (v2641 : FVec F S64x256 .f32) :
    Restores c R (k0_part80 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1020 k0_t15 arg21 v2589 v2641) := by
  unfold k0_part80
  repeat first
    | with_reducible exact keeps_load
    | with_reducible exact keeps_store
    | with_reducible exact keeps_pure _
    | refine keeps_bind ?_ fun _ => ?_

theorem part81 (k0_t15 : Fin (k0_t15_loop i).trips) (v1098 : BitVec 32) (v2430 : FVec F S8x256 .f32) (v2594 : FVec F S1x256 .f32) (v2673 : FVec F S80x256 .f32) (v2674 : Vec F S1x1x256 .f32) :
    Restores c R (k0_part81 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_t15 v1098 v2430 v2594 v2673 v2674) := by
  unfold k0_part81
  repeat first
    | with_reducible exact keeps_load
    | with_reducible exact keeps_store
    | with_reducible exact keeps_pure _
    | refine keeps_bind ?_ fun _ => ?_

theorem part82 (v2702 : FVec F S1x256 .f32) (v2705 : FVec F S1x256 .f32) :
    Restores c R (k0_part82 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v2702 v2705) := by
  unfold k0_part82
  repeat first
    | with_reducible exact keeps_load
    | with_reducible exact keeps_store
    | with_reducible exact keeps_pure _
    | refine keeps_bind ?_ fun _ => ?_

theorem part83 (v2705 : FVec F S1x256 .f32) (v2742 : FVec F S64x256 .f32) :
    Restores c R (k0_part83 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v2705 v2742) := by
  unfold k0_part83
  repeat first
    | with_reducible exact keeps_load
    | with_reducible exact keeps_store
    | with_reducible exact keeps_pure _
    | refine keeps_bind ?_ fun _ => ?_

theorem part84 (v1020 : FVec F S16x512 .bf16) (k0_t15 : Fin (k0_t15_loop i).trips) (arg21 : BitVec 32) (v1098 : BitVec 32) (v2705 : FVec F S1x256 .f32) (v2710 : FVec F S1x256 .f32) (v2774 : Vec F S1x64x256 .f32) :
    Restores c R (k0_part84 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1020 k0_t15 arg21 v1098 v2705 v2710 v2774) := by
  unfold k0_part84
  repeat first
    | with_reducible exact keeps_load
    | with_reducible exact keeps_store
    | with_reducible exact keeps_pure _
    | refine keeps_bind ?_ fun _ => ?_

theorem part85 (v2452 : FVec F S8x256 .f32) (v2809 : Vec F S1x512x128 .bf16) :
    Restores c R (k0_part85 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v2452 v2809) := by
  unfold k0_part85
  repeat first
    | with_reducible exact keeps_load
    | with_reducible exact keeps_store
    | with_reducible exact keeps_pure _
    | refine keeps_bind ?_ fun _ => ?_

theorem part86 (v2821 : FVec F S1x256 .f32) (v2841 : FVec F S64x256 .bf16) :
    Restores c R (k0_part86 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v2821 v2841) := by
  unfold k0_part86
  repeat first
    | with_reducible exact keeps_load
    | with_reducible exact keeps_store
    | with_reducible exact keeps_pure _
    | refine keeps_bind ?_ fun _ => ?_

theorem part87 (v1020 : FVec F S16x512 .bf16) (k0_t15 : Fin (k0_t15_loop i).trips) (arg21 : BitVec 32) (v2821 : FVec F S1x256 .f32) (v2826 : FVec F S1x256 .f32) (v2875 : FVec F S64x256 .f32) :
    Restores c R (k0_part87 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1020 k0_t15 arg21 v2821 v2826 v2875) := by
  unfold k0_part87
  repeat first
    | with_reducible exact keeps_load
    | with_reducible exact keeps_store
    | with_reducible exact keeps_pure _
    | refine keeps_bind ?_ fun _ => ?_

theorem part88 (k0_t15 : Fin (k0_t15_loop i).trips) (v1098 : BitVec 32) (v2474 : FVec F S8x256 .f32) (v2826 : FVec F S1x256 .f32) (v2905 : FVec F S80x256 .f32) (v2908 : FVec F S1x256 .f32) :
    Restores c R (k0_part88 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_t15 v1098 v2474 v2826 v2905 v2908) := by
  unfold k0_part88
  repeat first
    | with_reducible exact keeps_load
    | with_reducible exact keeps_store
    | with_reducible exact keeps_pure _
    | refine keeps_bind ?_ fun _ => ?_

theorem part89 (v2934 : FVec F S1x256 .f32) (v2937 : FVec F S1x256 .f32) :
    Restores c R (k0_part89 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v2934 v2937) := by
  unfold k0_part89
  repeat first
    | with_reducible exact keeps_load
    | with_reducible exact keeps_store
    | with_reducible exact keeps_pure _
    | refine keeps_bind ?_ fun _ => ?_

theorem part90 (v2937 : FVec F S1x256 .f32) (v2975 : FVec F S64x256 .bf16) :
    Restores c R (k0_part90 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v2937 v2975) := by
  unfold k0_part90
  repeat first
    | with_reducible exact keeps_load
    | with_reducible exact keeps_store
    | with_reducible exact keeps_pure _
    | refine keeps_bind ?_ fun _ => ?_

theorem part91 (v1020 : FVec F S16x512 .bf16) (k0_t15 : Fin (k0_t15_loop i).trips) (arg21 : BitVec 32) (v1098 : BitVec 32) (v2942 : FVec F S1x256 .f32) (v3007 : FVec F S64x256 .f32) (v3008 : FVec F S64x256 .f32) :
    Restores c R (k0_part91 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1020 k0_t15 arg21 v1098 v2942 v3007 v3008) := by
  unfold k0_part91
  repeat first
    | with_reducible exact keeps_load
    | with_reducible exact keeps_store
    | with_reducible exact keeps_pure _
    | refine keeps_bind ?_ fun _ => ?_

theorem part92 (v2496 : FVec F S8x256 .f32) (v3042 : FVec F S512x128 .bf16) :
    Restores c R (k0_part92 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v2496 v3042) := by
  unfold k0_part92
  repeat first
    | with_reducible exact keeps_load
    | with_reducible exact keeps_store
    | with_reducible exact keeps_pure _
    | refine keeps_bind ?_ fun _ => ?_

theorem part93 (v3053 : FVec F S1x256 .f32) (v3073 : FVec F S64x256 .bf16) (v3074 : Vec F S1x64x256 .bf16) :
    Restores c R (k0_part93 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3053 v3073 v3074) := by
  unfold k0_part93
  repeat first
    | with_reducible exact keeps_load
    | with_reducible exact keeps_store
    | with_reducible exact keeps_pure _
    | refine keeps_bind ?_ fun _ => ?_

theorem part94 (v1020 : FVec F S16x512 .bf16) (k0_t15 : Fin (k0_t15_loop i).trips) (arg21 : BitVec 32) (v3053 : FVec F S1x256 .f32) (v3058 : FVec F S1x256 .f32) (v3109 : FVec F S64x256 .bf16) :
    Restores c R (k0_part94 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1020 k0_t15 arg21 v3053 v3058 v3109) := by
  unfold k0_part94
  repeat first
    | with_reducible exact keeps_load
    | with_reducible exact keeps_store
    | with_reducible exact keeps_pure _
    | refine keeps_bind ?_ fun _ => ?_

theorem part95 (k0_t15 : Fin (k0_t15_loop i).trips) (v1098 : BitVec 32) (v2518 : FVec F S8x256 .f32) (v3058 : FVec F S1x256 .f32) (v3137 : FVec F S80x256 .f32) (v3142 : FVec F S1x256 .f32) :
    Restores c R (k0_part95 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_t15 v1098 v2518 v3058 v3137 v3142) := by
  unfold k0_part95
  repeat first
    | with_reducible exact keeps_load
    | with_reducible exact keeps_store
    | with_reducible exact keeps_pure _
    | refine keeps_bind ?_ fun _ => ?_

theorem part96 (v3169 : FVec F S1x256 .f32) :
    Restores c R (k0_part96 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3169) := by
  unfold k0_part96
  repeat first
    | with_reducible exact keeps_load
    | with_reducible exact keeps_store
    | with_reducible exact keeps_pure _
    | refine keeps_bind ?_ fun _ => ?_

theorem part97 (v3169 : FVec F S1x256 .f32) (v3207 : FVec F S64x256 .bf16) :
    Restores c R (k0_part97 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3169 v3207) := by
  unfold k0_part97
  repeat first
    | with_reducible exact keeps_load
    | with_reducible exact keeps_store
    | with_reducible exact keeps_pure _
    | refine keeps_bind ?_ fun _ => ?_

theorem part98 (v1020 : FVec F S16x512 .bf16) (k0_t15 : Fin (k0_t15_loop i).trips) (arg21 : BitVec 32) (v1098 : BitVec 32) (v3174 : FVec F S1x256 .f32) (v3242 : FVec F S64x256 .f32) :
    Restores c R (k0_part98 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1020 k0_t15 arg21 v1098 v3174 v3242) := by
  unfold k0_part98
  repeat first
    | with_reducible exact keeps_load
    | with_reducible exact keeps_store
    | with_reducible exact keeps_pure _
    | refine keeps_bind ?_ fun _ => ?_

theorem part99 (v2540 : FVec F S8x256 .f32) (v3274 : FVec F S512x128 .bf16) :
    Restores c R (k0_part99 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v2540 v3274) := by
  unfold k0_part99
  repeat first
    | with_reducible exact keeps_load
    | with_reducible exact keeps_store
    | with_reducible exact keeps_pure _
    | refine keeps_bind ?_ fun _ => ?_

theorem part100 (v3285 : FVec F S1x256 .f32) (v3308 : FVec F S1x64x256 .bf16) :
    Restores c R (k0_part100 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3285 v3308) := by
  unfold k0_part100
  repeat first
    | with_reducible exact keeps_load
    | with_reducible exact keeps_store
    | with_reducible exact keeps_pure _
    | refine keeps_bind ?_ fun _ => ?_

theorem part101 (v1020 : FVec F S16x512 .bf16) (k0_t15 : Fin (k0_t15_loop i).trips) (arg21 : BitVec 32) (v3285 : FVec F S1x256 .f32) (v3290 : FVec F S1x256 .f32) (v3341 : FVec F S64x256 .bf16) :
    Restores c R (k0_part101 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1020 k0_t15 arg21 v3285 v3290 v3341) := by
  unfold k0_part101
  repeat first
    | with_reducible exact keeps_load
    | with_reducible exact keeps_store
    | with_reducible exact keeps_pure _
    | refine keeps_bind ?_ fun _ => ?_

theorem part102 (v2562 : FVec F S8x256 .f32) (v3290 : FVec F S1x256 .f32) (v3369 : FVec F S80x256 .f32) (v3374 : FVec F S1x256 .f32) :
    Restores c R (k0_part102 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v2562 v3290 v3369 v3374) := by
  unfold k0_part102
  repeat first
    | with_reducible exact keeps_load
    | with_reducible exact keeps_store
    | with_reducible exact keeps_pure _
    | refine keeps_bind ?_ fun _ => ?_

theorem part103 (v3390 : FVec F S1x256 .f32) (v3409 : FVec F S64x256 .f32) :
    Restores c R (k0_part103 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3390 v3409) := by
  unfold k0_part103
  repeat first
    | with_reducible exact keeps_load
    | with_reducible exact keeps_store
    | with_reducible exact keeps_pure _
    | refine keeps_bind ?_ fun _ => ?_

theorem part104 (v1020 : FVec F S16x512 .bf16) (k0_t15 : Fin (k0_t15_loop i).trips) (arg21 : BitVec 32) (v3390 : FVec F S1x256 .f32) (v3441 : Vec F S1x64x256 .f32) :
    Restores c R (k0_part104 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1020 k0_t15 arg21 v3390 v3441) := by
  unfold k0_part104
  repeat first
    | with_reducible exact keeps_load
    | with_reducible exact keeps_store
    | with_reducible exact keeps_pure _
    | refine keeps_bind ?_ fun _ => ?_

set_option maxHeartbeats 8000000 in
theorem part105 (v20 : BitVec 32) (v992 : FVec F S1x256 .f32) (v1020 : FVec F S16x512 .bf16) (c0_i32_601 : BitVec 32) (c1_i32_603 : BitVec 32) (k0_t15 : Fin (k0_t15_loop i).trips) :
    Restores c R (k0_part105 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v20 v992 v1020 c0_i32_601 c1_i32_603 k0_t15) := by
  unfold k0_part105
  repeat first
    | with_reducible exact part45 _ _ _ _ _
    | with_reducible exact part46 _ _
    | with_reducible exact part47 _ _ _ _
    | with_reducible exact part48 _ _ _ _ _ _ _ _
    | with_reducible exact part49 _ _ _ _ _ _ _ _ _ _
    | with_reducible exact part50 _ _ _ _ _
    | with_reducible exact part51 _ _ _ _ _ _ _
    | with_reducible exact part52 _ _ _ _ _ _ _ _ _
    | with_reducible exact part53 _ _ _ _ _ _ _ _ _ _ _ _ _
    | with_reducible exact part54 _ _ _ _ _
    | with_reducible exact part55 _ _ _ _ _
    | with_reducible exact part56 _ _ _ _ _
    | with_reducible exact part57 _ _ _ _ _ _ _ _ _
    | with_reducible exact part58 _ _ _ _
    | with_reducible exact part59 _ _ _ _
    | with_reducible exact part60 _ _ _ _ _
    | with_reducible exact part61 _ _ _ _ _ _ _
    | with_reducible exact part62 _ _ _
    | with_reducible exact part63 _ _ _ _
    | with_reducible exact part64 _ _ _ _
    | with_reducible exact part65 _ _ _ _ _
    | with_reducible exact part66 _ _ _ _ _ _
    | with_reducible exact part67 _ _ _
    | with_reducible exact part68 _ _ _
    | with_reducible exact part69 _ _ _ _ _ _
    | with_reducible exact part70 _ _ _ _ _ _ _ _ _
    | with_reducible exact part71 _ _ _ _ _ _ _
    | with_reducible exact part72 _ _ _ _ _ _
    | with_reducible exact part73 _ _ _ _ _
    | with_reducible exact part74 _ _ _ _ _ _ _ _ _ _
    | with_reducible exact part75 _ _ _ _ _ _ _ _ _ _ _
    | with_reducible exact part76 _ _ _ _ _ _ _ _ _
    | with_reducible exact part77 _ _ _ _ _ _ _ _ _
    | with_reducible exact part78 _ _
    | with_reducible exact part79 _ _
    | with_reducible exact part80 _ _ _ _ _
    | with_reducible exact part81 _ _ _ _ _ _
    | with_reducible exact part82 _ _
    | with_reducible exact part83 _ _
    | with_reducible exact part84 _ _ _ _ _ _ _
    | with_reducible exact part85 _ _
    | with_reducible exact part86 _ _
    | with_reducible exact part87 _ _ _ _ _ _
    | with_reducible exact part88 _ _ _ _ _ _
    | with_reducible exact part89 _ _
    | with_reducible exact part90 _ _
    | with_reducible exact part91 _ _ _ _ _ _ _
    | with_reducible exact part92 _ _
    | with_reducible exact part93 _ _ _
    | with_reducible exact part94 _ _ _ _ _ _
    | with_reducible exact part95 _ _ _ _ _ _
    | with_reducible exact part96 _
    | with_reducible exact part97 _ _
    | with_reducible exact part98 _ _ _ _ _ _
    | with_reducible exact part99 _ _
    | with_reducible exact part100 _ _
    | with_reducible exact part101 _ _ _ _ _ _
    | with_reducible exact part102 _ _ _ _
    | with_reducible exact part103 _ _
    | with_reducible exact part104 _ _ _ _ _
    | with_reducible exact keeps_pure _
    | refine keeps_bind ?_ fun _ => ?_

end Cert.Attn.Keep

end
-- ==== Proof.AttnPartsC.lean ====
/-
  Stretches of the attention's body, those of its sum over the selected keys, second half: each one gives back what it is run from.
-/
module

public import proofs.«01_k».proof.Proof.AttnKeeps

@[expose] public section

noncomputable section

namespace Cert.Attn.Keep

open Cert.Attn
open Idealize.ShloMosaic Idealize.ShloMosaic.TcCoe Idealize.ShloMosaic.Tactic
open Idealize.SL Idealize.SL.RA Idealize.SL.BI
open scoped Idealize.SL.BI
open Idealize.SL.Sem
open Idealize.ShloMosaic.Rounds

variable {F : FTy → Type} [BitOps F]

variable {c : Dev nD} {R : sProp (MT nD τ sig Unit (Elt F) ℕ (UR sig nD τ) ℕ)}
variable {i : grid0.Coords}
  {arg2 : Memref sig .tc .vmem S4x256x128 .bf16} {harg2 : arg2.IsWhole}
  {arg3 : Memref sig .tc .vmem S4x4096x128 .bf16} {harg3 : arg3.IsWhole}
  {arg4 : Memref sig .tc .vmem S8x512x512 .bf16} {harg4 : arg4.IsWhole}
  {arg5 : Memref sig .tc .vmem S4x256x128 .bf16} {harg5 : arg5.IsWhole}
  {arg6 : Memref sig .tc .vmem S4096x128 .bf16} {harg6 : arg6.IsWhole}
  {arg7 : Memref sig .tc .vmem S16x256 .f32} {harg7 : arg7.IsWhole}
  {arg8 : Memref sig .tc .vmem S256x512 .bf16} {harg8 : arg8.IsWhole}
  {arg9 : Memref sig .tc .vmem S8x256x128 .bf16} {harg9 : arg9.IsWhole}
  {arg10 : Memref sig .tc .vmem S2048x128 .bf16} {harg10 : arg10.IsWhole}
  {arg11 : Memref sig .tc .vmem S4096x256 .f32} {harg11 : arg11.IsWhole}
  {arg12 : Memref sig .tc .vmem S4096x256 .i16} {harg12 : arg12.IsWhole}
  {arg13 : Memref sig .tc .vmem S4096x256 .i16} {harg13 : arg13.IsWhole}
  {arg14 : Memref sig .tc .vmem S512x2048 .f32} {harg14 : arg14.IsWhole}
  {arg15 : Memref sig .tc .vmem S8x1x256 .f32} {harg15 : arg15.IsWhole}
  {arg16 : Memref sig .tc .vmem S8x1x256 .f32} {harg16 : arg16.IsWhole}
  {arg17 : Memref sig .tc .vmem S512x256 .f32} {harg17 : arg17.IsWhole}
  {arg18 : Memref sig .tc .vmem S8x512x256 .f32} {harg18 : arg18.IsWhole}
  {arg19 : Memref sig .tc .vmem S8x512x256 .f32} {harg19 : arg19.IsWhole}
  {arg20 : Memref sig .tc .vmem S8x512x256 .bf16} {harg20 : arg20.IsWhole}
variable [Reads c R arg2] [Reads c R arg3] [Reads c R arg4] [Reads c R arg5] [Reads c R arg6] [Reads c R arg7]
  [Writes c R arg8] [Writes c R arg9] [Writes c R arg10] [Writes c R arg11] [Writes c R arg12] [Writes c R arg13] [Writes c R arg14]
  [Writes c R arg15] [Writes c R arg16] [Writes c R arg17] [Writes c R arg18] [Writes c R arg19] [Writes c R arg20]

theorem part106 (v20 : BitVec 32) (v992 : FVec F S1x256 .f32) (v1025 : BitVec 32) (c1_i32_604 : BitVec 32) (k0_t16 : Fin (k0_t16_loop i).trips) :
    Restores c R (k0_part106 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v20 v992 v1025 c1_i32_604 k0_t16) := by
  unfold k0_part106
  repeat first
    | with_reducible exact keeps_load
    | with_reducible exact keeps_store
    | with_reducible exact keeps_pure _
    | refine keeps_bind ?_ fun _ => ?_

theorem part107 (v1106 : FVec F S64x256 .f32) (v1130 : FVec F S64x256 .f32) :
    Restores c R (k0_part107 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1106 v1130) := by
  unfold k0_part107
  repeat first
    | with_reducible exact keeps_load
    | with_reducible exact keeps_store
    | with_reducible exact keeps_pure _
    | refine keeps_bind ?_ fun _ => ?_

theorem part108 (v1106 : FVec F S64x256 .f32) (v1172 : FVec F S64x256 .f32) (v1176 : FVec F S8x256 .f32) (v1177 : FVec F S8x256 .f32) :
    Restores c R (k0_part108 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1106 v1172 v1176 v1177) := by
  unfold k0_part108
  repeat first
    | with_reducible exact keeps_load
    | with_reducible exact keeps_store
    | with_reducible exact keeps_pure _
    | refine keeps_bind ?_ fun _ => ?_

theorem part109 (v1106 : FVec F S64x256 .f32) (v1214 : FVec F S64x256 .f32) (v1218 : FVec F S8x256 .f32) (v1219 : FVec F S8x256 .f32) (v1220 : FVec F S8x256 .f32) (v1221 : FVec F S8x256 .f32) (v1222 : FVec F S8x256 .f32) (v1223 : FVec F S8x256 .f32) :
    Restores c R (k0_part109 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1106 v1214 v1218 v1219 v1220 v1221 v1222 v1223) := by
  unfold k0_part109
  repeat first
    | with_reducible exact keeps_load
    | with_reducible exact keeps_store
    | with_reducible exact keeps_pure _
    | refine keeps_bind ?_ fun _ => ?_

theorem part110 (v992 : FVec F S1x256 .f32) (k0_t16 : Fin (k0_t16_loop i).trips) (v1095 : BitVec 32) (v1127 : FVec F S8x256 .f32) (v1264 : FVec F S8x256 .f32) (v1265 : FVec F S8x256 .f32) (v1266 : FVec F S8x256 .f32) (v1267 : FVec F S8x256 .f32) (v1268 : FVec F S8x256 .f32) (v1269 : FVec F S8x256 .f32) :
    Restores c R (k0_part110 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v992 k0_t16 v1095 v1127 v1264 v1265 v1266 v1267 v1268 v1269) := by
  unfold k0_part110
  repeat first
    | with_reducible exact keeps_load
    | with_reducible exact keeps_store
    | with_reducible exact keeps_pure _
    | refine keeps_bind ?_ fun _ => ?_

theorem part111 (v1148 : FVec F S8x256 .f32) (v1169 : FVec F S8x256 .f32) (v1282 : FVec F S64x256 .f32) (v1307 : FVec F S64x256 .f32) (v1311 : FVec F S8x256 .f32) :
    Restores c R (k0_part111 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1148 v1169 v1282 v1307 v1311) := by
  unfold k0_part111
  repeat first
    | with_reducible exact keeps_load
    | with_reducible exact keeps_store
    | with_reducible exact keeps_pure _
    | refine keeps_bind ?_ fun _ => ?_

theorem part112 (v1190 : FVec F S8x256 .f32) (v1211 : FVec F S8x256 .f32) (v1282 : FVec F S64x256 .f32) (v1351 : FVec F S64x256 .f32) (v1355 : FVec F S8x256 .f32) (v1356 : FVec F S8x256 .f32) (v1357 : FVec F S8x256 .f32) :
    Restores c R (k0_part112 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1190 v1211 v1282 v1351 v1355 v1356 v1357) := by
  unfold k0_part112
  repeat first
    | with_reducible exact keeps_load
    | with_reducible exact keeps_store
    | with_reducible exact keeps_pure _
    | refine keeps_bind ?_ fun _ => ?_

theorem part113 (v1232 : FVec F S8x256 .f32) (v1253 : FVec F S8x256 .f32) (v1282 : FVec F S64x256 .f32) (v1395 : FVec F S64x256 .f32) (v1399 : FVec F S8x256 .f32) (v1400 : FVec F S8x256 .f32) (v1401 : FVec F S8x256 .f32) (v1402 : FVec F S8x256 .f32) (v1403 : FVec F S8x256 .f32) :
    Restores c R (k0_part113 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1232 v1253 v1282 v1395 v1399 v1400 v1401 v1402 v1403) := by
  unfold k0_part113
  repeat first
    | with_reducible exact keeps_load
    | with_reducible exact keeps_store
    | with_reducible exact keeps_pure _
    | refine keeps_bind ?_ fun _ => ?_

theorem part114 (v992 : FVec F S1x256 .f32) (k0_t16 : Fin (k0_t16_loop i).trips) (v1095 : BitVec 32) (v1274 : FVec F S8x256 .f32) (v1304 : FVec F S8x256 .f32) (v1439 : FVec F S64x256 .f32) (v1443 : FVec F S8x256 .f32) (v1444 : FVec F S8x256 .f32) (v1445 : FVec F S8x256 .f32) (v1446 : FVec F S8x256 .f32) (v1447 : FVec F S8x256 .f32) (v1448 : FVec F S8x256 .f32) (v1449 : FVec F S8x256 .f32) :
    Restores c R (k0_part114 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v992 k0_t16 v1095 v1274 v1304 v1439 v1443 v1444 v1445 v1446 v1447 v1448 v1449) := by
  unfold k0_part114
  repeat first
    | with_reducible exact keeps_load
    | with_reducible exact keeps_store
    | with_reducible exact keeps_pure _
    | refine keeps_bind ?_ fun _ => ?_

theorem part115 (v1326 : FVec F S8x256 .f32) (v1348 : FVec F S8x256 .f32) (v1466 : FVec F S64x256 .f32) (v1491 : FVec F S64x256 .f32) (v1492 : Vec F S1x64x256 .f32) :
    Restores c R (k0_part115 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1326 v1348 v1466 v1491 v1492) := by
  unfold k0_part115
  repeat first
    | with_reducible exact keeps_load
    | with_reducible exact keeps_store
    | with_reducible exact keeps_pure _
    | refine keeps_bind ?_ fun _ => ?_

theorem part116 (v1370 : FVec F S8x256 .f32) (v1392 : FVec F S8x256 .f32) (v1466 : FVec F S64x256 .f32) (v1535 : FVec F S64x256 .f32) (v1538 : FVec F S1x64x256 .f32) :
    Restores c R (k0_part116 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1370 v1392 v1466 v1535 v1538) := by
  unfold k0_part116
  repeat first
    | with_reducible exact keeps_load
    | with_reducible exact keeps_store
    | with_reducible exact keeps_pure _
    | refine keeps_bind ?_ fun _ => ?_

theorem part117 (v1414 : FVec F S8x256 .f32) (v1436 : FVec F S8x256 .f32) (v1466 : FVec F S64x256 .f32) (v1579 : FVec F S64x256 .f32) (v1583 : FVec F S8x256 .f32) :
    Restores c R (k0_part117 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1414 v1436 v1466 v1579 v1583) := by
  unfold k0_part117
  repeat first
    | with_reducible exact keeps_load
    | with_reducible exact keeps_store
    | with_reducible exact keeps_pure _
    | refine keeps_bind ?_ fun _ => ?_

theorem part118 (v992 : FVec F S1x256 .f32) (k0_t16 : Fin (k0_t16_loop i).trips) (v1095 : BitVec 32) (v1458 : FVec F S8x256 .f32) (v1488 : FVec F S8x256 .f32) (v1623 : FVec F S64x256 .f32) (v1627 : FVec F S8x256 .f32) (v1628 : FVec F S8x256 .f32) (v1629 : FVec F S8x256 .f32) :
    Restores c R (k0_part118 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v992 k0_t16 v1095 v1458 v1488 v1623 v1627 v1628 v1629) := by
  unfold k0_part118
  repeat first
    | with_reducible exact keeps_load
    | with_reducible exact keeps_store
    | with_reducible exact keeps_pure _
    | refine keeps_bind ?_ fun _ => ?_

theorem part119 (v1510 : FVec F S8x256 .f32) (v1532 : FVec F S8x256 .f32) (v1650 : FVec F S64x256 .f32) (v1675 : FVec F S64x256 .f32) :
    Restores c R (k0_part119 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1510 v1532 v1650 v1675) := by
  unfold k0_part119
  repeat first
    | with_reducible exact keeps_load
    | with_reducible exact keeps_store
    | with_reducible exact keeps_pure _
    | refine keeps_bind ?_ fun _ => ?_

theorem part120 (v1554 : FVec F S8x256 .f32) (v1576 : FVec F S8x256 .f32) (v1650 : FVec F S64x256 .f32) (v1719 : FVec F S64x256 .f32) :
    Restores c R (k0_part120 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1554 v1576 v1650 v1719) := by
  unfold k0_part120
  repeat first
    | with_reducible exact keeps_load
    | with_reducible exact keeps_store
    | with_reducible exact keeps_pure _
    | refine keeps_bind ?_ fun _ => ?_

theorem part121 (v1598 : FVec F S8x256 .f32) (v1620 : FVec F S8x256 .f32) (v1650 : FVec F S64x256 .f32) (v1763 : FVec F S64x256 .f32) (v1764 : Vec F S1x64x256 .f32) :
    Restores c R (k0_part121 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1598 v1620 v1650 v1763 v1764) := by
  unfold k0_part121
  repeat first
    | with_reducible exact keeps_load
    | with_reducible exact keeps_store
    | with_reducible exact keeps_pure _
    | refine keeps_bind ?_ fun _ => ?_

theorem part122 (v992 : FVec F S1x256 .f32) (k0_t16 : Fin (k0_t16_loop i).trips) (v1095 : BitVec 32) (v1642 : FVec F S8x256 .f32) (v1672 : FVec F S8x256 .f32) (v1807 : FVec F S64x256 .f32) (v1810 : FVec F S1x64x256 .f32) :
    Restores c R (k0_part122 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v992 k0_t16 v1095 v1642 v1672 v1807 v1810) := by
  unfold k0_part122
  repeat first
    | with_reducible exact keeps_load
    | with_reducible exact keeps_store
    | with_reducible exact keeps_pure _
    | refine keeps_bind ?_ fun _ => ?_

theorem part123 (v1694 : FVec F S8x256 .f32) (v1716 : FVec F S8x256 .f32) (v1834 : FVec F S64x256 .f32) :
    Restores c R (k0_part123 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1694 v1716 v1834) := by
  unfold k0_part123
  repeat first
    | with_reducible exact keeps_load
    | with_reducible exact keeps_store
    | with_reducible exact keeps_pure _
    | refine keeps_bind ?_ fun _ => ?_

theorem part124 (v1738 : FVec F S8x256 .f32) (v1760 : FVec F S8x256 .f32) (v1834 : FVec F S64x256 .f32) (v1901 : Vec F S1x64x256 .f32) :
    Restores c R (k0_part124 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1738 v1760 v1834 v1901) := by
  unfold k0_part124
  repeat first
    | with_reducible exact keeps_load
    | with_reducible exact keeps_store
    | with_reducible exact keeps_pure _
    | refine keeps_bind ?_ fun _ => ?_

theorem part125 (v1782 : FVec F S8x256 .f32) (v1804 : FVec F S8x256 .f32) (v1834 : FVec F S64x256 .f32) (v1947 : FVec F S64x256 .f32) :
    Restores c R (k0_part125 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1782 v1804 v1834 v1947) := by
  unfold k0_part125
  repeat first
    | with_reducible exact keeps_load
    | with_reducible exact keeps_store
    | with_reducible exact keeps_pure _
    | refine keeps_bind ?_ fun _ => ?_

theorem part126 (v992 : FVec F S1x256 .f32) (k0_t16 : Fin (k0_t16_loop i).trips) (v1095 : BitVec 32) (v1826 : FVec F S8x256 .f32) (v1991 : FVec F S64x256 .f32) :
    Restores c R (k0_part126 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v992 k0_t16 v1095 v1826 v1991) := by
  unfold k0_part126
  repeat first
    | with_reducible exact keeps_load
    | with_reducible exact keeps_store
    | with_reducible exact keeps_pure _
    | refine keeps_bind ?_ fun _ => ?_

theorem part127 (v1856 : FVec F S8x256 .f32) (v1878 : FVec F S8x256 .f32) (v1900 : FVec F S8x256 .f32) (v2018 : FVec F S64x256 .f32) (v2037 : FVec F S8x256 .f32) (v2038 : FVec F S8x256 .f32) :
    Restores c R (k0_part127 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1856 v1878 v1900 v2018 v2037 v2038) := by
  unfold k0_part127
  repeat first
    | with_reducible exact keeps_load
    | with_reducible exact keeps_store
    | with_reducible exact keeps_pure _
    | refine keeps_bind ?_ fun _ => ?_

theorem part128 (v1922 : FVec F S8x256 .f32) (v1944 : FVec F S8x256 .f32) (v2018 : FVec F S64x256 .f32) :
    Restores c R (k0_part128 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1922 v1944 v2018) := by
  unfold k0_part128
  repeat first
    | with_reducible exact keeps_load
    | with_reducible exact keeps_store
    | with_reducible exact keeps_pure _
    | refine keeps_bind ?_ fun _ => ?_

theorem part129 (v1966 : FVec F S8x256 .f32) (v1988 : FVec F S8x256 .f32) (v2018 : FVec F S64x256 .f32) :
    Restores c R (k0_part129 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1966 v1988 v2018) := by
  unfold k0_part129
  repeat first
    | with_reducible exact keeps_load
    | with_reducible exact keeps_store
    | with_reducible exact keeps_pure _
    | refine keeps_bind ?_ fun _ => ?_

theorem part130 (v992 : FVec F S1x256 .f32) (k0_t16 : Fin (k0_t16_loop i).trips) (v1095 : BitVec 32) (v2010 : FVec F S8x256 .f32) (v2018 : FVec F S64x256 .f32) (v2173 : Vec F S1x64x256 .f32) :
    Restores c R (k0_part130 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v992 k0_t16 v1095 v2010 v2018 v2173) := by
  unfold k0_part130
  repeat first
    | with_reducible exact keeps_load
    | with_reducible exact keeps_store
    | with_reducible exact keeps_pure _
    | refine keeps_bind ?_ fun _ => ?_

theorem part131 (v2040 : FVec F S8x256 .f32) (v2062 : FVec F S8x256 .f32) (v2202 : FVec F S64x256 .f32) (v2213 : FVec F S8x256 .f32) (v2214 : FVec F S8x256 .f32) (v2215 : FVec F S8x256 .f32) (v2216 : FVec F S8x256 .f32) (v2217 : FVec F S8x256 .f32) (v2218 : FVec F S8x256 .f32) :
    Restores c R (k0_part131 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v2040 v2062 v2202 v2213 v2214 v2215 v2216 v2217 v2218) := by
  unfold k0_part131
  repeat first
    | with_reducible exact keeps_load
    | with_reducible exact keeps_store
    | with_reducible exact keeps_pure _
    | refine keeps_bind ?_ fun _ => ?_

theorem part132 (v2084 : FVec F S8x256 .f32) (v2106 : FVec F S8x256 .f32) (v2202 : FVec F S64x256 .f32) (v2261 : FVec F S8x256 .f32) (v2262 : FVec F S8x256 .f32) (v2263 : FVec F S8x256 .f32) (v2264 : FVec F S8x256 .f32) :
    Restores c R (k0_part132 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v2084 v2106 v2202 v2261 v2262 v2263 v2264) := by
  unfold k0_part132
  repeat first
    | with_reducible exact keeps_load
    | with_reducible exact keeps_store
    | with_reducible exact keeps_pure _
    | refine keeps_bind ?_ fun _ => ?_

theorem part133 (v2128 : FVec F S8x256 .f32) (v2150 : FVec F S8x256 .f32) (v2172 : FVec F S8x256 .f32) (v2202 : FVec F S64x256 .f32) (v2309 : FVec F S8x256 .f32) (v2310 : FVec F S8x256 .f32) :
    Restores c R (k0_part133 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v2128 v2150 v2172 v2202 v2309 v2310) := by
  unfold k0_part133
  repeat first
    | with_reducible exact keeps_load
    | with_reducible exact keeps_store
    | with_reducible exact keeps_pure _
    | refine keeps_bind ?_ fun _ => ?_

theorem part134 (v992 : FVec F S1x256 .f32) (k0_t16 : Fin (k0_t16_loop i).trips) (v1095 : BitVec 32) (v2194 : FVec F S8x256 .f32) (v2202 : FVec F S64x256 .f32) :
    Restores c R (k0_part134 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v992 k0_t16 v1095 v2194 v2202) := by
  unfold k0_part134
  repeat first
    | with_reducible exact keeps_load
    | with_reducible exact keeps_store
    | with_reducible exact keeps_pure _
    | refine keeps_bind ?_ fun _ => ?_

theorem part135 (v2224 : FVec F S8x256 .f32) (v2246 : FVec F S8x256 .f32) (v2386 : FVec F S64x256 .f32) (v2389 : FVec F S64x256 .f32) (v2393 : FVec F S8x256 .f32) (v2394 : FVec F S8x256 .f32) (v2395 : FVec F S8x256 .f32) (v2396 : FVec F S8x256 .f32) (v2397 : FVec F S8x256 .f32) (v2398 : FVec F S8x256 .f32) :
    Restores c R (k0_part135 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v2224 v2246 v2386 v2389 v2393 v2394 v2395 v2396 v2397 v2398) := by
  unfold k0_part135
  repeat first
    | with_reducible exact keeps_load
    | with_reducible exact keeps_store
    | with_reducible exact keeps_pure _
    | refine keeps_bind ?_ fun _ => ?_

theorem part136 (v2268 : FVec F S8x256 .f32) (v2290 : FVec F S8x256 .f32) (v2386 : FVec F S64x256 .f32) (v2437 : FVec F S8x256 .f32) (v2438 : FVec F S8x256 .f32) (v2439 : FVec F S8x256 .f32) (v2440 : FVec F S8x256 .f32) (v2441 : FVec F S8x256 .f32) (v2442 : FVec F S8x256 .f32) (v2443 : FVec F S8x256 .f32) (v2444 : FVec F S8x256 .f32) :
    Restores c R (k0_part136 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v2268 v2290 v2386 v2437 v2438 v2439 v2440 v2441 v2442 v2443 v2444) := by
  unfold k0_part136
  repeat first
    | with_reducible exact keeps_load
    | with_reducible exact keeps_store
    | with_reducible exact keeps_pure _
    | refine keeps_bind ?_ fun _ => ?_

theorem part137 (v2312 : FVec F S8x256 .f32) (v2334 : FVec F S8x256 .f32) (v2386 : FVec F S64x256 .f32) (v2485 : FVec F S8x256 .f32) (v2486 : FVec F S8x256 .f32) (v2487 : FVec F S8x256 .f32) (v2488 : FVec F S8x256 .f32) (v2489 : FVec F S8x256 .f32) (v2490 : FVec F S8x256 .f32) :
    Restores c R (k0_part137 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v2312 v2334 v2386 v2485 v2486 v2487 v2488 v2489 v2490) := by
  unfold k0_part137
  repeat first
    | with_reducible exact keeps_load
    | with_reducible exact keeps_store
    | with_reducible exact keeps_pure _
    | refine keeps_bind ?_ fun _ => ?_

theorem part138 (k0_t16 : Fin (k0_t16_loop i).trips) (v1098 : BitVec 32) (v2356 : FVec F S8x256 .f32) (v2378 : FVec F S8x256 .f32) (v2386 : FVec F S64x256 .f32) (v2533 : FVec F S8x256 .f32) (v2534 : FVec F S8x256 .f32) (v2535 : FVec F S8x256 .f32) (v2536 : FVec F S8x256 .f32) :
    Restores c R (k0_part138 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_t16 v1098 v2356 v2378 v2386 v2533 v2534 v2535 v2536) := by
  unfold k0_part138
  repeat first
    | with_reducible exact keeps_load
    | with_reducible exact keeps_store
    | with_reducible exact keeps_pure _
    | refine keeps_bind ?_ fun _ => ?_

theorem part139 (k0_t16 : Fin (k0_t16_loop i).trips) (v2408 : FVec F S8x256 .f32) :
    Restores c R (k0_part139 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_t16 v2408) := by
  unfold k0_part139
  repeat first
    | with_reducible exact keeps_load
    | with_reducible exact keeps_store
    | with_reducible exact keeps_pure _
    | refine keeps_bind ?_ fun _ => ?_

theorem part140 (v2589 : FVec F S1x256 .f32) (v2609 : FVec F S64x256 .bf16) :
    Restores c R (k0_part140 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v2589 v2609) := by
  unfold k0_part140
  repeat first
    | with_reducible exact keeps_load
    | with_reducible exact keeps_store
    | with_reducible exact keeps_pure _
    | refine keeps_bind ?_ fun _ => ?_

theorem part141 (v1020 : FVec F S16x512 .bf16) (k0_t16 : Fin (k0_t16_loop i).trips) (arg21 : BitVec 32) (v2589 : FVec F S1x256 .f32) (v2641 : FVec F S64x256 .f32) :
    Restores c R (k0_part141 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1020 k0_t16 arg21 v2589 v2641) := by
  unfold k0_part141
  repeat first
    | with_reducible exact keeps_load
    | with_reducible exact keeps_store
    | with_reducible exact keeps_pure _
    | refine keeps_bind ?_ fun _ => ?_

theorem part142 (k0_t16 : Fin (k0_t16_loop i).trips) (v1098 : BitVec 32) (v2430 : FVec F S8x256 .f32) (v2594 : FVec F S1x256 .f32) (v2673 : FVec F S80x256 .f32) (v2674 : Vec F S1x1x256 .f32) :
    Restores c R (k0_part142 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_t16 v1098 v2430 v2594 v2673 v2674) := by
  unfold k0_part142
  repeat first
    | with_reducible exact keeps_load
    | with_reducible exact keeps_store
    | with_reducible exact keeps_pure _
    | refine keeps_bind ?_ fun _ => ?_

theorem part143 (v2702 : FVec F S1x256 .f32) (v2705 : FVec F S1x256 .f32) :
    Restores c R (k0_part143 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v2702 v2705) := by
  unfold k0_part143
  repeat first
    | with_reducible exact keeps_load
    | with_reducible exact keeps_store
    | with_reducible exact keeps_pure _
    | refine keeps_bind ?_ fun _ => ?_

theorem part144 (v2705 : FVec F S1x256 .f32) (v2742 : FVec F S64x256 .f32) :
    Restores c R (k0_part144 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v2705 v2742) := by
  unfold k0_part144
  repeat first
    | with_reducible exact keeps_load
    | with_reducible exact keeps_store
    | with_reducible exact keeps_pure _
    | refine keeps_bind ?_ fun _ => ?_

theorem part145 (v1020 : FVec F S16x512 .bf16) (k0_t16 : Fin (k0_t16_loop i).trips) (arg21 : BitVec 32) (v1098 : BitVec 32) (v2705 : FVec F S1x256 .f32) (v2710 : FVec F S1x256 .f32) (v2774 : Vec F S1x64x256 .f32) :
    Restores c R (k0_part145 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1020 k0_t16 arg21 v1098 v2705 v2710 v2774) := by
  unfold k0_part145
  repeat first
    | with_reducible exact keeps_load
    | with_reducible exact keeps_store
    | with_reducible exact keeps_pure _
    | refine keeps_bind ?_ fun _ => ?_

theorem part146 (v2452 : FVec F S8x256 .f32) (v2809 : Vec F S1x512x128 .bf16) :
    Restores c R (k0_part146 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v2452 v2809) := by
  unfold k0_part146
  repeat first
    | with_reducible exact keeps_load
    | with_reducible exact keeps_store
    | with_reducible exact keeps_pure _
    | refine keeps_bind ?_ fun _ => ?_

theorem part147 (v2821 : FVec F S1x256 .f32) (v2841 : FVec F S64x256 .bf16) :
    Restores c R (k0_part147 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v2821 v2841) := by
  unfold k0_part147
  repeat first
    | with_reducible exact keeps_load
    | with_reducible exact keeps_store
    | with_reducible exact keeps_pure _
    | refine keeps_bind ?_ fun _ => ?_

theorem part148 (v1020 : FVec F S16x512 .bf16) (k0_t16 : Fin (k0_t16_loop i).trips) (arg21 : BitVec 32) (v2821 : FVec F S1x256 .f32) (v2826 : FVec F S1x256 .f32) (v2875 : FVec F S64x256 .f32) :
    Restores c R (k0_part148 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1020 k0_t16 arg21 v2821 v2826 v2875) := by
  unfold k0_part148
  repeat first
    | with_reducible exact keeps_load
    | with_reducible exact keeps_store
    | with_reducible exact keeps_pure _
    | refine keeps_bind ?_ fun _ => ?_

theorem part149 (k0_t16 : Fin (k0_t16_loop i).trips) (v1098 : BitVec 32) (v2474 : FVec F S8x256 .f32) (v2826 : FVec F S1x256 .f32) (v2905 : FVec F S80x256 .f32) (v2908 : FVec F S1x256 .f32) :
    Restores c R (k0_part149 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_t16 v1098 v2474 v2826 v2905 v2908) := by
  unfold k0_part149
  repeat first
    | with_reducible exact keeps_load
    | with_reducible exact keeps_store
    | with_reducible exact keeps_pure _
    | refine keeps_bind ?_ fun _ => ?_

theorem part150 (v2934 : FVec F S1x256 .f32) (v2937 : FVec F S1x256 .f32) :
    Restores c R (k0_part150 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v2934 v2937) := by
  unfold k0_part150
  repeat first
    | with_reducible exact keeps_load
    | with_reducible exact keeps_store
    | with_reducible exact keeps_pure _
    | refine keeps_bind ?_ fun _ => ?_

theorem part151 (v2937 : FVec F S1x256 .f32) (v2975 : FVec F S64x256 .bf16) :
    Restores c R (k0_part151 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v2937 v2975) := by
  unfold k0_part151
  repeat first
    | with_reducible exact keeps_load
    | with_reducible exact keeps_store
    | with_reducible exact keeps_pure _
    | refine keeps_bind ?_ fun _ => ?_

theorem part152 (v1020 : FVec F S16x512 .bf16) (k0_t16 : Fin (k0_t16_loop i).trips) (arg21 : BitVec 32) (v1098 : BitVec 32) (v2942 : FVec F S1x256 .f32) (v3007 : FVec F S64x256 .f32) (v3008 : FVec F S64x256 .f32) :
    Restores c R (k0_part152 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1020 k0_t16 arg21 v1098 v2942 v3007 v3008) := by
  unfold k0_part152
  repeat first
    | with_reducible exact keeps_load
    | with_reducible exact keeps_store
    | with_reducible exact keeps_pure _
    | refine keeps_bind ?_ fun _ => ?_

theorem part153 (v2496 : FVec F S8x256 .f32) (v3042 : FVec F S512x128 .bf16) :
    Restores c R (k0_part153 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v2496 v3042) := by
  unfold k0_part153
  repeat first
    | with_reducible exact keeps_load
    | with_reducible exact keeps_store
    | with_reducible exact keeps_pure _
    | refine keeps_bind ?_ fun _ => ?_

theorem part154 (v3053 : FVec F S1x256 .f32) (v3073 : FVec F S64x256 .bf16) (v3074 : Vec F S1x64x256 .bf16) :
    Restores c R (k0_part154 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3053 v3073 v3074) := by
  unfold k0_part154
  repeat first
    | with_reducible exact keeps_load
    | with_reducible exact keeps_store
    | with_reducible exact keeps_pure _
    | refine keeps_bind ?_ fun _ => ?_

theorem part155 (v1020 : FVec F S16x512 .bf16) (k0_t16 : Fin (k0_t16_loop i).trips) (arg21 : BitVec 32) (v3053 : FVec F S1x256 .f32) (v3058 : FVec F S1x256 .f32) (v3109 : FVec F S64x256 .bf16) :
    Restores c R (k0_part155 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1020 k0_t16 arg21 v3053 v3058 v3109) := by
  unfold k0_part155
  repeat first
    | with_reducible exact keeps_load
    | with_reducible exact keeps_store
    | with_reducible exact keeps_pure _
    | refine keeps_bind ?_ fun _ => ?_

theorem part156 (k0_t16 : Fin (k0_t16_loop i).trips) (v1098 : BitVec 32) (v2518 : FVec F S8x256 .f32) (v3058 : FVec F S1x256 .f32) (v3137 : FVec F S80x256 .f32) (v3142 : FVec F S1x256 .f32) :
    Restores c R (k0_part156 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_t16 v1098 v2518 v3058 v3137 v3142) := by
  unfold k0_part156
  repeat first
    | with_reducible exact keeps_load
    | with_reducible exact keeps_store
    | with_reducible exact keeps_pure _
    | refine keeps_bind ?_ fun _ => ?_

theorem part157 (v3169 : FVec F S1x256 .f32) :
    Restores c R (k0_part157 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3169) := by
  unfold k0_part157
  repeat first
    | with_reducible exact keeps_load
    | with_reducible exact keeps_store
    | with_reducible exact keeps_pure _
    | refine keeps_bind ?_ fun _ => ?_

theorem part158 (v3169 : FVec F S1x256 .f32) (v3207 : FVec F S64x256 .bf16) :
    Restores c R (k0_part158 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3169 v3207) := by
  unfold k0_part158
  repeat first
    | with_reducible exact keeps_load
    | with_reducible exact keeps_store
    | with_reducible exact keeps_pure _
    | refine keeps_bind ?_ fun _ => ?_

theorem part159 (v1020 : FVec F S16x512 .bf16) (k0_t16 : Fin (k0_t16_loop i).trips) (arg21 : BitVec 32) (v1098 : BitVec 32) (v3174 : FVec F S1x256 .f32) (v3242 : FVec F S64x256 .f32) :
    Restores c R (k0_part159 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1020 k0_t16 arg21 v1098 v3174 v3242) := by
  unfold k0_part159
  repeat first
    | with_reducible exact keeps_load
    | with_reducible exact keeps_store
    | with_reducible exact keeps_pure _
    | refine keeps_bind ?_ fun _ => ?_

theorem part160 (v2540 : FVec F S8x256 .f32) (v3274 : FVec F S512x128 .bf16) :
    Restores c R (k0_part160 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v2540 v3274) := by
  unfold k0_part160
  repeat first
    | with_reducible exact keeps_load
    | with_reducible exact keeps_store
    | with_reducible exact keeps_pure _
    | refine keeps_bind ?_ fun _ => ?_

theorem part161 (v3285 : FVec F S1x256 .f32) (v3308 : FVec F S1x64x256 .bf16) :
    Restores c R (k0_part161 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3285 v3308) := by
  unfold k0_part161
  repeat first
    | with_reducible exact keeps_load
    | with_reducible exact keeps_store
    | with_reducible exact keeps_pure _
    | refine keeps_bind ?_ fun _ => ?_

theorem part162 (v1020 : FVec F S16x512 .bf16) (k0_t16 : Fin (k0_t16_loop i).trips) (arg21 : BitVec 32) (v3285 : FVec F S1x256 .f32) (v3290 : FVec F S1x256 .f32) (v3341 : FVec F S64x256 .bf16) :
    Restores c R (k0_part162 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1020 k0_t16 arg21 v3285 v3290 v3341) := by
  unfold k0_part162
  repeat first
    | with_reducible exact keeps_load
    | with_reducible exact keeps_store
    | with_reducible exact keeps_pure _
    | refine keeps_bind ?_ fun _ => ?_

theorem part163 (v2562 : FVec F S8x256 .f32) (v3290 : FVec F S1x256 .f32) (v3369 : FVec F S80x256 .f32) (v3374 : FVec F S1x256 .f32) :
    Restores c R (k0_part163 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v2562 v3290 v3369 v3374) := by
  unfold k0_part163
  repeat first
    | with_reducible exact keeps_load
    | with_reducible exact keeps_store
    | with_reducible exact keeps_pure _
    | refine keeps_bind ?_ fun _ => ?_

theorem part164 (v3390 : FVec F S1x256 .f32) (v3409 : FVec F S64x256 .f32) :
    Restores c R (k0_part164 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3390 v3409) := by
  unfold k0_part164
  repeat first
    | with_reducible exact keeps_load
    | with_reducible exact keeps_store
    | with_reducible exact keeps_pure _
    | refine keeps_bind ?_ fun _ => ?_

theorem part165 (v1020 : FVec F S16x512 .bf16) (k0_t16 : Fin (k0_t16_loop i).trips) (arg21 : BitVec 32) (v3390 : FVec F S1x256 .f32) (v3441 : Vec F S1x64x256 .f32) :
    Restores c R (k0_part165 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1020 k0_t16 arg21 v3390 v3441) := by
  unfold k0_part165
  repeat first
    | with_reducible exact keeps_load
    | with_reducible exact keeps_store
    | with_reducible exact keeps_pure _
    | refine keeps_bind ?_ fun _ => ?_

set_option maxHeartbeats 8000000 in
theorem part166 (v20 : BitVec 32) (v992 : FVec F S1x256 .f32) (v1020 : FVec F S16x512 .bf16) (v1025 : BitVec 32) (c1_i32_604 : BitVec 32) (k0_t16 : Fin (k0_t16_loop i).trips) :
    Restores c R (k0_part166 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v20 v992 v1020 v1025 c1_i32_604 k0_t16) := by
  unfold k0_part166
  repeat first
    | with_reducible exact part106 _ _ _ _ _
    | with_reducible exact part107 _ _
    | with_reducible exact part108 _ _ _ _
    | with_reducible exact part109 _ _ _ _ _ _ _ _
    | with_reducible exact part110 _ _ _ _ _ _ _ _ _ _
    | with_reducible exact part111 _ _ _ _ _
    | with_reducible exact part112 _ _ _ _ _ _ _
    | with_reducible exact part113 _ _ _ _ _ _ _ _ _
    | with_reducible exact part114 _ _ _ _ _ _ _ _ _ _ _ _ _
    | with_reducible exact part115 _ _ _ _ _
    | with_reducible exact part116 _ _ _ _ _
    | with_reducible exact part117 _ _ _ _ _
    | with_reducible exact part118 _ _ _ _ _ _ _ _ _
    | with_reducible exact part119 _ _ _ _
    | with_reducible exact part120 _ _ _ _
    | with_reducible exact part121 _ _ _ _ _
    | with_reducible exact part122 _ _ _ _ _ _ _
    | with_reducible exact part123 _ _ _
    | with_reducible exact part124 _ _ _ _
    | with_reducible exact part125 _ _ _ _
    | with_reducible exact part126 _ _ _ _ _
    | with_reducible exact part127 _ _ _ _ _ _
    | with_reducible exact part128 _ _ _
    | with_reducible exact part129 _ _ _
    | with_reducible exact part130 _ _ _ _ _ _
    | with_reducible exact part131 _ _ _ _ _ _ _ _ _
    | with_reducible exact part132 _ _ _ _ _ _ _
    | with_reducible exact part133 _ _ _ _ _ _
    | with_reducible exact part134 _ _ _ _ _
    | with_reducible exact part135 _ _ _ _ _ _ _ _ _ _
    | with_reducible exact part136 _ _ _ _ _ _ _ _ _ _ _
    | with_reducible exact part137 _ _ _ _ _ _ _ _ _
    | with_reducible exact part138 _ _ _ _ _ _ _ _ _
    | with_reducible exact part139 _ _
    | with_reducible exact part140 _ _
    | with_reducible exact part141 _ _ _ _ _
    | with_reducible exact part142 _ _ _ _ _ _
    | with_reducible exact part143 _ _
    | with_reducible exact part144 _ _
    | with_reducible exact part145 _ _ _ _ _ _ _
    | with_reducible exact part146 _ _
    | with_reducible exact part147 _ _
    | with_reducible exact part148 _ _ _ _ _ _
    | with_reducible exact part149 _ _ _ _ _ _
    | with_reducible exact part150 _ _
    | with_reducible exact part151 _ _
    | with_reducible exact part152 _ _ _ _ _ _ _
    | with_reducible exact part153 _ _
    | with_reducible exact part154 _ _ _
    | with_reducible exact part155 _ _ _ _ _ _
    | with_reducible exact part156 _ _ _ _ _ _
    | with_reducible exact part157 _
    | with_reducible exact part158 _ _
    | with_reducible exact part159 _ _ _ _ _ _
    | with_reducible exact part160 _ _
    | with_reducible exact part161 _ _
    | with_reducible exact part162 _ _ _ _ _ _
    | with_reducible exact part163 _ _ _ _
    | with_reducible exact part164 _ _
    | with_reducible exact part165 _ _ _ _ _
    | with_reducible exact keeps_pure _
    | refine keeps_bind ?_ fun _ => ?_

end Cert.Attn.Keep

end
-- ==== Proof.AttnBody.lean ====
/-
  The attention's body gives back what it is run from: its top-level stretches in turn, then the body itself.
-/
module

public import proofs.«01_k».proof.Proof.AttnPartsA
public import proofs.«01_k».proof.Proof.AttnPartsB
public import proofs.«01_k».proof.Proof.AttnPartsC

@[expose] public section

noncomputable section

namespace Cert.Attn.Keep

open Cert.Attn
open Idealize.ShloMosaic Idealize.ShloMosaic.TcCoe Idealize.ShloMosaic.Tactic
open Idealize.SL Idealize.SL.RA Idealize.SL.BI
open scoped Idealize.SL.BI
open Idealize.SL.Sem
open Idealize.ShloMosaic.Rounds

variable {F : FTy → Type} [BitOps F]

variable {c : Dev nD} {R : sProp (MT nD τ sig Unit (Elt F) ℕ (UR sig nD τ) ℕ)}
variable {i : grid0.Coords}
  {arg2 : Memref sig .tc .vmem S4x256x128 .bf16} {harg2 : arg2.IsWhole}
  {arg3 : Memref sig .tc .vmem S4x4096x128 .bf16} {harg3 : arg3.IsWhole}
  {arg4 : Memref sig .tc .vmem S8x512x512 .bf16} {harg4 : arg4.IsWhole}
  {arg5 : Memref sig .tc .vmem S4x256x128 .bf16} {harg5 : arg5.IsWhole}
  {arg6 : Memref sig .tc .vmem S4096x128 .bf16} {harg6 : arg6.IsWhole}
  {arg7 : Memref sig .tc .vmem S16x256 .f32} {harg7 : arg7.IsWhole}
  {arg8 : Memref sig .tc .vmem S256x512 .bf16} {harg8 : arg8.IsWhole}
  {arg9 : Memref sig .tc .vmem S8x256x128 .bf16} {harg9 : arg9.IsWhole}
  {arg10 : Memref sig .tc .vmem S2048x128 .bf16} {harg10 : arg10.IsWhole}
  {arg11 : Memref sig .tc .vmem S4096x256 .f32} {harg11 : arg11.IsWhole}
  {arg12 : Memref sig .tc .vmem S4096x256 .i16} {harg12 : arg12.IsWhole}
  {arg13 : Memref sig .tc .vmem S4096x256 .i16} {harg13 : arg13.IsWhole}
  {arg14 : Memref sig .tc .vmem S512x2048 .f32} {harg14 : arg14.IsWhole}
  {arg15 : Memref sig .tc .vmem S8x1x256 .f32} {harg15 : arg15.IsWhole}
  {arg16 : Memref sig .tc .vmem S8x1x256 .f32} {harg16 : arg16.IsWhole}
  {arg17 : Memref sig .tc .vmem S512x256 .f32} {harg17 : arg17.IsWhole}
  {arg18 : Memref sig .tc .vmem S8x512x256 .f32} {harg18 : arg18.IsWhole}
  {arg19 : Memref sig .tc .vmem S8x512x256 .f32} {harg19 : arg19.IsWhole}
  {arg20 : Memref sig .tc .vmem S8x512x256 .bf16} {harg20 : arg20.IsWhole}
variable [Reads c R arg2] [Reads c R arg3] [Reads c R arg4] [Reads c R arg5] [Reads c R arg6] [Reads c R arg7]
  [Writes c R arg8] [Writes c R arg9] [Writes c R arg10] [Writes c R arg11] [Writes c R arg12] [Writes c R arg13] [Writes c R arg14]
  [Writes c R arg15] [Writes c R arg16] [Writes c R arg17] [Writes c R arg18] [Writes c R arg19] [Writes c R arg20]

theorem part167  :
    Restores c R (k0_part167 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) := by
  unfold k0_part167
  repeat first
    | with_reducible exact keeps_load
    | with_reducible exact keeps_pure _
    | refine keeps_bind ?_ fun _ => ?_

theorem part168 (v28 : IVec S256x128 1) (v31 : FVec F S256x128 .f32) (v37 : FVec F S1x256x128 .bf16) :
    Restores c R (k0_part168 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v28 v31 v37) := by
  unfold k0_part168
  repeat first
    | with_reducible exact keeps_load
    | with_reducible exact keeps_store
    | with_reducible exact keeps_pure _
    | refine keeps_bind ?_ fun _ => ?_

theorem part169 (v28 : IVec S256x128 1) (v70 : FVec F S256x128 .bf16) :
    Restores c R (k0_part169 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v28 v70) := by
  unfold k0_part169
  repeat first
    | with_reducible exact keeps_load
    | with_reducible exact keeps_store
    | with_reducible exact keeps_pure _
    | refine keeps_bind ?_ fun _ => ?_

theorem part170 (v28 : IVec S256x128 1) :
    Restores c R (k0_part170 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v28) := by
  unfold k0_part170
  repeat first
    | with_reducible exact keeps_load
    | with_reducible exact keeps_store
    | with_reducible exact keeps_pure _
    | refine keeps_bind ?_ fun _ => ?_

theorem part171 (v20 : BitVec 32) (v28 : IVec S256x128 1) (v136 : FVec F S256x128 .f32) :
    Restores c R (k0_part171 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v20 v28 v136) := by
  unfold k0_part171
  repeat first
    | with_reducible exact part18 _ _ _
    | with_reducible exact part36 _ _ _
    | with_reducible exact keeps_load
    | with_reducible exact keeps_store
    | with_reducible refine keeps_for fun _ _ => ?_
    | with_reducible exact keeps_pure _
    | refine keeps_bind ?_ fun _ => ?_

theorem part172 (v168 : FVec F S512x128 .bf16) :
    Restores c R (k0_part172 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v168) := by
  unfold k0_part172
  repeat first
    | with_reducible exact keeps_load
    | with_reducible exact keeps_store
    | with_reducible exact keeps_pure _
    | refine keeps_bind ?_ fun _ => ?_

theorem part173  :
    Restores c R (k0_part173 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) := by
  unfold k0_part173
  repeat first
    | with_reducible exact keeps_load
    | with_reducible exact keeps_store
    | with_reducible exact keeps_pure _
    | refine keeps_bind ?_ fun _ => ?_

theorem part174 (c0_i32_145 : BitVec 32) :
    Restores c R (k0_part174 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_145) := by
  unfold k0_part174
  repeat first
    | with_reducible exact keeps_load
    | with_reducible exact keeps_store
    | with_reducible exact keeps_pure _
    | refine keeps_bind ?_ fun _ => ?_

theorem part175 (v250 : FVec F S64x256 .f32) (v251 : Vec F S1x256 .f32) (v252 : Vec F S64x256 .f32) (v253 : FVec F S64x256 .f32) :
    Restores c R (k0_part175 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v250 v251 v252 v253) := by
  unfold k0_part175
  repeat first
    | with_reducible exact keeps_load
    | with_reducible exact keeps_pure _
    | refine keeps_bind ?_ fun _ => ?_

theorem part176 (v25 : IVec S1x256 32) (v157 : BitVec 32) (v285 : FVec F S64x256 .f32) (v286 : Vec F S1x256 .f32) (v287 : Vec F S64x256 .f32) (v288 : FVec F S64x256 .f32) :
    Restores c R (k0_part176 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v25 v157 v285 v286 v287 v288) := by
  unfold k0_part176
  repeat first
    | with_reducible exact keeps_load
    | with_reducible exact keeps_store
    | with_reducible exact keeps_pure _
    | refine keeps_bind ?_ fun _ => ?_

theorem part177 (v329 : IVec S64x256 16) :
    Restores c R (k0_part177 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v329) := by
  unfold k0_part177
  repeat first
    | with_reducible exact keeps_load
    | with_reducible exact keeps_store
    | with_reducible exact keeps_pure _
    | refine keeps_bind ?_ fun _ => ?_

theorem part178 (v25 : IVec S1x256 32) (v157 : BitVec 32) (v360 : FVec F S64x256 .f32) (v361 : Vec F S1x256 .f32) (v364 : FVec F S64x256 .f32) :
    Restores c R (k0_part178 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v25 v157 v360 v361 v364) := by
  unfold k0_part178
  repeat first
    | with_reducible exact keeps_load
    | with_reducible exact keeps_store
    | with_reducible exact keeps_pure _
    | refine keeps_bind ?_ fun _ => ?_

theorem part179 (v397 : BitVec 32) (v402 : IVec S64x256 32) (c31_i32_256 : BitVec 32) :
    Restores c R (k0_part179 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v397 v402 c31_i32_256) := by
  unfold k0_part179
  repeat first
    | with_reducible exact keeps_load
    | with_reducible exact keeps_store
    | with_reducible exact keeps_pure _
    | refine keeps_bind ?_ fun _ => ?_

theorem part180 (v435 : FVec F S64x256 .f32) (v439 : FVec F S64x256 .f32) (v440 : FVec F S64x256 .f32) :
    Restores c R (k0_part180 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v435 v439 v440) := by
  unfold k0_part180
  repeat first
    | with_reducible exact keeps_load
    | with_reducible exact keeps_pure _
    | refine keeps_bind ?_ fun _ => ?_

theorem part181 (v25 : IVec S1x256 32) (v157 : BitVec 32) (v470 : FVec F S64x256 .f32) (v474 : FVec F S64x256 .f32) (v475 : FVec F S64x256 .f32) :
    Restores c R (k0_part181 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v25 v157 v470 v474 v475) := by
  unfold k0_part181
  repeat first
    | with_reducible exact keeps_load
    | with_reducible exact keeps_store
    | with_reducible exact keeps_pure _
    | refine keeps_bind ?_ fun _ => ?_

theorem part182 (v515 : FVec F S64x256 .f32) (v516 : FVec F S64x256 .f32) :
    Restores c R (k0_part182 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v515 v516) := by
  unfold k0_part182
  repeat first
    | with_reducible exact keeps_load
    | with_reducible exact keeps_pure _
    | refine keeps_bind ?_ fun _ => ?_

theorem part183 (v25 : IVec S1x256 32) (v157 : BitVec 32) (v545 : FVec F S64x256 .f32) (v551 : FVec F S64x256 .f32) :
    Restores c R (k0_part183 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v25 v157 v545 v551) := by
  unfold k0_part183
  repeat first
    | with_reducible exact keeps_load
    | with_reducible exact keeps_store
    | with_reducible exact keeps_pure _
    | refine keeps_bind ?_ fun _ => ?_

theorem part184 (v575 : BitVec 32) (v586 : IVec S64x256 32) (v589 : IVec S64x256 16) (v591 : Vec F S64x256 .i16) :
    Restores c R (k0_part184 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v575 v586 v589 v591) := by
  unfold k0_part184
  repeat first
    | with_reducible exact keeps_load
    | with_reducible exact keeps_store
    | with_reducible exact keeps_pure _
    | refine keeps_bind ?_ fun _ => ?_

theorem part185 (v25 : IVec S1x256 32) (v157 : BitVec 32) (v627 : FVec F S64x256 .f32) :
    Restores c R (k0_part185 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v25 v157 v627) := by
  unfold k0_part185
  repeat first
    | with_reducible exact keeps_load
    | with_reducible exact keeps_pure _
    | refine keeps_bind ?_ fun _ => ?_

theorem part186 (v157 : BitVec 32) (v663 : FVec F S64x256 .f32) (c256_i32_403 : BitVec 32) :
    Restores c R (k0_part186 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v157 v663 c256_i32_403) := by
  unfold k0_part186
  repeat first
    | with_reducible exact keeps_load
    | with_reducible exact keeps_store
    | with_reducible exact keeps_pure _
    | refine keeps_bind ?_ fun _ => ?_

theorem part187 (v702 : FVec F S64x256 .f32) :
    Restores c R (k0_part187 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v702) := by
  unfold k0_part187
  repeat first
    | with_reducible exact keeps_load
    | with_reducible exact keeps_pure _
    | refine keeps_bind ?_ fun _ => ?_

theorem part188 (v25 : IVec S1x256 32) (v157 : BitVec 32) (v737 : FVec F S64x256 .f32) :
    Restores c R (k0_part188 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v25 v157 v737) := by
  unfold k0_part188
  repeat first
    | with_reducible exact keeps_load
    | with_reducible exact keeps_store
    | with_reducible exact keeps_pure _
    | refine keeps_bind ?_ fun _ => ?_

theorem part189  :
    Restores c R (k0_part189 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) := by
  unfold k0_part189
  repeat first
    | with_reducible exact keeps_load
    | with_reducible exact keeps_pure _
    | refine keeps_bind ?_ fun _ => ?_

theorem part190 (v25 : IVec S1x256 32) (v157 : BitVec 32) (v812 : FVec F S64x256 .f32) :
    Restores c R (k0_part190 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v25 v157 v812) := by
  unfold k0_part190
  repeat first
    | with_reducible exact keeps_load
    | with_reducible exact keeps_store
    | with_reducible exact keeps_pure _
    | refine keeps_bind ?_ fun _ => ?_

theorem part191 (v842 : BitVec 32) (v847 : IVec S64x256 32) (v849 : IVec S64x256 32) (v851 : IVec S64x256 32) :
    Restores c R (k0_part191 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v842 v847 v849 v851) := by
  unfold k0_part191
  repeat first
    | with_reducible exact keeps_load
    | with_reducible exact keeps_store
    | with_reducible exact keeps_pure _
    | refine keeps_bind ?_ fun _ => ?_

theorem part192 (v157 : BitVec 32) (v887 : FVec F S64x256 .f32) (v888 : Vec F S1x256 .f32) :
    Restores c R (k0_part192 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v157 v887 v888) := by
  unfold k0_part192
  repeat first
    | with_reducible exact keeps_load
    | with_reducible exact keeps_pure _
    | refine keeps_bind ?_ fun _ => ?_

theorem part193 (v20 : BitVec 32) (v25 : IVec S1x256 32) (v157 : BitVec 32) (v922 : FVec F S64x256 .f32) (v923 : BitVec 32) (c6_i32_548 : BitVec 32) :
    Restores c R (k0_part193 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v20 v25 v157 v922 v923 c6_i32_548) := by
  unfold k0_part193
  repeat first
    | with_reducible exact keeps_load
    | with_reducible exact keeps_store
    | with_reducible exact keeps_pure _
    | refine keeps_bind ?_ fun _ => ?_

theorem part194 (v20 : BitVec 32) (v960 : IVec S1x256 32) (v962 : IVec S1x256 1) (v964 : IVec S1x256 32) (v965 : IVec S1x256 32) (c0_i32_562 : BitVec 32) :
    Restores c R (k0_part194 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v20 v960 v962 v964 v965 c0_i32_562) := by
  unfold k0_part194
  repeat first
    | with_reducible exact part37 _ _ _ _ _
    | with_reducible exact part38 _ _ _ _ _
    | with_reducible exact part39 _ _ _ _ _
    | with_reducible exact part40 _ _ _ _ _
    | with_reducible exact keeps_load
    | with_reducible exact keeps_store
    | with_reducible refine keeps_for fun _ _ => ?_
    | with_reducible exact keeps_pure _
    | refine keeps_bind ?_ fun _ => ?_

theorem part195 (v20 : BitVec 32) (v992 : FVec F S1x256 .f32) (v1001 : FVec F S1x1x256 .f32) :
    Restores c R (k0_part195 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v20 v992 v1001) := by
  unfold k0_part195
  repeat first
    | with_reducible exact part41 _ _ _ _
    | with_reducible exact part42 _ _ _ _ _ _ _ _ _ _ _ _ _ _ _ _ _ _ _ _ _ _ _ _ _ _ _ _ _ _ _ _ _ _ _ _ _ _ _ _ _ _ _ _ _ _ _
    | with_reducible exact part43 _ _ _ _
    | with_reducible exact part44 _ _ _ _ _ _ _ _ _ _ _ _ _ _ _ _ _ _ _ _ _ _ _ _ _ _ _ _ _ _ _ _ _ _ _ _ _ _ _ _ _ _ _ _ _ _ _
    | with_reducible exact part105 _ _ _ _ _ _
    | with_reducible exact part166 _ _ _ _ _ _
    | with_reducible exact keeps_load
    | with_reducible exact keeps_store
    | with_reducible refine keeps_for fun _ _ => ?_
    | with_reducible refine keeps_ite ?_ ?_
    | with_reducible exact keeps_pure _
    | refine keeps_bind ?_ fun _ => ?_

theorem part196 (v1030 : FVec F S64x256 .f32) :
    Restores c R (k0_part196 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1030) := by
  unfold k0_part196
  repeat first
    | with_reducible exact keeps_load
    | with_reducible exact keeps_store
    | with_reducible exact keeps_pure _
    | refine keeps_bind ?_ fun _ => ?_

theorem part197 (v1058 : Vec F S64x256 .f32) :
    Restores c R (k0_part197 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1058) := by
  unfold k0_part197
  repeat first
    | with_reducible exact keeps_load
    | with_reducible exact keeps_store
    | with_reducible exact keeps_pure _
    | refine keeps_bind ?_ fun _ => ?_

set_option maxHeartbeats 8000000 in
theorem attn  :
    Restores c R (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) := by
  unfold cc0_attn
  repeat first
    | with_reducible exact part167
    | with_reducible exact part168 _ _ _
    | with_reducible exact part169 _ _
    | with_reducible exact part170 _
    | with_reducible exact part171 _ _ _
    | with_reducible exact part172 _
    | with_reducible exact part173
    | with_reducible exact part174 _
    | with_reducible exact part175 _ _ _ _
    | with_reducible exact part176 _ _ _ _ _ _
    | with_reducible exact part177 _
    | with_reducible exact part178 _ _ _ _ _
    | with_reducible exact part179 _ _ _
    | with_reducible exact part180 _ _ _
    | with_reducible exact part181 _ _ _ _ _
    | with_reducible exact part182 _ _
    | with_reducible exact part183 _ _ _ _
    | with_reducible exact part184 _ _ _ _
    | with_reducible exact part185 _ _ _
    | with_reducible exact part186 _ _ _
    | with_reducible exact part187 _
    | with_reducible exact part188 _ _ _
    | with_reducible exact part189
    | with_reducible exact part190 _ _ _
    | with_reducible exact part191 _ _ _ _
    | with_reducible exact part192 _ _ _
    | with_reducible exact part193 _ _ _ _ _ _
    | with_reducible exact part194 _ _ _ _ _ _
    | with_reducible exact part195 _ _ _
    | with_reducible exact part196 _
    | with_reducible exact part197 _
    | with_reducible exact keeps_load
    | with_reducible exact keeps_store
    | with_reducible exact keeps_pure _
    | refine keeps_bind ?_ fun _ => ?_

end Cert.Attn.Keep

end
-- ==== Proof.AttnFrame.lean ====
/-
  The attention's frame: its call ends, with its inputs unchanged and no semaphore left counting. Nothing is said of what it
  computes, so the window it writes is handed back at whatever it holds; the body gives back what it is run from.
-/
module

public import proofs.«01_k».proof.Proof.AttnBody
public import proofs.«01_k».proof.Proof.Gen.Attn.Frame

@[expose] public section

noncomputable section

namespace Cert.Attn.Keep

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [BitOps F]

local notation "𝕄" => MT nD τ sig Unit (Elt F) ℕ (UR sig nD τ) ℕ

/-! ## The body, on what it is called with -/

/-- What the body touches: its six inputs at the contents given, its output and its twelve scratches at some, beside what it
    does not touch. -/
def touched (c : Dev nD)
    (arg2 : Memref sig .tc .vmem S4x256x128 .bf16)
    (arg3 : Memref sig .tc .vmem S4x4096x128 .bf16)
    (arg4 : Memref sig .tc .vmem S8x512x512 .bf16)
    (arg5 : Memref sig .tc .vmem S4x256x128 .bf16)
    (arg6 : Memref sig .tc .vmem S4096x128 .bf16)
    (arg7 : Memref sig .tc .vmem S16x256 .f32)
    (arg8 : Memref sig .tc .vmem S256x512 .bf16)
    (arg9 : Memref sig .tc .vmem S8x256x128 .bf16)
    (arg10 : Memref sig .tc .vmem S2048x128 .bf16)
    (arg11 : Memref sig .tc .vmem S4096x256 .f32)
    (arg12 : Memref sig .tc .vmem S4096x256 .i16)
    (arg13 : Memref sig .tc .vmem S4096x256 .i16)
    (arg14 : Memref sig .tc .vmem S512x2048 .f32)
    (arg15 : Memref sig .tc .vmem S8x1x256 .f32)
    (arg16 : Memref sig .tc .vmem S8x1x256 .f32)
    (arg17 : Memref sig .tc .vmem S512x256 .f32)
    (arg18 : Memref sig .tc .vmem S8x512x256 .f32)
    (arg19 : Memref sig .tc .vmem S8x512x256 .f32)
    (arg20 : Memref sig .tc .vmem S8x512x256 .bf16)
    (X2 : Shape.Idx S4x256x128 → Elt F .bf16) (X3 : Shape.Idx S4x4096x128 → Elt F .bf16) (X4 : Shape.Idx S8x512x512 → Elt F .bf16) (X5 : Shape.Idx S4x256x128 → Elt F .bf16) (X6 : Shape.Idx S4096x128 → Elt F .bf16) (X7 : Shape.Idx S16x256 → Elt F .f32)
    (P : sProp 𝕄) : sProp 𝕄 :=
  iprop(owns (c : Thread nD τ) arg2 fullShare X2
    ∗ owns (c : Thread nD τ) arg3 fullShare X3
    ∗ owns (c : Thread nD τ) arg4 fullShare X4
    ∗ owns (c : Thread nD τ) arg5 fullShare X5
    ∗ owns (c : Thread nD τ) arg6 fullShare X6
    ∗ owns (c : Thread nD τ) arg7 fullShare X7
    ∗ held c arg8
    ∗ held c arg9
    ∗ held c arg10
    ∗ held c arg11
    ∗ held c arg12
    ∗ held c arg13
    ∗ held c arg14
    ∗ held c arg15
    ∗ held c arg16
    ∗ held c arg17
    ∗ held c arg18
    ∗ held c arg19
    ∗ held c arg20
    ∗ P)

theorem keeps_attn (c : Dev nD) (i : grid0.Coords)
    (arg2 : Memref sig .tc .vmem S4x256x128 .bf16) (harg2 : arg2.IsWhole)
    (arg3 : Memref sig .tc .vmem S4x4096x128 .bf16) (harg3 : arg3.IsWhole)
    (arg4 : Memref sig .tc .vmem S8x512x512 .bf16) (harg4 : arg4.IsWhole)
    (arg5 : Memref sig .tc .vmem S4x256x128 .bf16) (harg5 : arg5.IsWhole)
    (arg6 : Memref sig .tc .vmem S4096x128 .bf16) (harg6 : arg6.IsWhole)
    (arg7 : Memref sig .tc .vmem S16x256 .f32) (harg7 : arg7.IsWhole)
    (arg8 : Memref sig .tc .vmem S256x512 .bf16) (harg8 : arg8.IsWhole)
    (arg9 : Memref sig .tc .vmem S8x256x128 .bf16) (harg9 : arg9.IsWhole)
    (arg10 : Memref sig .tc .vmem S2048x128 .bf16) (harg10 : arg10.IsWhole)
    (arg11 : Memref sig .tc .vmem S4096x256 .f32) (harg11 : arg11.IsWhole)
    (arg12 : Memref sig .tc .vmem S4096x256 .i16) (harg12 : arg12.IsWhole)
    (arg13 : Memref sig .tc .vmem S4096x256 .i16) (harg13 : arg13.IsWhole)
    (arg14 : Memref sig .tc .vmem S512x2048 .f32) (harg14 : arg14.IsWhole)
    (arg15 : Memref sig .tc .vmem S8x1x256 .f32) (harg15 : arg15.IsWhole)
    (arg16 : Memref sig .tc .vmem S8x1x256 .f32) (harg16 : arg16.IsWhole)
    (arg17 : Memref sig .tc .vmem S512x256 .f32) (harg17 : arg17.IsWhole)
    (arg18 : Memref sig .tc .vmem S8x512x256 .f32) (harg18 : arg18.IsWhole)
    (arg19 : Memref sig .tc .vmem S8x512x256 .f32) (harg19 : arg19.IsWhole)
    (arg20 : Memref sig .tc .vmem S8x512x256 .bf16) (harg20 : arg20.IsWhole)
    (X2 : Shape.Idx S4x256x128 → Elt F .bf16) (X3 : Shape.Idx S4x4096x128 → Elt F .bf16) (X4 : Shape.Idx S8x512x512 → Elt F .bf16) (X5 : Shape.Idx S4x256x128 → Elt F .bf16) (X6 : Shape.Idx S4096x128 → Elt F .bf16) (X7 : Shape.Idx S16x256 → Elt F .f32)
    (P : sProp 𝕄) :
    Restores c (touched c arg2 arg3 arg4 arg5 arg6 arg7 arg8 arg9 arg10 arg11 arg12 arg13 arg14 arg15 arg16 arg17 arg18 arg19 arg20 X2 X3 X4 X5 X6 X7 P)
      (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) := by
  unfold touched
  exact attn

/-! ## The windows' contents -/

variable (m : (ℓ : Loc nD τ sig) → Buf (Elt F) ℓ) (ρ : Dev nD → PrngReg)

/-- The window whose contents after the body are not described: the output's. -/
def unread : Fin 7 → Bool
  | ⟨6, _⟩ => true
  | _ => false

/-- The call's arrays as it finds them, each input's buffer left at its block. -/
def kept (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ _ := Pipeline.ΦA spec0 c
  q _ := fullShare
  owed _ := 0

theorem kept_arrays (c : Dev nD) (w : Fin cfg0.W) : (kept m 0 c).A w = V m c (Pipeline.arrRef spec0 w) := by
  dsimp only [kept]

theorem kept_after0 (c : Dev nD) (t : Fin cfg0.N) : (kept m 0 c).after 0 t = iblk m c 0 t := by dsimp only [kept]
theorem kept_after1 (c : Dev nD) (t : Fin cfg0.N) : (kept m 0 c).after 1 t = iblk m c 1 t := by dsimp only [kept]
theorem kept_after2 (c : Dev nD) (t : Fin cfg0.N) : (kept m 0 c).after 2 t = iblk m c 2 t := by dsimp only [kept]
theorem kept_after3 (c : Dev nD) (t : Fin cfg0.N) : (kept m 0 c).after 3 t = iblk m c 3 t := by dsimp only [kept]
theorem kept_after4 (c : Dev nD) (t : Fin cfg0.N) : (kept m 0 c).after 4 t = iblk m c 4 t := by dsimp only [kept]
theorem kept_after5 (c : Dev nD) (t : Fin cfg0.N) : (kept m 0 c).after 5 t = iblk m c 5 t := by dsimp only [kept]

theorem kept_before0 (c : Dev nD) (t : Fin cfg0.N) (d) : (kept m 0 c).before 0 t d = iblk m c 0 t :=
  before0_0_of m (kept m 0 c) (kept_arrays m c 0) (kept_after0 m c) t d
theorem kept_before1 (c : Dev nD) (t : Fin cfg0.N) (d) : (kept m 0 c).before 1 t d = iblk m c 1 t :=
  before0_1_of m (kept m 0 c) (kept_arrays m c 1) (kept_after1 m c) t d
theorem kept_before2 (c : Dev nD) (t : Fin cfg0.N) (d) : (kept m 0 c).before 2 t d = iblk m c 2 t :=
  before0_2_of m (kept m 0 c) (kept_arrays m c 2) (kept_after2 m c) t d
theorem kept_before3 (c : Dev nD) (t : Fin cfg0.N) (d) : (kept m 0 c).before 3 t d = iblk m c 3 t :=
  before0_3_of m (kept m 0 c) (kept_arrays m c 3) (kept_after3 m c) t d
theorem kept_before4 (c : Dev nD) (t : Fin cfg0.N) (d) : (kept m 0 c).before 4 t d = iblk m c 4 t :=
  before0_4_of m (kept m 0 c) (kept_arrays m c 4) (kept_after4 m c) t d
theorem kept_before5 (c : Dev nD) (t : Fin cfg0.N) (d) : (kept m 0 c).before 5 t d = iblk m c 5 t :=
  before0_5_of m (kept m 0 c) (kept_arrays m c 5) (kept_after5 m c) t d

/-! ## The body at a point -/

/-- What the body is called with at a point, -/
def bodyIn (c : Dev nD) (t : Fin cfg0.N) : sProp 𝕄 :=
  iprop((kept m 0 c).Φ t.castSucc ∗ (kept m 0 c).owesAt () t.castSucc
    ∗ (∃ d, owns (c : Thread nD τ) (st0_0 t) fullShare ((kept m 0 c).before 0 t d))
    ∗ (∃ d, owns (c : Thread nD τ) (st0_1 t) fullShare ((kept m 0 c).before 1 t d))
    ∗ (∃ d, owns (c : Thread nD τ) (st0_2 t) fullShare ((kept m 0 c).before 2 t d))
    ∗ (∃ d, owns (c : Thread nD τ) (st0_3 t) fullShare ((kept m 0 c).before 3 t d))
    ∗ (∃ d, owns (c : Thread nD τ) (st0_4 t) fullShare ((kept m 0 c).before 4 t d))
    ∗ (∃ d, owns (c : Thread nD τ) (st0_5 t) fullShare ((kept m 0 c).before 5 t d))
    ∗ (∃ X, owns (c : Thread nD τ) (st0_6 t) fullShare X))

/-- and what it returns. -/
def bodyOut (c : Dev nD) (t : Fin cfg0.N) : sProp 𝕄 :=
  iprop((kept m 0 c).Φ t.succ ∗ (kept m 0 c).owesAt () t.succ
    ∗ owns (c : Thread nD τ) (st0_0 t) fullShare ((kept m 0 c).after 0 t)
    ∗ owns (c : Thread nD τ) (st0_1 t) fullShare ((kept m 0 c).after 1 t)
    ∗ owns (c : Thread nD τ) (st0_2 t) fullShare ((kept m 0 c).after 2 t)
    ∗ owns (c : Thread nD τ) (st0_3 t) fullShare ((kept m 0 c).after 3 t)
    ∗ owns (c : Thread nD τ) (st0_4 t) fullShare ((kept m 0 c).after 4 t)
    ∗ owns (c : Thread nD τ) (st0_5 t) fullShare ((kept m 0 c).after 5 t)
    ∗ (∃ X, owns (c : Thread nD τ) (st0_6 t) fullShare X))

/-- The twelve scratches, each owned at some contents. -/
def scratches (c : Dev nD) : sProp 𝕄 :=
  iprop(held c (Memref.whole cc0_scratch0)
    ∗ held c (Memref.whole cc0_scratch1)
    ∗ held c (Memref.whole cc0_scratch2)
    ∗ held c (Memref.whole cc0_scratch3)
    ∗ held c (Memref.whole cc0_scratch4)
    ∗ held c (Memref.whole cc0_scratch5)
    ∗ held c (Memref.whole cc0_scratch6)
    ∗ held c (Memref.whole cc0_scratch7)
    ∗ held c (Memref.whole cc0_scratch8)
    ∗ held c (Memref.whole cc0_scratch9)
    ∗ held c (Memref.whole cc0_scratch10)
    ∗ held c (Memref.whole cc0_scratch11))

theorem scratches_eq (c : Dev nD) :
    (Pipeline.scopedRest (Ix := Unit) (Name := ℕ) (U := UR sig nD τ) (Lvl := ℕ) (Val := Elt F) spec0 c : sProp 𝕄) = scratches c := by
  rw [scopedRest0_eq]
  unfold scratches
  simp only [held, owns_whole]

theorem body_runs (c : Dev nD) (t : Fin cfg0.N) :
    bodyIn m c t ⊢ wp frame (wpE (defs₀ (F := F)) Variants.none (c : Thread nD τ) none) Set.univ (bodyAt0 t) (fun _ => bodyOut m c t) := by
  have key := keeps_attn (F := F) c (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (Memref.whole cc0_scratch0) (Memref.isWhole_whole _)
    (Memref.whole cc0_scratch1) (Memref.isWhole_whole _)
    (Memref.whole cc0_scratch2) (Memref.isWhole_whole _)
    (Memref.whole cc0_scratch3) (Memref.isWhole_whole _)
    (Memref.whole cc0_scratch4) (Memref.isWhole_whole _)
    (Memref.whole cc0_scratch5) (Memref.isWhole_whole _)
    (Memref.whole cc0_scratch6) (Memref.isWhole_whole _)
    (Memref.whole cc0_scratch7) (Memref.isWhole_whole _)
    (Memref.whole cc0_scratch8) (Memref.isWhole_whole _)
    (Memref.whole cc0_scratch9) (Memref.isWhole_whole _)
    (Memref.whole cc0_scratch10) (Memref.isWhole_whole _)
    (Memref.whole cc0_scratch11) (Memref.isWhole_whole _)
    (iblk m c 0 t) (iblk m c 1 t) (iblk m c 2 t) (iblk m c 3 t) (iblk m c 4 t) (iblk m c 5 t)
    iprop((∃ r, prngReg c r) ∗ (kept m 0 c).owesAt () t.castSucc)
  unfold Restores at key
  unfold bodyIn bodyOut bodyAt0
  simp only [kept_before0, kept_before1, kept_before2, kept_before3, kept_before4, kept_before5]
  rw [show (kept m 0 c).Φ t.succ = (kept m 0 c).Φ t.castSucc from rfl,
    show (kept m 0 c).owesAt () t.succ = (kept m 0 c).owesAt () t.castSucc from rfl,
    kept_after0, kept_after1, kept_after2, kept_after3, kept_after4, kept_after5,
    show (kept m 0 c).Φ t.castSucc = iprop(Pipeline.scopedRest (Ix := Unit) (Name := ℕ) (U := UR sig nD τ) (Lvl := ℕ) (Val := Elt F) spec0 c
      ∗ ∃ r, prngReg c r) from rfl, scratches_eq]
  refine BIBase.Entails.trans ?_ (key.trans (wp_mono _ _ _ fun _ => ?_))
  · unfold touched scratches held
    iintro ⟨⟨⟨S0, S1, S2, S3, S4, S5, S6, S7, S8, S9, S10, S11⟩, Hr⟩, Ho, ⟨%d0, H0⟩, ⟨%d1, H1⟩, ⟨%d2, H2⟩, ⟨%d3, H3⟩, ⟨%d4, H4⟩, ⟨%d5, H5⟩, H6⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [Hr]; · iexact Hr
    iexact Ho
  · unfold touched scratches held
    iintro ⟨H0, H1, H2, H3, H4, H5, H6, S0, S1, S2, S3, S4, S5, S6, S7, S8, S9, S10, S11, Hr, Ho⟩
    isplitl [S0 S1 S2 S3 S4 S5 S6 S7 S8 S9 S10 S11 Hr]
    · isplitl [S0 S1 S2 S3 S4 S5 S6 S7 S8 S9 S10 S11]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        isplitl [S10]; · iexact S10
        iexact S11
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem body_row (t : Fin cfg0.N) :
    defs₀ (F := F) .tc cfg0.body (cfg0.bodyArgs t (cfg0.slots t)) = bodyAt0 t := by
  unfold defs₀; rw [Defs.onTc_tc]

theorem body_keeps (c : Dev nD) : BodyObligation (kept (F := F) m 0 c) (defs₀ (F := F)) Variants.none () Set.univ unread := fun t => by
  rw [bigSep_W0, bigSep_W0, body_row]
  exact triple_restated (body_runs m c t) rfl .rfl fun _ => .rfl

/-! ## The run -/

set_option backward.isDefEq.respectTransparency.types false in
set_option maxHeartbeats 800000 in
theorem attn_run : θ_run defs (onTc (τ := τ) (main (F := F))) (s₀ m ρ)
    (fun r => Pipeline.RDat.FramePost (cfgs 0) (fun c => (kept m 0 c).toRForget unread) (V m) r ∧ r.2.sem = fun _ => 0) :=
  Pipeline.θ_run_frame_forget (Q' := _) cfgs (kept m) (0 : Fin 1) launch0 defs₀ Variants.none unread m ρ main
    (hbody := fun c => (body_keeps m c).loose) (hshare := fun c => (kept m 0 c).share_full fun _ => rfl)
    (howed := fun _ _ => rfl) (V := V m) (hmain := hmain m Variants.none) (hA := kept_arrays m) (hΦ := fun _ _ => rfl)

/-- The attention's frame. -/
theorem attn_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨(h.1.arr_in c 0 rfl).trans ((kept_arrays m c 0).trans (V_main_arg0 m c)),
     (h.1.arr_in c 1 rfl).trans ((kept_arrays m c 1).trans (V_main_arg1 m c)),
     (h.1.arr_in c 2 rfl).trans ((kept_arrays m c 2).trans (V_main_arg2 m c)),
     (h.1.arr_in c 3 rfl).trans ((kept_arrays m c 3).trans (V_main_arg3 m c)),
     (h.1.arr_in c 4 rfl).trans ((kept_arrays m c 4).trans (V_main_arg4 m c)),
     (h.1.arr_in c 5 rfl).trans ((kept_arrays m c 5).trans (V_main_arg5 m c))⟩, h.2⟩) (attn_run m ρ)

end Cert.Attn.Keep

end
-- ==== Proof.lean ====
/-
  The projection call and the call after the attention run to their ends and keep their arguments, and every result of
  theirs is the reference's. The attention's call runs to its end and keeps its arguments.
-/
module

public import proofs.«01_k».proof.Defs
public import proofs.«01_k».proof.Proof.Gen.Proj.Frame
public import proofs.«01_k».proof.Proof.Gen.ProjIdeal.Frame
public import proofs.«01_k».proof.Proof.Gen.Pre_finite_pool_inputs
public import proofs.«01_k».proof.Proof.ProjClaim
public import proofs.«01_k».proof.Proof.Gen.Post.Frame
public import proofs.«01_k».proof.Proof.Gen.PostIdeal.Frame
public import proofs.«01_k».proof.Proof.PostClaim
public import proofs.«01_k».proof.Proof.AttnFrame
public import Idealize.ShloMosaic.Adequacy
public import Idealize.ShloMosaic.Init

@[expose] public section

noncomputable section

namespace Cert.Proof

open Idealize.ShloMosaic Idealize.SL.Sem

theorem claim : Cert.Claim :=
  ⟨Cert.Proj.Gen.facts, Cert.ProjIdeal.Gen.facts, Cert.ProjRefIdeal.Gen.facts, Cert.Post.Gen.facts,
    Cert.PostIdeal.Gen.facts, Cert.PostRefIdeal.Gen.facts, Cert.Attn.Gen.facts, Cert.Pre_finite_pool_inputs.Gen.facts,
    fun m ρ _ => Cert.Proj.Gen.frame m ρ, fun m ρ _ => Cert.ProjIdeal.Gen.frame m ρ, fun m ρ _ => Cert.ProjIdeal.Gen.frame m ρ,
    Cert.ProjClaim.frame_ref, Cert.ProjClaim.frame_ref_pre,
    fun m ρ _ => Cert.Post.Gen.frame m ρ, fun m ρ _ => Cert.PostIdeal.Gen.frame m ρ, Cert.PostClaim.frame_ref,
    fun m ρ _ => Cert.Attn.Keep.attn_frame m ρ,
    trivial, Cert.ProjClaim.algebraic, trivial, Cert.PostClaim.algebraic⟩

end Cert.Proof

end
